-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14)
      ∧ r.2.mem ((c.tc : Thread Cert.PostReferenceIdeal.nD Cert.PostReferenceIdeal.τ).loc Cert.PostReferenceIdeal.main_arg15) = m ((c.tc : Thread Cert.PostReferenceIdeal.nD Cert.PostReferenceIdeal.τ).loc Cert.PostReferenceIdeal.main_arg15))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v25) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)
      ∧ m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13)
      ∧ m' ((c.tc : Thread Cert.PostReferenceIdeal.nD Cert.PostReferenceIdeal.τ).loc Cert.PostReferenceIdeal.main_arg14) = m ((c.tc : Thread Cert.PostIdeal.nD Cert.PostIdeal.τ).loc Cert.PostIdeal.main_arg14)
      ∧ m' ((c.tc : Thread Cert.PostReferenceIdeal.nD Cert.PostReferenceIdeal.τ).loc Cert.PostReferenceIdeal.main_arg15) = m ((c.tc : Thread Cert.PostIdeal.nD Cert.PostIdeal.τ).loc Cert.PostIdeal.main_arg15)) →
    ∃ (v0 : (c : Dev Cert.PostIdeal.nD) → Buf (Elt Ideal) ((c.tc : Thread Cert.PostIdeal.nD Cert.PostIdeal.τ).loc Cert.PostIdeal.main_v34)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v34) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v67) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13)
          ∧ r.2.mem ((c.tc : Thread Cert.PostReferenceIdeal.nD Cert.PostReferenceIdeal.τ).loc Cert.PostReferenceIdeal.main_arg14) = m' ((c.tc : Thread Cert.PostReferenceIdeal.nD Cert.PostReferenceIdeal.τ).loc Cert.PostReferenceIdeal.main_arg14)
          ∧ r.2.mem ((c.tc : Thread Cert.PostReferenceIdeal.nD Cert.PostReferenceIdeal.τ).loc Cert.PostReferenceIdeal.main_arg15) = m' ((c.tc : Thread Cert.PostReferenceIdeal.nD Cert.PostReferenceIdeal.τ).loc Cert.PostReferenceIdeal.main_arg15))

def preserves_Inproj_InprojIdeal : Prop :=
  IdealRules.named_const.Statement Cert.InprojIdeal.κ "scale" .f32 0x3E38AA3B#32 (((8 * (Real.log 2))⁻¹ : ℝ) : EReal)

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v35_0)) (v1 : (c : Dev Cert.InprojIdeal.nD) → Buf (Elt Ideal) ((c.tc : Thread Cert.InprojIdeal.nD Cert.InprojIdeal.τ).loc Cert.InprojIdeal.main_v35_1)) (v2 : (c : Dev Cert.InprojIdeal.nD) → Buf (Elt Ideal) ((c.tc : Thread Cert.InprojIdeal.nD Cert.InprojIdeal.τ).loc Cert.InprojIdeal.main_v35_2)) (v3 : (c : Dev Cert.InprojIdeal.nD) → Buf (Elt Ideal) ((c.tc : Thread Cert.InprojIdeal.nD Cert.InprojIdeal.τ).loc Cert.InprojIdeal.main_v35_3)) (v4 : (c : Dev Cert.InprojIdeal.nD) → Buf (Elt Ideal) ((c.tc : Thread Cert.InprojIdeal.nD Cert.InprojIdeal.τ).loc Cert.InprojIdeal.main_v35_4)) (v5 : (c : Dev Cert.InprojIdeal.nD) → Buf (Elt Ideal) ((c.tc : Thread Cert.InprojIdeal.nD Cert.InprojIdeal.τ).loc Cert.InprojIdeal.main_v35_5)) (v6 : (c : Dev Cert.InprojIdeal.nD) → Buf (Elt Ideal) ((c.tc : Thread Cert.InprojIdeal.nD Cert.InprojIdeal.τ).loc Cert.InprojIdeal.main_v35_7)) (v7 : (c : Dev Cert.InprojIdeal.nD) → Buf (Elt Ideal) ((c.tc : Thread Cert.InprojIdeal.nD Cert.InprojIdeal.τ).loc Cert.InprojIdeal.main_v35_8)) (v8 : (c : Dev Cert.InprojIdeal.nD) → Buf (Elt Ideal) ((c.tc : Thread Cert.InprojIdeal.nD Cert.InprojIdeal.τ).loc Cert.InprojIdeal.main_v35_10)) (v9 : (c : Dev Cert.InprojIdeal.nD) → Buf (Elt Ideal) ((c.tc : Thread Cert.InprojIdeal.nD Cert.InprojIdeal.τ).loc Cert.InprojIdeal.main_v35_11)) (v10 : (c : Dev Cert.InprojIdeal.nD) → Buf (Elt Ideal) ((c.tc : Thread Cert.InprojIdeal.nD Cert.InprojIdeal.τ).loc Cert.InprojIdeal.main_v35_12)) (v11 : (c : Dev Cert.InprojIdeal.nD) → Buf (Elt Ideal) ((c.tc : Thread Cert.InprojIdeal.nD Cert.InprojIdeal.τ).loc Cert.InprojIdeal.main_v35_13)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v35_0) = v0 c
          ∧ r.2.mem ((c.tc : Thread Cert.InprojIdeal.nD Cert.InprojIdeal.τ).loc Cert.InprojIdeal.main_v35_1) = v1 c
          ∧ r.2.mem ((c.tc : Thread Cert.InprojIdeal.nD Cert.InprojIdeal.τ).loc Cert.InprojIdeal.main_v35_2) = v2 c
          ∧ r.2.mem ((c.tc : Thread Cert.InprojIdeal.nD Cert.InprojIdeal.τ).loc Cert.InprojIdeal.main_v35_3) = v3 c
          ∧ r.2.mem ((c.tc : Thread Cert.InprojIdeal.nD Cert.InprojIdeal.τ).loc Cert.InprojIdeal.main_v35_4) = v4 c
          ∧ r.2.mem ((c.tc : Thread Cert.InprojIdeal.nD Cert.InprojIdeal.τ).loc Cert.InprojIdeal.main_v35_5) = v5 c
          ∧ r.2.mem ((c.tc : Thread Cert.InprojIdeal.nD Cert.InprojIdeal.τ).loc Cert.InprojIdeal.main_v35_7) = v6 c
          ∧ r.2.mem ((c.tc : Thread Cert.InprojIdeal.nD Cert.InprojIdeal.τ).loc Cert.InprojIdeal.main_v35_8) = v7 c
          ∧ r.2.mem ((c.tc : Thread Cert.InprojIdeal.nD Cert.InprojIdeal.τ).loc Cert.InprojIdeal.main_v35_10) = v8 c
          ∧ r.2.mem ((c.tc : Thread Cert.InprojIdeal.nD Cert.InprojIdeal.τ).loc Cert.InprojIdeal.main_v35_11) = v9 c
          ∧ r.2.mem ((c.tc : Thread Cert.InprojIdeal.nD Cert.InprojIdeal.τ).loc Cert.InprojIdeal.main_v35_12) = v10 c
          ∧ r.2.mem ((c.tc : Thread Cert.InprojIdeal.nD Cert.InprojIdeal.τ).loc Cert.InprojIdeal.main_v35_13) = v11 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v155) = v0 c
          ∧ r.2.mem ((c.tc : Thread Cert.InprojReferenceIdeal.nD Cert.InprojReferenceIdeal.τ).loc Cert.InprojReferenceIdeal.main_v157) = v1 c
          ∧ r.2.mem ((c.tc : Thread Cert.InprojReferenceIdeal.nD Cert.InprojReferenceIdeal.τ).loc Cert.InprojReferenceIdeal.main_v158) = v2 c
          ∧ r.2.mem ((c.tc : Thread Cert.InprojReferenceIdeal.nD Cert.InprojReferenceIdeal.τ).loc Cert.InprojReferenceIdeal.main_v161) = v3 c
          ∧ r.2.mem ((c.tc : Thread Cert.InprojReferenceIdeal.nD Cert.InprojReferenceIdeal.τ).loc Cert.InprojReferenceIdeal.main_v165) = v4 c
          ∧ r.2.mem ((c.tc : Thread Cert.InprojReferenceIdeal.nD Cert.InprojReferenceIdeal.τ).loc Cert.InprojReferenceIdeal.main_v168) = v5 c
          ∧ r.2.mem ((c.tc : Thread Cert.InprojReferenceIdeal.nD Cert.InprojReferenceIdeal.τ).loc Cert.InprojReferenceIdeal.main_v172) = v6 c
          ∧ r.2.mem ((c.tc : Thread Cert.InprojReferenceIdeal.nD Cert.InprojReferenceIdeal.τ).loc Cert.InprojReferenceIdeal.main_v175) = v7 c
          ∧ r.2.mem ((c.tc : Thread Cert.InprojReferenceIdeal.nD Cert.InprojReferenceIdeal.τ).loc Cert.InprojReferenceIdeal.main_v177) = v8 c
          ∧ r.2.mem ((c.tc : Thread Cert.InprojReferenceIdeal.nD Cert.InprojReferenceIdeal.τ).loc Cert.InprojReferenceIdeal.main_v180) = v9 c
          ∧ r.2.mem ((c.tc : Thread Cert.InprojReferenceIdeal.nD Cert.InprojReferenceIdeal.τ).loc Cert.InprojReferenceIdeal.main_v188) = v10 c
          ∧ r.2.mem ((c.tc : Thread Cert.InprojReferenceIdeal.nD Cert.InprojReferenceIdeal.τ).loc Cert.InprojReferenceIdeal.main_v196) = v11 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPost : Cert.Post.Facts) (hPostIdeal : Cert.PostIdeal.Facts) (hPostReferenceIdeal : Cert.PostReferenceIdeal.Facts) (hInproj : Cert.Inproj.Facts) (hInprojIdeal : Cert.InprojIdeal.Facts) (hInprojReferenceIdeal : Cert.InprojReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Post (hPost := hPost)
    ∧ quiescent_PostIdeal (hPostIdeal := hPostIdeal)
    ∧ quiescent_PostReferenceIdeal (hPostReferenceIdeal := hPostReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Post_PostIdeal
    ∧ algebraic_PostIdeal_PostReferenceIdeal (hPostIdeal := hPostIdeal) (hPostReferenceIdeal := hPostReferenceIdeal)
    ∧ preserves_Inproj_InprojIdeal
    ∧ algebraic_InprojIdeal_InprojReferenceIdeal (hInprojIdeal := hInprojIdeal) (hInprojReferenceIdeal := hInprojReferenceIdeal)
-- ==== Pre_finite.lean ====
abbrev S8x4096x8x64 : Shape := ⟨4, ![8, 4096, 8, 64]⟩
abbrev S8x4096x2x64 : Shape := ⟨4, ![8, 4096, 2, 64]⟩
abbrev S8x4096x10x64 : Shape := ⟨4, ![8, 4096, 10, 64]⟩
abbrev S_ : Shape := ⟨0, ![]⟩

class Facts : Prop where
  concatenates_S8x4096x8x64_S8x4096x2x64_S8x4096x10x64_d2 : Shape.Concatenates [S8x4096x8x64, S8x4096x2x64] S8x4096x10x64 2
  bcast_S_S8x4096x10x64 : S_.BroadcastsInDim S8x4096x10x64 (![] : Fin 0 → Fin S8x4096x10x64.rank)

variable [Facts]

def fn {F : FTy → Type} [FloatOps F] (main_arg0 : FVec F S8x4096x8x64 .f32) (main_arg1 : FVec F S8x4096x2x64 .f32) (main_arg2 : FVec F S8x4096x2x64 .f32) : IVec S8x4096x10x64 1 :=
  let main_v0 : FVec F S8x4096x10x64 .f32 := (fun a b => concatenate S8x4096x10x64 2 [⟨S8x4096x8x64, a⟩, ⟨S8x4096x2x64, b⟩] concatenates_S8x4096x8x64_S8x4096x2x64_S8x4096x10x64_d2) main_arg0 main_arg1
  let main_v1 : FVec F S8x4096x10x64 .f32 := Host.absf main_v0
  let main_cst : FVec F S_ .f32 := constant S_ .f32 0x7F800000#32
  let main_v2 : FVec F S8x4096x10x64 .f32 := broadcastInDim S8x4096x10x64 ![] bcast_S_S8x4096x10x64 main_cst
  let main_v3 : IVec S8x4096x10x64 1 := cmpf .olt main_v1 main_v2
  main_v3
-- ==== Kernel.lean ====
abbrev S8x4096x8x64 : Shape := ⟨4, ![8, 4096, 8, 64]⟩
abbrev S8x4096x2x64 : Shape := ⟨4, ![8, 4096, 2, 64]⟩
abbrev S_ : Shape := ⟨0, ![]⟩
abbrev S8x16x256x2x4x64 : Shape := ⟨6, ![8, 16, 256, 2, 4, 64]⟩
abbrev S8x16x4x2x64x256 : Shape := ⟨6, ![8, 16, 4, 2, 64, 256]⟩
abbrev S8x16x4x128x256 : Shape := ⟨5, ![8, 16, 4, 128, 256]⟩
abbrev S32768x128 : Shape := ⟨2, ![32768, 128]⟩
abbrev S8x2x64x4096 : Shape := ⟨4, ![8, 2, 64, 4096]⟩
abbrev S8x2x16x4096 : Shape := ⟨4, ![8, 2, 16, 4096]⟩
abbrev S8x2x80x4096 : Shape := ⟨4, ![8, 2, 80, 4096]⟩
abbrev S32768x512 : Shape := ⟨2, ![32768, 512]⟩
abbrev S1x16x4x128x256 : Shape := ⟨5, ![1, 16, 4, 128, 256]⟩
abbrev S4096x128 : Shape := ⟨2, ![4096, 128]⟩
abbrev S1x2x80x4096 : Shape := ⟨4, ![1, 2, 80, 4096]⟩
abbrev S4096x512 : Shape := ⟨2, ![4096, 512]⟩
abbrev S2x1x512 : Shape := ⟨3, ![2, 1, 512]⟩
abbrev S4x64x512 : Shape := ⟨3, ![4, 64, 512]⟩
abbrev S128x256 : Shape := ⟨2, ![128, 256]⟩
abbrev S1x1x1x128x256 : Shape := ⟨5, ![1, 1, 1, 128, 256]⟩
abbrev S128x512 : Shape := ⟨2, ![128, 512]⟩
abbrev S256x128 : Shape := ⟨2, ![256, 128]⟩
abbrev S256x512 : Shape := ⟨2, ![256, 512]⟩
abbrev S64x512 : Shape := ⟨2, ![64, 512]⟩
abbrev S512 : Shape := ⟨1, ![512]⟩
abbrev S1x512 : Shape := ⟨2, ![1, 512]⟩
abbrev S1x1x512 : Shape := ⟨3, ![1, 1, 512]⟩
abbrev S1x1x80x256 : Shape := ⟨4, ![1, 1, 80, 256]⟩
abbrev S80x256 : Shape := ⟨2, ![80, 256]⟩
abbrev S80x512 : Shape := ⟨2, ![80, 512]⟩
abbrev S1x64x512 : Shape := ⟨3, ![1, 64, 512]⟩
abbrev S64x256 : Shape := ⟨2, ![64, 256]⟩

abbrev nBuf : Space → Nat
  | .hbm => 21
  | .vmem => 12
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4096x8x64, .f32⟩
  | .hbm, ⟨8, _⟩ => ⟨S8x4096x8x64, .f32⟩
  | .hbm, ⟨9, _⟩ => ⟨S8x16x256x2x4x64, .f32⟩
  | .hbm, ⟨10, _⟩ => ⟨S8x16x4x2x64x256, .f32⟩
  | .hbm, ⟨11, _⟩ => ⟨S8x16x4x128x256, .f32⟩
  | .hbm, ⟨12, _⟩ => ⟨S8x16x4x128x256, .bf16⟩
  | .hbm, ⟨13, _⟩ => ⟨S32768x128, .f32⟩
  | .hbm, ⟨14, _⟩ => ⟨S32768x128, .bf16⟩
  | .hbm, ⟨15, _⟩ => ⟨S8x2x64x4096, .f32⟩
  | .hbm, ⟨16, _⟩ => ⟨S8x2x64x4096, .bf16⟩
  | .hbm, ⟨17, _⟩ => ⟨S_, .bf16⟩
  | .hbm, ⟨18, _⟩ => ⟨S8x2x16x4096, .bf16⟩
  | .hbm, ⟨19, _⟩ => ⟨S8x2x80x4096, .bf16⟩
  | .hbm, ⟨20, _⟩ => ⟨S32768x512, .bf16⟩
  | .local _ .vmem, ⟨0, _⟩ => ⟨S1x16x4x128x256, .bf16⟩
  | .local _ .vmem, ⟨1, _⟩ => ⟨S1x16x4x128x256, .bf16⟩
  | .local _ .vmem, ⟨2, _⟩ => ⟨S4096x128, .bf16⟩
  | .local _ .vmem, ⟨3, _⟩ => ⟨S4096x128, .bf16⟩
  | .local _ .vmem, ⟨4, _⟩ => ⟨S1x2x80x4096, .bf16⟩
  | .local _ .vmem, ⟨5, _⟩ => ⟨S1x2x80x4096, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .f32⟩
  | .local _ .vmem, ⟨9, _⟩ => ⟨S4096x512, .f32⟩
  | .local _ .vmem, ⟨10, _⟩ => ⟨S2x1x512, .f32⟩
  | .local _ .vmem, ⟨11, _⟩ => ⟨S4x64x512, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_93 : BitVec 32 := 0#32
  let c16_i32 : BitVec 32 := 16#32
  let v162 : BitVec 32 := Scalar.addi c0_i32_93 c16_i32
  let c1_i32 : BitVec 32 := 1#32
  ⟨c0_i32_93, v162, c1_i32⟩
def k0_cond1 (k0_t1 : Fin k0_t1_loop.trips) : BitVec 1 :=
  let c0_i32_93 : BitVec 32 := 0#32
  let c1_i32 : BitVec 32 := 1#32
  let arg9 : BitVec 32 := Scf.iv c0_i32_93 c1_i32 k0_t1
  let c0_i32_95 : BitVec 32 := 0#32
  let v163 : BitVec 1 := Scalar.cmpi .sge arg9 c0_i32_95
  let v164 : BitVec 32 := Scalar.extui v163
  let c0_i32_96 : BitVec 32 := 0#32
  let v165 : BitVec 1 := Scalar.cmpi .ne v164 c0_i32_96
  v165

def k0_off1 (k0_t1 : Fin k0_t1_loop.trips) : Fin 5 → Nat :=
  let c0_126 : Index := 0#32
  let c0_i32_93 : BitVec 32 := 0#32
  let c1_i32 : BitVec 32 := 1#32
  let arg9 : BitVec 32 := Scf.iv c0_i32_93 c1_i32 k0_t1
  let v221 : Index := Scalar.indexCast arg9
  let c2_127 : Index := 2#32
  let c0_128 : Index := 0#32
  let c0_129 : Index := 0#32
  ![0, v221.toNat, 2, 0, 0]
def k0_off2 (k0_t1 : Fin k0_t1_loop.trips) : Fin 5 → Nat :=
  let c0_131 : Index := 0#32
  let c0_i32_93 : BitVec 32 := 0#32
  let c1_i32 : BitVec 32 := 1#32
  let arg9 : BitVec 32 := Scf.iv c0_i32_93 c1_i32 k0_t1
  let v227 : Index := Scalar.indexCast arg9
  let c3_132 : Index := 3#32
  let c0_133 : Index := 0#32
  let c0_134 : Index := 0#32
  ![0, v227.toNat, 3, 0, 0]
def k0_cond2 (k0_t1 : Fin k0_t1_loop.trips) : BitVec 1 :=
  let c0_i32_93 : BitVec 32 := 0#32
  let c1_i32 : BitVec 32 := 1#32
  let arg9 : BitVec 32 := Scf.iv c0_i32_93 c1_i32 k0_t1
  let c0_i32_97 : BitVec 32 := 0#32
  let v166 : BitVec 1 := Scalar.cmpi .sge arg9 c0_i32_97
  let v167 : BitVec 32 := Scalar.extui v166
  let c0_i32_98 : BitVec 32 := 0#32
  let v168 : BitVec 1 := Scalar.cmpi .ne v167 c0_i32_98
  v168

def k0_off3 (k0_t1 : Fin k0_t1_loop.trips) : Fin 5 → Nat :=
  let c0_127 : Index := 0#32
  let c0_i32_93 : BitVec 32 := 0#32
  let c1_i32 : BitVec 32 := 1#32
  let arg9 : BitVec 32 := Scf.iv c0_i32_93 c1_i32 k0_t1
  let v222 : Index := Scalar.indexCast arg9
  let c0_128 : Index := 0#32
  let c0_129 : Index := 0#32
  let c0_130 : Index := 0#32
  ![0, v222.toNat, 0, 0, 0]
def k0_off4 (k0_t1 : Fin k0_t1_loop.trips) : Fin 5 → Nat :=
  let c0_132 : Index := 0#32
  let c0_i32_93 : BitVec 32 := 0#32
  let c1_i32 : BitVec 32 := 1#32
  let arg9 : BitVec 32 := Scf.iv c0_i32_93 c1_i32 k0_t1
  let v228 : Index := Scalar.indexCast arg9
  let c1_133 : Index := 1#32
  let c0_134 : Index := 0#32
  let c0_135 : Index := 0#32
  ![0, v228.toNat, 1, 0, 0]
def k0_cond3 (k0_t1 : Fin k0_t1_loop.trips) : BitVec 1 :=
  let c0_i32_93 : BitVec 32 := 0#32
  let c1_i32 : BitVec 32 := 1#32
  let arg9 : BitVec 32 := Scf.iv c0_i32_93 c1_i32 k0_t1
  let c_m1_i32 : BitVec 32 := 4294967295#32
  let v169 : BitVec 1 := Scalar.cmpi .sge arg9 c_m1_i32
  let v170 : BitVec 32 := Scalar.extui v169
  let c0_i32_99 : BitVec 32 := 0#32
  let v171 : BitVec 1 := Scalar.cmpi .ne v170 c0_i32_99
  v171

def k0_off5 (k0_t1 : Fin k0_t1_loop.trips) : Fin 5 → Nat :=
  let c0_127 : Index := 0#32
  let c0_i32_93 : BitVec 32 := 0#32
  let c1_i32 : BitVec 32 := 1#32
  let arg9 : BitVec 32 := Scf.iv c0_i32_93 c1_i32 k0_t1
  let v222 : Index := Scalar.indexCast arg9
  let c2_128 : Index := 2#32
  let c0_129 : Index := 0#32
  let c0_130 : Index := 0#32
  ![0, v222.toNat, 2, 0, 0]
def k0_off6 (k0_t1 : Fin k0_t1_loop.trips) : Fin 5 → Nat :=
  let c0_132 : Index := 0#32
  let c0_i32_93 : BitVec 32 := 0#32
  let c1_i32 : BitVec 32 := 1#32
  let arg9 : BitVec 32 := Scf.iv c0_i32_93 c1_i32 k0_t1
  let v228 : Index := Scalar.indexCast arg9
  let c3_133 : Index := 3#32
  let c0_134 : Index := 0#32
  let c0_135 : Index := 0#32
  ![0, v228.toNat, 3, 0, 0]
def k0_cond4 (k0_t1 : Fin k0_t1_loop.trips) : BitVec 1 :=
  let c0_i32_93 : BitVec 32 := 0#32
  let c1_i32 : BitVec 32 := 1#32
  let arg9 : BitVec 32 := Scf.iv c0_i32_93 c1_i32 k0_t1
  let c_m1_i32_100 : BitVec 32 := 4294967295#32
  let v172 : BitVec 1 := Scalar.cmpi .sge arg9 c_m1_i32_100
  let v173 : BitVec 32 := Scalar.extui v172
  let c0_i32_101 : BitVec 32 := 0#32
  let v174 : BitVec 1 := Scalar.cmpi .ne v173 c0_i32_101
  v174

def k0_off7 (k0_t1 : Fin k0_t1_loop.trips) : Fin 5 → Nat :=
  let c0_127 : Index := 0#32
  let c0_i32_93 : BitVec 32 := 0#32
  let c1_i32 : BitVec 32 := 1#32
  let arg9 : BitVec 32 := Scf.iv c0_i32_93 c1_i32 k0_t1
  let c1_i32_126 : BitVec 32 := 1#32
  let v221 : BitVec 32 := Scalar.addi arg9 c1_i32_126
  let c15_i32 : BitVec 32 := 15#32
  let v222 : BitVec 32 := Scalar.minsi v221 c15_i32
  let v223 : Index := Scalar.indexCast v222
  let c0_128 : Index := 0#32
  let c0_129 : Index := 0#32
  let c0_130 : Index := 0#32
  ![0, v223.toNat, 0, 0, 0]
def k0_off8 (k0_t1 : Fin k0_t1_loop.trips) : Fin 5 → Nat :=
  let c0_132 : Index := 0#32
  let c0_i32_93 : BitVec 32 := 0#32
  let c1_i32 : BitVec 32 := 1#32
  let arg9 : BitVec 32 := Scf.iv c0_i32_93 c1_i32 k0_t1
  let c1_i32_126 : BitVec 32 := 1#32
  let v221 : BitVec 32 := Scalar.addi arg9 c1_i32_126
  let c15_i32 : BitVec 32 := 15#32
  let v222 : BitVec 32 := Scalar.minsi v221 c15_i32
  let v229 : Index := Scalar.indexCast v222
  let c1_133 : Index := 1#32
  let c0_134 : Index := 0#32
  let c0_135 : Index := 0#32
  ![0, v229.toNat, 1, 0, 0]
def k0_mult1 (k0_t1 : Fin k0_t1_loop.trips) : BitVec 32 :=
  let c0_i32_93 : BitVec 32 := 0#32
  let c1_i32 : BitVec 32 := 1#32
  let arg9 : BitVec 32 := Scf.iv c0_i32_93 c1_i32 k0_t1
  let c256_i32 : BitVec 32 := 256#32
  let v175 : BitVec 32 := Scalar.muli arg9 c256_i32
  v175
def k0_off9 (k0_t1 : Fin k0_t1_loop.trips) : Fin 2 → Nat :=
  let c0_i32_93 : BitVec 32 := 0#32
  let c1_i32 : BitVec 32 := 1#32
  let arg9 : BitVec 32 := Scf.iv c0_i32_93 c1_i32 k0_t1
  let c256_i32 : BitVec 32 := 256#32
  let v175 : BitVec 32 := Scalar.muli arg9 c256_i32
  let v176 : BitVec 32 := v175
  let v186 : Index := Scalar.indexCast v176
  let c0_107 : Index := 0#32
  ![v186.toNat, 0]
def k0_off10 (k0_t1 : Fin k0_t1_loop.trips) : Fin 2 → Nat :=
  let c0_i32_93 : BitVec 32 := 0#32
  let c1_i32 : BitVec 32 := 1#32
  let arg9 : BitVec 32 := Scf.iv c0_i32_93 c1_i32 k0_t1
  let c256_i32 : BitVec 32 := 256#32
  let v175 : BitVec 32 := Scalar.muli arg9 c256_i32
  let v176 : BitVec 32 := v175
  let v197 : Index := Scalar.indexCast v176
  let c128 : Index := 128#32
  ![v197.toNat, 128]
def k0_off11 (k0_t1 : Fin k0_t1_loop.trips) : Fin 2 → Nat :=
  let c0_i32_93 : BitVec 32 := 0#32
  let c1_i32 : BitVec 32 := 1#32
  let arg9 : BitVec 32 := Scf.iv c0_i32_93 c1_i32 k0_t1
  let c256_i32 : BitVec 32 := 256#32
  let v175 : BitVec 32 := Scalar.muli arg9 c256_i32
  let v176 : BitVec 32 := v175
  let v208 : Index := Scalar.indexCast v176
  let c256_119 : Index := 256#32
  ![v208.toNat, 256]
def k0_off12 (k0_t1 : Fin k0_t1_loop.trips) : Fin 2 → Nat :=
  let c0_i32_93 : BitVec 32 := 0#32
  let c1_i32 : BitVec 32 := 1#32
  let arg9 : BitVec 32 := Scf.iv c0_i32_93 c1_i32 k0_t1
  let c256_i32 : BitVec 32 := 256#32
  let v175 : BitVec 32 := Scalar.muli arg9 c256_i32
  let v176 : BitVec 32 := v175
  let v219 : Index := Scalar.indexCast v176
  let c384 : Index := 384#32
  ![v219.toNat, 384]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x4096x8x64 : Shape := ⟨4, ![8, 4096, 8, 64]⟩
abbrev S8x4096x2x64 : Shape := ⟨4, ![8, 4096, 2, 64]⟩
abbrev S_ : Shape := ⟨0, ![]⟩
abbrev S8x4096x2x4x64 : Shape := ⟨5, ![8, 4096, 2, 4, 64]⟩
abbrev S8x2x4096x4096x4 : Shape := ⟨5, ![8, 2, 4096, 4096, 4]⟩
abbrev S8x2x4x4096x4096 : Shape := ⟨5, ![8, 2, 4, 4096, 4096]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x4x2x64 : Shape := ⟨5, ![8, 4096, 4, 2, 64]⟩
abbrev S32768x512 : Shape := ⟨2, ![32768, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S8x4096x8x64, .f32⟩
  | .hbm, ⟨5, _⟩ => ⟨S8x4096x8x64, .f32⟩
  | .hbm, ⟨6, _⟩ => ⟨S8x4096x2x4x64, .f32⟩
  | .hbm, ⟨7, _⟩ => ⟨S8x2x4096x4096x4, .f32⟩
  | .hbm, ⟨8, _⟩ => ⟨S8x2x4x4096x4096, .f32⟩
  | .hbm, ⟨9, _⟩ => ⟨S_, .f32⟩
  | .hbm, ⟨10, _⟩ => ⟨S8x2x4x4096, .f32⟩
  | .hbm, ⟨11, _⟩ => ⟨S_, .f32⟩
  | .hbm, ⟨12, _⟩ => ⟨S8x2x4x4096, .f32⟩
  | .hbm, ⟨13, _⟩ => ⟨S8x2x4x4096, .f32⟩
  | .hbm, ⟨14, _⟩ => ⟨S8x2x4x4096x1, .f32⟩
  | .hbm, ⟨15, _⟩ => ⟨S8x2x4x4096x4096, .f32⟩
  | .hbm, ⟨16, _⟩ => ⟨S8x2x4x4096x4096, .f32⟩
  | .hbm, ⟨17, _⟩ => ⟨S8x2x4x4096x4096, .f32⟩
  | .hbm, ⟨18, _⟩ => ⟨S_, .f32⟩
  | .hbm, ⟨19, _⟩ => ⟨S8x2x4x4096, .f32⟩
  | .hbm, ⟨20, _⟩ => ⟨S8x2x4x4096x1, .f32⟩
  | .hbm, ⟨21, _⟩ => ⟨S8x2x4x4096x4096, .f32⟩
  | .hbm, ⟨22, _⟩ => ⟨S8x2x4x4096x4096, .f32⟩
  | .hbm, ⟨23, _⟩ => ⟨S8x2x64x4x4096, .f32⟩
  | .hbm, ⟨24, _⟩ => ⟨S8x4096x4x2x64, .f32⟩
  | .hbm, ⟨25, _⟩ => ⟨S32768x512, .f32⟩
  | .hbm, ⟨26, _⟩ => ⟨S32768x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ffn.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S8x4096x2816, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Post.lean ====
abbrev S8x4096x1024 : Shape := ⟨3, ![8, 4096, 1024]⟩
abbrev S8x4096x512 : Shape := ⟨3, ![8, 4096, 512]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x512 : Shape := ⟨2, ![32768, 512]⟩
abbrev S32768x2x4x64 : Shape := ⟨4, ![32768, 2, 4, 64]⟩
abbrev S32768x4x2x64 : Shape := ⟨4, ![32768, 4, 2, 64]⟩
abbrev S32768x1024 : Shape := ⟨2, ![32768, 1024]⟩
abbrev S512 : Shape := ⟨1, ![512]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2816 : Shape := ⟨2, ![256, 2816]⟩

abbrev nBuf : Space → Nat
  | .hbm => 51
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x1024, .f32⟩
  | .hbm, ⟨6, _⟩ => ⟨S8x4096x1024, .f32⟩
  | .hbm, ⟨7, _⟩ => ⟨S1x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S1024, .f32⟩
  | .hbm, ⟨16, _⟩ => ⟨S32768x512, .f32⟩
  | .hbm, ⟨17, _⟩ => ⟨S32768x2x4x64, .f32⟩
  | .hbm, ⟨18, _⟩ => ⟨S32768x4x2x64, .f32⟩
  | .hbm, ⟨19, _⟩ => ⟨S32768x512, .f32⟩
  | .hbm, ⟨20, _⟩ => ⟨S32768x512, .bf16⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .bf16⟩
  | .hbm, ⟨25, _⟩ => ⟨S32768x1024, .f32⟩
  | .hbm, ⟨26, _⟩ => ⟨S32768x1024, .bf16⟩
  | .hbm, ⟨27, _⟩ => ⟨S32768x1024, .f32⟩
  | .hbm, ⟨28, _⟩ => ⟨S32768x1024, .bf16⟩
  | .hbm, ⟨29, _⟩ => ⟨S512, .f32⟩
  | .hbm, ⟨30, _⟩ => ⟨S1x512, .f32⟩
  | .hbm, ⟨31, _⟩ => ⟨S512x1024, .f32⟩
  | .hbm, ⟨32, _⟩ => ⟨S512x1024, .bf16⟩
  | .hbm, ⟨33, _⟩ => ⟨S2x4x64x1024, .bf16⟩
  | .hbm, ⟨34, _⟩ => ⟨S4x2x64x1024, .bf16⟩
  | .hbm, ⟨35, _⟩ => ⟨S512x1024, .bf16⟩
  | .hbm, ⟨36, _⟩ => ⟨S512x1024, .f32⟩
  | .hbm, ⟨37, _⟩ => ⟨S512x1024, .bf16⟩
  | .hbm, ⟨38, _⟩ => ⟨S1024x1024, .f32⟩
  | .hbm, ⟨39, _⟩ => ⟨S1024x1024, .bf16⟩
  | .hbm, ⟨40, _⟩ => ⟨S32768x1024, .f32⟩
  | .hbm, ⟨41, _⟩ => ⟨S1024, .f32⟩
  | .hbm, ⟨42, _⟩ => ⟨S1024x2816, .f32⟩
  | .hbm, ⟨43, _⟩ => ⟨S1024x2816, .bf16⟩
  | .hbm, ⟨44, _⟩ => ⟨S1024x2816, .f32⟩
  | .hbm, ⟨45, _⟩ => ⟨S1024x2816, .bf16⟩
  | .hbm, ⟨46, _⟩ => ⟨S2816x1024, .f32⟩
  | .hbm, ⟨47, _⟩ => ⟨S2816x1024, .bf16⟩
  | .hbm, ⟨48, _⟩ => ⟨S1x1024, .f32⟩
  | .hbm, ⟨49, _⟩ => ⟨S1x1024, .f32⟩
  | .hbm, ⟨50, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PostReferenceIdeal.lean ====
abbrev S8x4096x1024 : Shape := ⟨3, ![8, 4096, 1024]⟩
abbrev S8x4096x512 : Shape := ⟨3, ![8, 4096, 512]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8x4096x8x64 : Shape := ⟨4, ![8, 4096, 8, 64]⟩
abbrev S512 : Shape := ⟨1, ![512]⟩
abbrev S8x64 : Shape := ⟨2, ![8, 64]⟩
abbrev S_ : Shape := ⟨0, ![]⟩
abbrev S8x4096x8 : Shape := ⟨3, ![8, 4096, 8]⟩
abbrev S8x4096x8x1 : Shape := ⟨4, ![8, 4096, 8, 1]⟩
abbrev S1x1x8x64 : Shape := ⟨4, ![1, 1, 8, 64]⟩
abbrev S512x1024 : Shape := ⟨2, ![512, 1024]⟩
abbrev S1024x1024 : Shape := ⟨2, ![1024, 1024]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x1024, .f32⟩
  | .hbm, ⟨6, _⟩ => ⟨S8x4096x1024, .f32⟩
  | .hbm, ⟨7, _⟩ => ⟨S1x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S1024, .f32⟩
  | .hbm, ⟨16, _⟩ => ⟨S8x4096x512, .f32⟩
  | .hbm, ⟨17, _⟩ => ⟨S8x4096x8x64, .f32⟩
  | .hbm, ⟨18, _⟩ => ⟨S512, .f32⟩
  | .hbm, ⟨19, _⟩ => ⟨S8x64, .f32⟩
  | .hbm, ⟨20, _⟩ => ⟨S8x4096x8x64, .f32⟩
  | .hbm, ⟨21, _⟩ => ⟨S_, .f32⟩
  | .hbm, ⟨22, _⟩ => ⟨S8x4096x8, .f32⟩
  | .hbm, ⟨23, _⟩ => ⟨S8x4096x8x1, .f32⟩
  | .hbm, ⟨24, _⟩ => ⟨S_, .f32⟩
  | .hbm, ⟨25, _⟩ => ⟨S8x4096x8x1, .f32⟩
  | .hbm, ⟨26, _⟩ => ⟨S8x4096x8x1, .f32⟩
  | .hbm, ⟨27, _⟩ => ⟨S_, .f32⟩
  | .hbm, ⟨28, _⟩ => ⟨S8x4096x8x1, .f32⟩
  | .hbm, ⟨29, _⟩ => ⟨S8x4096x8x1, .f32⟩
  | .hbm, ⟨30, _⟩ => ⟨S8x4096x8x1, .f32⟩
  | .hbm, ⟨31, _⟩ => ⟨S8x4096x8x64, .f32⟩
  | .hbm, ⟨32, _⟩ => ⟨S8x4096x8x64, .f32⟩
  | .hbm, ⟨33, _⟩ => ⟨S1x1x8x64, .f32⟩
  | .hbm, ⟨34, _⟩ => ⟨S8x4096x8x64, .f32⟩
  | .hbm, ⟨35, _⟩ => ⟨S8x4096x8x64, .f32⟩
  | .hbm, ⟨36, _⟩ => ⟨S8x4096x512, .f32⟩
  | .hbm, ⟨37, _⟩ => ⟨S8x4096x512, .f32⟩
  | .hbm, ⟨38, _⟩ => ⟨S512x1024, .f32⟩
  | .hbm, ⟨39, _⟩ => ⟨S8x4096x1024, .f32⟩
  | .hbm, ⟨40, _⟩ => ⟨S8x4096x1024, .f32⟩
  | .hbm, ⟨41, _⟩ => ⟨S512x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S1024x1024, .f32⟩
  | .hbm, ⟨46, _⟩ => ⟨S8x4096x1024, .f32⟩
  | .hbm, ⟨47, _⟩ => ⟨S8x4096x1024, .f32⟩
  | .hbm, ⟨48, _⟩ => ⟨S1024, .f32⟩
  | .hbm, ⟨49, _⟩ => ⟨S8x4096x1024, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1024x2816, .f32⟩
  | .hbm, ⟨66, _⟩ => ⟨S1024x2816, .f32⟩
  | .hbm, ⟨67, _⟩ => ⟨S2816x1024, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S_, .f32⟩
  | .hbm, ⟨72, _⟩ => ⟨S8x4096x2816, .f32⟩
  | .hbm, ⟨73, _⟩ => ⟨S8x4096x2816, .f32⟩
  | .hbm, ⟨74, _⟩ => ⟨S_, .f32⟩
  | .hbm, ⟨75, _⟩ => ⟨S8x4096x2816, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x1024, .f32⟩
  | .hbm, ⟨81, _⟩ => ⟨S_, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S8x4096x1, .f32⟩
  | .hbm, ⟨96, _⟩ => ⟨S8x4096x1024, .f32⟩
  | .hbm, ⟨97, _⟩ => ⟨S8x4096x1024, .f32⟩
  | .hbm, ⟨98, _⟩ => ⟨S1x1x1024, .f32⟩
  | .hbm, ⟨99, _⟩ => ⟨S8x4096x1024, .f32⟩
  | .hbm, ⟨100, _⟩ => ⟨S8x4096x1024, .f32⟩
  | .hbm, ⟨101, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_5 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_6 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Inproj.lean ====
abbrev S8x4096x1024 : Shape := ⟨3, ![8, 4096, 1024]⟩
abbrev S1x1024 : Shape := ⟨2, ![1, 1024]⟩
abbrev S1x1024x5376 : Shape := ⟨3, ![1, 1024, 5376]⟩
abbrev S1x64 : Shape := ⟨2, ![1, 64]⟩
abbrev S4096x32 : Shape := ⟨2, ![4096, 32]⟩
abbrev S2x2x512 : Shape := ⟨3, ![2, 2, 512]⟩
abbrev S1024x5376 : Shape := ⟨2, ![1024, 5376]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x256 : Shape := ⟨2, ![1024, 256]⟩
abbrev S1024x768 : Shape := ⟨2, ![1024, 768]⟩
abbrev S1024x4608 : Shape := ⟨2, ![1024, 4608]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x1024 : Shape := ⟨2, ![32768, 1024]⟩
abbrev S1024 : Shape := ⟨1, ![1024]⟩
abbrev S64 : Shape := ⟨1, ![64]⟩
abbrev S2x64 : Shape := ⟨2, ![2, 64]⟩
abbrev S128 : Shape := ⟨1, ![128]⟩
abbrev S1x128 : Shape := ⟨2, ![1, 128]⟩
abbrev S8x16x4x128x256 : Shape := ⟨5, ![8, 16, 4, 128, 256]⟩
abbrev S32768x128 : Shape := ⟨2, ![32768, 128]⟩
abbrev S8x2x80x4096 : Shape := ⟨4, ![8, 2, 80, 4096]⟩
abbrev S32768x512 : Shape := ⟨2, ![32768, 512]⟩
abbrev S512x1024 : Shape := ⟨2, ![512, 1024]⟩
abbrev S512x128 : Shape := ⟨2, ![512, 128]⟩
abbrev S1x2x4x128x256 : Shape := ⟨5, ![1, 2, 4, 128, 256]⟩
abbrev S1x2x80x512 : Shape := ⟨4, ![1, 2, 80, 512]⟩
abbrev S512x512 : Shape := ⟨2, ![512, 512]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S256x768 : Shape := ⟨2, ![256, 768]⟩
abbrev S1024x2304 : Shape := ⟨2, ![1024, 2304]⟩
abbrev S256x2304 : Shape := ⟨2, ![256, 2304]⟩
abbrev S256x128 : Shape := ⟨2, ![256, 128]⟩
abbrev S256x4608 : Shape := ⟨2, ![256, 4608]⟩
abbrev S2x512 : Shape := ⟨2, ![2, 512]⟩
abbrev S2x1x512 : Shape := ⟨3, ![2, 1, 512]⟩
abbrev S128x256 : Shape := ⟨2, ![128, 256]⟩
abbrev S1x1x1x128x256 : Shape := ⟨5, ![1, 1, 1, 128, 256]⟩
abbrev S16x256 : Shape := ⟨2, ![16, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S256x512 : Shape := ⟨2, ![256, 512]⟩
abbrev S1x512 : Shape := ⟨2, ![1, 512]⟩

abbrev nBuf : Space → Nat
  | .hbm => 57
  | .vmem => 40
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5376, .f32⟩
  | .hbm, ⟨3, _⟩ => ⟨S1x64, .f32⟩
  | .hbm, ⟨4, _⟩ => ⟨S1x64, .f32⟩
  | .hbm, ⟨5, _⟩ => ⟨S4096x32, .f32⟩
  | .hbm, ⟨6, _⟩ => ⟨S4096x32, .f32⟩
  | .hbm, ⟨7, _⟩ => ⟨S2x2x512, .f32⟩
  | .hbm, ⟨8, _⟩ => ⟨S1024x5376, .f32⟩
  | .hbm, ⟨9, _⟩ => ⟨S1024x512, .f32⟩
  | .hbm, ⟨10, _⟩ => ⟨S1024x512, .bf16⟩
  | .hbm, ⟨11, _⟩ => ⟨S1024x2x4x64, .bf16⟩
  | .hbm, ⟨12, _⟩ => ⟨S1024x4x2x64, .bf16⟩
  | .hbm, ⟨13, _⟩ => ⟨S1024x512, .bf16⟩
  | .hbm, ⟨14, _⟩ => ⟨S1024x5376, .f32⟩
  | .hbm, ⟨15, _⟩ => ⟨S1024x256, .f32⟩
  | .hbm, ⟨16, _⟩ => ⟨S1024x256, .bf16⟩
  | .hbm, ⟨17, _⟩ => ⟨S1024x768, .bf16⟩
  | .hbm, ⟨18, _⟩ => ⟨S1024x5376, .f32⟩
  | .hbm, ⟨19, _⟩ => ⟨S1024x4608, .f32⟩
  | .hbm, ⟨20, _⟩ => ⟨S1024x4608, .bf16⟩
  | .hbm, ⟨21, _⟩ => ⟨S4096x64, .f32⟩
  | .hbm, ⟨22, _⟩ => ⟨S1x4096x1x64, .f32⟩
  | .hbm, ⟨23, _⟩ => ⟨S1x4096x2x64, .f32⟩
  | .hbm, ⟨24, _⟩ => ⟨S4096x128, .f32⟩
  | .hbm, ⟨25, _⟩ => ⟨S4096x32, .f32⟩
  | .hbm, ⟨26, _⟩ => ⟨S4096x64, .f32⟩
  | .hbm, ⟨27, _⟩ => ⟨S1x4096x1x64, .f32⟩
  | .hbm, ⟨28, _⟩ => ⟨S1x4096x2x64, .f32⟩
  | .hbm, ⟨29, _⟩ => ⟨S4096x128, .f32⟩
  | .hbm, ⟨30, _⟩ => ⟨S32768x1024, .f32⟩
  | .hbm, ⟨31, _⟩ => ⟨S1024, .f32⟩
  | .hbm, ⟨32, _⟩ => ⟨S64, .f32⟩
  | .hbm, ⟨33, _⟩ => ⟨S1x64, .f32⟩
  | .hbm, ⟨34, _⟩ => ⟨S2x64, .f32⟩
  | .hbm, ⟨35, _⟩ => ⟨S128, .f32⟩
  | .hbm, ⟨36, _⟩ => ⟨S1x128, .f32⟩
  | .hbm, ⟨37, _⟩ => ⟨S64, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S1x1024, .f32⟩
  | .hbm, ⟨43, _⟩ => ⟨S8x16x4x128x256, .bf16⟩
  | .hbm, ⟨44, _⟩ => ⟨S32768x128, .bf16⟩
  | .hbm, ⟨45, _⟩ => ⟨S8x2x80x4096, .bf16⟩
  | .hbm, ⟨46, _⟩ => ⟨S32768x512, .bf16⟩
  | .hbm, ⟨47, _⟩ => ⟨S32768x512, .bf16⟩
  | .hbm, ⟨48, _⟩ => ⟨S32768x512, .bf16⟩
  | .hbm, ⟨49, _⟩ => ⟨S32768x512, .bf16⟩
  | .hbm, ⟨50, _⟩ => ⟨S32768x512, .bf16⟩
  | .hbm, ⟨51, _⟩ => ⟨S32768x512, .bf16⟩
  | .hbm, ⟨52, _⟩ => ⟨S32768x512, .bf16⟩
  | .hbm, ⟨53, _⟩ => ⟨S32768x512, .bf16⟩
  | .hbm, ⟨54, _⟩ => ⟨S32768x512, .bf16⟩
  | .hbm, ⟨55, _⟩ => ⟨S32768x1024, .bf16⟩
  | .hbm, ⟨56, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S1024x4608, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x128, .f32⟩
  | .local _ .vmem, ⟨10, _⟩ => ⟨S1x128, .f32⟩
  | .local _ .vmem, ⟨11, _⟩ => ⟨S2x2x512, .f32⟩
  | .local _ .vmem, ⟨12, _⟩ => ⟨S1x2x4x128x256, .bf16⟩
  | .local _ .vmem, ⟨13, _⟩ => ⟨S1x2x4x128x256, .bf16⟩
  | .local _ .vmem, ⟨14, _⟩ => ⟨S512x128, .bf16⟩
  | .local _ .vmem, ⟨15, _⟩ => ⟨S512x128, .bf16⟩
  | .local _ .vmem, ⟨16, _⟩ => ⟨S1x2x80x512, .bf16⟩
  | .local _ .vmem, ⟨17, _⟩ => ⟨S1x2x80x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev main_v35_3 : Ref sig .tc := ⟨.hbm, 46, rfl⟩
abbrev main_v35_4 : Ref sig .tc := ⟨.hbm, 47, rfl⟩
abbrev main_v35_5 : Ref sig .tc := ⟨.hbm, 48, rfl⟩
abbrev main_v35_6 : Ref sig .tc := ⟨.hbm, 49, rfl⟩
abbrev main_v35_7 : Ref sig .tc := ⟨.hbm, 50, rfl⟩
abbrev main_v35_8 : Ref sig .tc := ⟨.hbm, 51, rfl⟩
abbrev main_v35_9 : Ref sig .tc := ⟨.hbm, 52, rfl⟩
abbrev main_v35_10 : Ref sig .tc := ⟨.hbm, 53, rfl⟩
abbrev main_v35_11 : Ref sig .tc := ⟨.hbm, 54, rfl⟩
abbrev main_v35_12 : Ref sig .tc := ⟨.hbm, 55, rfl⟩
abbrev main_v35_13 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2x4x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InprojIdeal.lean ====
variable {F : FTy → Type} [FloatOps F] [Named F]
def κ : String → Option EReal := fun
  | "scale" => some (((8 * (Real.log 2))⁻¹ : ℝ) : EReal)
  | _ => none
-- ==== InprojReferenceIdeal.lean ====
abbrev S8x4096x1024 : Shape := ⟨3, ![8, 4096, 1024]⟩
abbrev S1x1024 : Shape := ⟨2, ![1, 1024]⟩
abbrev S1x1024x5376 : Shape := ⟨3, ![1, 1024, 5376]⟩
abbrev S1x64 : Shape := ⟨2, ![1, 64]⟩
abbrev S4096x32 : Shape := ⟨2, ![4096, 32]⟩
abbrev S2x2x512 : Shape := ⟨3, ![2, 2, 512]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5376 : Shape := ⟨2, ![1024, 5376]⟩
abbrev S8x4096x5376 : Shape := ⟨3, ![8, 4096, 5376]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S64 : Shape := ⟨1, ![64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x32 : Shape := ⟨4, ![8, 4096, 8, 32]⟩
abbrev S4096x1x32 : Shape := ⟨3, ![4096, 1, 32]⟩
abbrev S1x4096x1x32 : Shape := ⟨4, ![1, 4096, 1, 32]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x16x256x2x4x64 : Shape := ⟨6, ![8, 16, 256, 2, 4, 64]⟩
abbrev S8x16x4x2x64x256 : Shape := ⟨6, ![8, 16, 4, 2, 64, 256]⟩
abbrev S8x16x4x128x256 : Shape := ⟨5, ![8, 16, 4, 128, 256]⟩
abbrev S8x2x64x4096 : Shape := ⟨4, ![8, 2, 64, 4096]⟩
abbrev S8x2x16x4096 : Shape := ⟨4, ![8, 2, 16, 4096]⟩
abbrev S8x2x80x4096 : Shape := ⟨4, ![8, 2, 80, 4096]⟩
abbrev S2x512 : Shape := ⟨2, ![2, 512]⟩
abbrev S2x1x512 : Shape := ⟨3, ![2, 1, 512]⟩
abbrev S1x512 : Shape := ⟨2, ![1, 512]⟩
abbrev S512 : Shape := ⟨1, ![512]⟩
abbrev S1x1x512 : Shape := ⟨3, ![1, 1, 512]⟩
abbrev S32768x128 : Shape := ⟨2, ![32768, 128]⟩
abbrev S32768x512 : Shape := ⟨2, ![32768, 512]⟩
abbrev S32768x1024 : Shape := ⟨2, ![32768, 1024]⟩

abbrev nBuf : Space → Nat
  | .hbm => 250
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x5376, .f32⟩
  | 3 => ⟨S1x64, .f32⟩
  | 4 => ⟨S1x64, .f32⟩
  | 5 => ⟨S4096x32, .f32⟩
  | 6 => ⟨S4096x32, .f32⟩
  | 7 => ⟨S2x2x512, .f32⟩
  | 8 => ⟨S1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S1024x5376, .f32⟩
  | 26 => ⟨S8x4096x5376, .f32⟩
  | 27 => ⟨S8x4096x512, .f32⟩
  | 28 => ⟨S8x4096x128, .f32⟩
  | 29 => ⟨S8x4096x128, .f32⟩
  | 30 => ⟨S8x4096x512, .f32⟩
  | 31 => ⟨S8x4096x512, .f32⟩
  | 32 => ⟨S8x4096x512, .f32⟩
  | 33 => ⟨S8x4096x512, .f32⟩
  | 34 => ⟨S8x4096x512, .f32⟩
  | 35 => ⟨S8x4096x1024, .f32⟩
  | 36 => ⟨S8x4096x1024, .f32⟩
  | 37 => ⟨S8x4096x8x64, .f32⟩
  | 38 => ⟨S64, .f32⟩
  | 39 => ⟨S8x4096x8x64, .f32⟩
  | 40 => ⟨S_, .f32⟩
  | 41 => ⟨S8x4096x8, .f32⟩
  | 42 => ⟨S8x4096x8x1, .f32⟩
  | 43 => ⟨S_, .f32⟩
  | 44 => ⟨S8x4096x8x1, .f32⟩
  | 45 => ⟨S8x4096x8x1, .f32⟩
  | 46 => ⟨S_, .f32⟩
  | 47 => ⟨S8x4096x8x1, .f32⟩
  | 48 => ⟨S8x4096x8x1, .f32⟩
  | 49 => ⟨S8x4096x8x1, .f32⟩
  | 50 => ⟨S8x4096x8x64, .f32⟩
  | 51 => ⟨S8x4096x8x64, .f32⟩
  | 52 => ⟨S1x1x1x64, .f32⟩
  | 53 => ⟨S8x4096x8x64, .f32⟩
  | 54 => ⟨S8x4096x8x64, .f32⟩
  | 55 => ⟨S8x4096x8x32, .f32⟩
  | 56 => ⟨S8x4096x8x32, .f32⟩
  | 57 => ⟨S4096x1x32, .f32⟩
  | 58 => ⟨S4096x1x32, .f32⟩
  | 59 => ⟨S1x4096x1x32, .f32⟩
  | 60 => ⟨S8x4096x8x32, .f32⟩
  | 61 => ⟨S8x4096x8x32, .f32⟩
  | 62 => ⟨S1x4096x1x32, .f32⟩
  | 63 => ⟨S8x4096x8x32, .f32⟩
  | 64 => ⟨S8x4096x8x32, .f32⟩
  | 65 => ⟨S8x4096x8x32, .f32⟩
  | 66 => ⟨S1x4096x1x32, .f32⟩
  | 67 => ⟨S8x4096x8x32, .f32⟩
  | 68 => ⟨S8x4096x8x32, .f32⟩
  | 69 => ⟨S1x4096x1x32, .f32⟩
  | 70 => ⟨S8x4096x8x32, .f32⟩
  | 71 => ⟨S8x4096x8x32, .f32⟩
  | 72 => ⟨S8x4096x8x32, .f32⟩
  | 73 => ⟨S8x4096x8x64, .f32⟩
  | 74 => ⟨S8x4096x2x64, .f32⟩
  | 75 => ⟨S64, .f32⟩
  | 76 => ⟨S8x4096x2x64, .f32⟩
  | 77 => ⟨S_, .f32⟩
  | 78 => ⟨S8x4096x2, .f32⟩
  | 79 => ⟨S8x4096x2x1, .f32⟩
  | 80 => ⟨S_, .f32⟩
  | 81 => ⟨S8x4096x2x1, .f32⟩
  | 82 => ⟨S8x4096x2x1, .f32⟩
  | 83 => ⟨S_, .f32⟩
  | 84 => ⟨S8x4096x2x1, .f32⟩
  | 85 => ⟨S8x4096x2x1, .f32⟩
  | 86 => ⟨S8x4096x2x1, .f32⟩
  | 87 => ⟨S8x4096x2x64, .f32⟩
  | 88 => ⟨S8x4096x2x64, .f32⟩
  | 89 => ⟨S1x1x1x64, .f32⟩
  | 90 => ⟨S8x4096x2x64, .f32⟩
  | 91 => ⟨S8x4096x2x64, .f32⟩
  | 92 => ⟨S8x4096x2x32, .f32⟩
  | 93 => ⟨S8x4096x2x32, .f32⟩
  | 94 => ⟨S4096x1x32, .f32⟩
  | 95 => ⟨S4096x1x32, .f32⟩
  | 96 => ⟨S1x4096x1x32, .f32⟩
  | 97 => ⟨S8x4096x2x32, .f32⟩
  | 98 => ⟨S8x4096x2x32, .f32⟩
  | 99 => ⟨S1x4096x1x32, .f32⟩
  | 100 => ⟨S8x4096x2x32, .f32⟩
  | 101 => ⟨S8x4096x2x32, .f32⟩
  | 102 => ⟨S8x4096x2x32, .f32⟩
  | 103 => ⟨S1x4096x1x32, .f32⟩
  | 104 => ⟨S8x4096x2x32, .f32⟩
  | 105 => ⟨S8x4096x2x32, .f32⟩
  | 106 => ⟨S1x4096x1x32, .f32⟩
  | 107 => ⟨S8x4096x2x32, .f32⟩
  | 108 => ⟨S8x4096x2x32, .f32⟩
  | 109 => ⟨S8x4096x2x32, .f32⟩
  | 110 => ⟨S8x4096x2x64, .f32⟩
  | 111 => ⟨S_, .f32⟩
  | 112 => ⟨S_, .f32⟩
  | 113 => ⟨S_, .f32⟩
  | 114 => ⟨S_, .f32⟩
  | 115 => ⟨S8x4096x8x64, .f32⟩
  | 116 => ⟨S8x4096x8x64, .f32⟩
  | 117 => ⟨S8x16x256x2x4x64, .f32⟩
  | 118 => ⟨S8x16x4x2x64x256, .f32⟩
  | 119 => ⟨S8x16x4x128x256, .f32⟩
  | 120 => ⟨S8x4096x2x64, .f32⟩
  | 121 => ⟨S8x2x64x4096, .f32⟩
  | 122 => ⟨S_, .f32⟩
  | 123 => ⟨S8x2x16x4096, .f32⟩
  | 124 => ⟨S8x2x80x4096, .f32⟩
  | 125 => ⟨S_, .f32⟩
  | 126 => ⟨S2x512, .f32⟩
  | 127 => ⟨S_, .f32⟩
  | _ => ⟨S8x4096x1024, .f32⟩

abbrev hbmTy0_1 (i : Nat) : BufTy := match i % 128 with
  | 0 => ⟨S2x512, .f32⟩
  | 1 => ⟨S2x512, .f32⟩
  | 2 => ⟨S2x1x512, .f32⟩
  | 3 => ⟨S2x2x512, .f32⟩
  | 4 => ⟨S2x2x512, .f32⟩
  | 5 => ⟨S2x2x512, .f32⟩
  | 6 => ⟨S_, .f32⟩
  | 7 => ⟨S2x512, .f32⟩
  | 8 => ⟨S2x1x512, .f32⟩
  | 9 => ⟨S2x2x512, .f32⟩
  | 10 => ⟨S2x2x512, .f32⟩
  | 11 => ⟨S_, .f32⟩
  | 12 => ⟨S_, .f32⟩
  | 13 => ⟨S2x2x512, .f32⟩
  | 14 => ⟨S2x1x512, .f32⟩
  | 15 => ⟨S2x512, .f32⟩
  | 16 => ⟨S1x512, .f32⟩
  | 17 => ⟨S512, .f32⟩
  | 18 => ⟨S1x512, .f32⟩
  | 19 => ⟨S512, .f32⟩
  | 20 => ⟨S_, .f32⟩
  | 21 => ⟨S512, .f32⟩
  | 22 => ⟨S512, .f32⟩
  | 23 => ⟨S8x4096x512, .f32⟩
  | 24 => ⟨S8x4096x512, .f32⟩
  | 25 => ⟨S_, .f32⟩
  | 26 => ⟨S8x4096x512, .f32⟩
  | 27 => ⟨S8x4096x512, .f32⟩
  | 28 => ⟨S_, .f32⟩
  | 29 => ⟨S8x4096x512, .f32⟩
  | 30 => ⟨S8x4096x512, .f32⟩
  | 31 => ⟨S1x1x512, .f32⟩
  | 32 => ⟨S8x4096x512, .f32⟩
  | 33 => ⟨S8x4096x512, .f32⟩
  | 34 => ⟨S1x1x512, .f32⟩
  | 35 => ⟨S8x4096x512, .f32⟩
  | 36 => ⟨S8x4096x512, .f32⟩
  | 37 => ⟨S1x512, .f32⟩
  | 38 => ⟨S512, .f32⟩
  | 39 => ⟨S1x512, .f32⟩
  | 40 => ⟨S512, .f32⟩
  | 41 => ⟨S_, .f32⟩
  | 42 => ⟨S512, .f32⟩
  | 43 => ⟨S512, .f32⟩
  | 44 => ⟨S8x4096x512, .f32⟩
  | 45 => ⟨S8x4096x512, .f32⟩
  | 46 => ⟨S_, .f32⟩
  | 47 => ⟨S8x4096x512, .f32⟩
  | 48 => ⟨S8x4096x512, .f32⟩
  | 49 => ⟨S_, .f32⟩
  | 50 => ⟨S8x4096x512, .f32⟩
  | 51 => ⟨S8x4096x512, .f32⟩
  | 52 => ⟨S1x1x512, .f32⟩
  | 53 => ⟨S8x4096x512, .f32⟩
  | 54 => ⟨S8x4096x512, .f32⟩
  | 55 => ⟨S1x1x512, .f32⟩
  | 56 => ⟨S8x4096x512, .f32⟩
  | 57 => ⟨S8x4096x512, .f32⟩
  | 58 => ⟨S8x16x4x128x256, .bf16⟩
  | 59 => ⟨S32768x128, .f32⟩
  | 60 => ⟨S32768x128, .bf16⟩
  | 61 => ⟨S8x2x80x4096, .bf16⟩
  | 62 => ⟨S8x4096x512, .f32⟩
  | 63 => ⟨S8x4096x512, .f32⟩
  | 64 => ⟨S_, .f32⟩
  | 65 => ⟨S8x4096x512, .f32⟩
  | 66 => ⟨S8x4096x512, .f32⟩
  | 67 => ⟨S_, .f32⟩
  | 68 => ⟨S8x4096x512, .f32⟩
  | 69 => ⟨S8x4096x512, .f32⟩
  | 70 => ⟨S8x4096x512, .f32⟩
  | 71 => ⟨S32768x512, .f32⟩
  | 72 => ⟨S32768x512, .bf16⟩
  | 73 => ⟨S_, .f32⟩
  | 74 => ⟨S8x4096x512, .f32⟩
  | 75 => ⟨S8x4096x512, .f32⟩
  | 76 => ⟨S32768x512, .f32⟩
  | 77 => ⟨S32768x512, .bf16⟩
  | 78 => ⟨S8x4096x512, .f32⟩
  | 79 => ⟨S32768x512, .f32⟩
  | 80 => ⟨S32768x512, .bf16⟩
  | 81 => ⟨S_, .f32⟩
  | 82 => ⟨S8x4096x512, .f32⟩
  | 83 => ⟨S8x4096x512, .f32⟩
  | 84 => ⟨S32768x512, .f32⟩
  | 85 => ⟨S32768x512, .bf16⟩
  | 86 => ⟨S8x4096x512, .f32⟩
  | 87 => ⟨S32768x512, .f32⟩
  | 88 => ⟨S32768x512, .bf16⟩
  | 89 => ⟨S32768x512, .f32⟩
  | 90 => ⟨S32768x512, .bf16⟩
  | 91 => ⟨S8x4096x512, .f32⟩
  | 92 => ⟨S8x4096x512, .f32⟩
  | 93 => ⟨S_, .f32⟩
  | 94 => ⟨S8x4096x512, .f32⟩
  | 95 => ⟨S8x4096x512, .f32⟩
  | 96 => ⟨S_, .f32⟩
  | 97 => ⟨S8x4096x512, .f32⟩
  | 98 => ⟨S8x4096x512, .f32⟩
  | 99 => ⟨S8x4096x512, .f32⟩
  | 100 => ⟨S32768x512, .f32⟩
  | 101 => ⟨S32768x512, .bf16⟩
  | 102 => ⟨S8x4096x1024, .f32⟩
  | 103 => ⟨S8x4096x1024, .f32⟩
  | 104 => ⟨S_, .f32⟩
  | 105 => ⟨S8x4096x1024, .f32⟩
  | 106 => ⟨S8x4096x1024, .f32⟩
  | 107 => ⟨S_, .f32⟩
  | 108 => ⟨S8x4096x1024, .f32⟩
  | 109 => ⟨S8x4096x1024, .f32⟩
  | 110 => ⟨S32768x1024, .f32⟩
  | 111 => ⟨S32768x1024, .bf16⟩
  | 112 => ⟨S8x4096x1024, .f32⟩
  | 113 => ⟨S8x4096x1024, .f32⟩
  | 114 => ⟨S_, .f32⟩
  | 115 => ⟨S8x4096x1024, .f32⟩
  | 116 => ⟨S8x4096x1024, .f32⟩
  | 117 => ⟨S_, .f32⟩
  | 118 => ⟨S8x4096x1024, .f32⟩
  | 119 => ⟨S8x4096x1024, .f32⟩
  | 120 => ⟨S32768x1024, .f32⟩
  | 121 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_8 : Ref sig .tc := ⟨.hbm, 111, rfl⟩
abbrev main_v94 : Ref sig .tc := ⟨.hbm, 112, rfl⟩
abbrev main_cst_9 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_10 : Ref sig .tc := ⟨.hbm, 122, rfl⟩
abbrev main_v103 : Ref sig .tc := ⟨.hbm, 123, rfl⟩
abbrev main_v104 : Ref sig .tc := ⟨.hbm, 124, rfl⟩
abbrev main_cst_11 : Ref sig .tc := ⟨.hbm, 125, rfl⟩
abbrev main_v105 : Ref sig .tc := ⟨.hbm, 126, rfl⟩
abbrev main_cst_12 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_13 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_call0_call0_cst : Ref sig .tc := ⟨.hbm, 139, rfl⟩
abbrev main_call0_call0_v0 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_14 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_15 : Ref sig .tc := ⟨.hbm, 153, rfl⟩
abbrev main_v127 : Ref sig .tc := ⟨.hbm, 154, rfl⟩
abbrev main_v128 : Ref sig .tc := ⟨.hbm, 155, rfl⟩
abbrev main_cst_16 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_17 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_18 : Ref sig .tc := ⟨.hbm, 174, rfl⟩
abbrev main_v145 : Ref sig .tc := ⟨.hbm, 175, rfl⟩
abbrev main_v146 : Ref sig .tc := ⟨.hbm, 176, rfl⟩
abbrev main_cst_19 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_call1_v0 : Ref sig .tc := ⟨.hbm, 190, rfl⟩
abbrev main_call1_v1 : Ref sig .tc := ⟨.hbm, 191, rfl⟩
abbrev main_call1_cst : Ref sig .tc := ⟨.hbm, 192, rfl⟩
abbrev main_call1_v2 : Ref sig .tc := ⟨.hbm, 193, rfl⟩
abbrev main_call1_v3 : Ref sig .tc := ⟨.hbm, 194, rfl⟩
abbrev main_call1_cst_0 : Ref sig .tc := ⟨.hbm, 195, rfl⟩
abbrev main_call1_v4 : Ref sig .tc := ⟨.hbm, 196, rfl⟩
abbrev main_call1_v5 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_20 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_cst_21 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_call2_v0 : Ref sig .tc := ⟨.hbm, 219, rfl⟩
abbrev main_call2_v1 : Ref sig .tc := ⟨.hbm, 220, rfl⟩
abbrev main_call2_cst : Ref sig .tc := ⟨.hbm, 221, rfl⟩
abbrev main_call2_v2 : Ref sig .tc := ⟨.hbm, 222, rfl⟩
abbrev main_call2_v3 : Ref sig .tc := ⟨.hbm, 223, rfl⟩
abbrev main_call2_cst_0 : Ref sig .tc := ⟨.hbm, 224, rfl⟩
abbrev main_call2_v4 : Ref sig .tc := ⟨.hbm, 225, rfl⟩
abbrev main_call2_v5 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_22 : Ref sig .tc := ⟨.hbm, 232, rfl⟩
abbrev main_v183 : Ref sig .tc := ⟨.hbm, 233, rfl⟩
abbrev main_v184 : Ref sig .tc := ⟨.hbm, 234, rfl⟩
abbrev main_cst_23 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_24 : Ref sig .tc := ⟨.hbm, 242, rfl⟩
abbrev main_v191 : Ref sig .tc := ⟨.hbm, 243, rfl⟩
abbrev main_v192 : Ref sig .tc := ⟨.hbm, 244, rfl⟩
abbrev main_cst_25 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩

abbrev nD : Nat := 1
abbrev τ : Topo := Topo.v7x

variable {F : FTy → Type} [FloatOps F]
-- ==== Proof.Attn.Trip.lean ====
/- One trip of the attention kernel's loop over query tiles, run once at a symbolic trip: what it leaves in the
   score buffers, the maxima, the normalised block outputs and the output block, as functions of what it found. -/
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M`'s buffer on core `c`. -/
abbrev Bf (F : FTy → Type) [FloatOps F] (c : Dev nD) {sp : Space} {S : Shape} {e : EltTy} (M : Memref sig .tc sp S e) : Type :=
  Buf (Elt F) (M.view.loc (c : Thread nD τ))

/-- Memref `M`'s buffer on core `c`, held whole at `f`. -/
abbrev held (c : Dev nD) {sp : Space} {S : Shape} {e : EltTy} (M : Memref sig .tc sp S e) (f : Bf F c M) : sProp 𝕄 :=
  M.view.loc (c : Thread nD τ) ↦{fullShare} f

/-- Every tile has its four blocks of keys: the first condition holds at every trip. -/
theorem cond1_true : ∀ k : Fin k0_t1_loop.trips, k0_cond1 k = 1#1 := by decide +kernel
/-- The second condition holds at every trip. -/
theorem cond2_true : ∀ k : Fin k0_t1_loop.trips, k0_cond2 k = 1#1 := by decide +kernel
/-- The third condition holds at every trip. -/
theorem cond3_true : ∀ k : Fin k0_t1_loop.trips, k0_cond3 k = 1#1 := by decide +kernel
/-- The fourth condition holds at every trip. -/
theorem cond4_true : ∀ k : Fin k0_t1_loop.trips, k0_cond4 k = 1#1 := by decide +kernel

/-- One trip, with what it leaves in the five buffers it writes found by the run. -/
def trip (c : Dev nD) (i : grid0.Coords) (arg1 : Memref sig .tc .vmem S1x16x4x128x256 .bf16) (harg1 : arg1.IsWhole) (arg2 : Memref sig .tc .vmem S4096x128 .bf16) (harg2 : arg2.IsWhole) (arg3 : Memref sig .tc .vmem S1x2x80x4096 .bf16) (harg3 : arg3.IsWhole) (arg4 : Memref sig .tc .vmem S4096x512 .bf16) (harg4 : arg4.IsWhole) (arg5 : Memref sig .tc .vmem S4096x512 .f32) (harg5 : arg5.IsWhole) (arg6 : Memref sig .tc .vmem S4096x512 .f32) (harg6 : arg6.IsWhole) (arg7 : Memref sig .tc .vmem S2x1x512 .f32) (harg7 : arg7.IsWhole) (arg8 : Memref sig .tc .vmem S4x64x512 .f32) (harg8 : arg8.IsWhole)
    (v2 : IVec S128x256 1) (c0_i32_93 : BitVec 32) (k : Fin k0_t1_loop.trips)
    (X1 : Bf F c arg1) (X2 : Bf F c arg2) (X3 : Bf F c arg3) :
    Σ' (W4 : Bf F c arg4 → Bf F c arg5 → Bf F c arg6 → Bf F c arg7 → Bf F c arg8 → Bf F c arg4)
       (W5 : Bf F c arg4 → Bf F c arg5 → Bf F c arg6 → Bf F c arg7 → Bf F c arg8 → Bf F c arg5)
       (W6 : Bf F c arg4 → Bf F c arg5 → Bf F c arg6 → Bf F c arg7 → Bf F c arg8 → Bf F c arg6)
       (W7 : Bf F c arg4 → Bf F c arg5 → Bf F c arg6 → Bf F c arg7 → Bf F c arg8 → Bf F c arg7),
      {W8 : Bf F c arg4 → Bf F c arg5 → Bf F c arg6 → Bf F c arg7 → Bf F c arg8 → Bf F c arg8 //
        ∀ (f4 : Bf F c arg4) (f5 : Bf F c arg5) (f6 : Bf F c arg6) (f7 : Bf F c arg7) (f8 : Bf F c arg8),
          (iprop(held c arg1 X1 ∗ held c arg2 X2 ∗ held c arg3 X3 ∗ held c arg4 f4 ∗ held c arg5 f5 ∗ held c arg6 f6
              ∗ held c arg7 f7 ∗ held c arg8 f8) : sProp 𝕄)
            ⊢ wp Idealize.ShloMosaic.frame (wpE defs₀ Variants.none (c : Thread nD τ) none) Set.univ
                (k0_t1_body (F := F) i arg1 harg1 arg2 harg2 arg3 harg3 arg4 harg4 arg5 harg5 arg6 harg6 arg7 harg7 arg8 harg8 v2 c0_i32_93 k ())
                (fun _ => iprop(held c arg1 X1 ∗ held c arg2 X2 ∗ held c arg3 X3 ∗ held c arg4 (W4 f4 f5 f6 f7 f8)
                  ∗ held c arg5 (W5 f4 f5 f6 f7 f8) ∗ held c arg6 (W6 f4 f5 f6 f7 f8)
                  ∗ held c arg7 (W7 f4 f5 f6 f7 f8) ∗ held c arg8 (W8 f4 f5 f6 f7 f8)))} := by
  have hc1 := cond1_true k
  have hc2 := cond2_true k
  have hc3 := cond3_true k
  have hc4 := cond4_true k
  refine ⟨?_, ?_, ?_, ?_, ?_, fun f4 f5 f6 f7 f8 => ?run⟩
  case run =>
    unfold k0_t1_body
    iintro ⟨H1, H2, H3, H4, H5, H6, H7, H8⟩
    sl_exec_parts!
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.Attn

end
-- ==== Proof.Attn.Prologue.lean ====
/- The kernel before its loop, run once: the mask it computes, and the scores and column maxima of tile 0's first block it
   stores. -/
module

public import proofs.«01_k».proof.Proof.Attn.Trip

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The part before the loop, with the mask and what it leaves in the two buffers it writes found by the run. -/
def prologue (c : Dev nD) (i : grid0.Coords) (arg1 : Memref sig .tc .vmem S1x16x4x128x256 .bf16) (harg1 : arg1.IsWhole) (arg2 : Memref sig .tc .vmem S4096x128 .bf16) (harg2 : arg2.IsWhole) (arg3 : Memref sig .tc .vmem S1x2x80x4096 .bf16) (harg3 : arg3.IsWhole) (arg4 : Memref sig .tc .vmem S4096x512 .bf16) (harg4 : arg4.IsWhole) (arg5 : Memref sig .tc .vmem S4096x512 .f32) (harg5 : arg5.IsWhole) (arg6 : Memref sig .tc .vmem S4096x512 .f32) (harg6 : arg6.IsWhole) (arg7 : Memref sig .tc .vmem S2x1x512 .f32) (harg7 : arg7.IsWhole) (arg8 : Memref sig .tc .vmem S4x64x512 .f32) (harg8 : arg8.IsWhole)
    (X1 : Bf F c arg1) (X2 : Bf F c arg2) :
    Σ' (msk : IVec S128x256 1) (W5 : Bf F c arg5),
      {W7 : Bf F c arg7 → Bf F c arg7 //
        ∀ (f5 : Bf F c arg5) (f7 : Bf F c arg7),
          (iprop(held c arg1 X1 ∗ held c arg2 X2 ∗ held c arg5 f5 ∗ held c arg7 f7) : sProp 𝕄)
            ⊢ wp Idealize.ShloMosaic.frame (wpE defs₀ Variants.none (c : Thread nD τ) none) Set.univ
                (k0_part46 (F := F) i arg1 harg1 arg2 harg2 arg3 harg3 arg4 harg4 arg5 harg5 arg6 harg6 arg7 harg7 arg8 harg8)
                (fun r => iprop(⌜r = ⟨msk, 0#32⟩⌝ ∗ held c arg1 X1 ∗ held c arg2 X2 ∗ held c arg5 W5 ∗ held c arg7 (W7 f7)))} := by
  refine ⟨?_, ?_, ?_, fun f5 f7 => ?run⟩
  case run =>
    rw [k0_part46_eq_skeleton]; unfold k0_part46_skel
    iintro ⟨H1, H2, H5, H7⟩
    sl_exec_parts!
    sl_step
    isplitr
    · ipureintro; rfl
    isplitl [H1]; · iexact H1
    isplitl [H2]; · iexact H2
    isplitl [H5]; · iexact H5
    iexact H7

end Cert.Attn

end
-- ==== Proof.Attn.Vocab.lean ====
/- The names the attention kernel's values are spoken of by: the scores of one chunk of keys, the column maxima of a
   block of scores, the weighted values of a block, and the normalised block; and what a load of a buffer filled chunk
   by chunk reads. -/
module

public import proofs.«01_k».proof.Proof.Attn.Trip
public import Idealize.ShloMosaic.Lib.Pipeline.FrameBody
public import Idealize.ShloMosaic.Lib.Pipeline.Value

@[expose] public section

set_option maxRecDepth 16384

noncomputable section

namespace Cert.Attn

open Cert.KernelIdeal Cert.KernelIdeal.Gen
open Idealize.ShloMosaic Idealize.ShloMosaic.TcCoe

variable {F : FTy → Type} [FloatOps F]

/-- Rows `256 j … 256 j + 255` of a score buffer. -/
def crect (j : ℕ) : Rect S4096x512 := Rect.unit (s := S4096x512) ![256 * (j % 16), 0] S256x512.size (by
  intro a; fin_cases a
  · show 256 * (j % 16) + 256 ≤ 4096
    omega
  · show 0 + 512 ≤ 512
    omega)

/-- Rows `256 j … 256 j + 255` of the keys. -/
def krect (j : ℕ) : Rect S4096x128 := Rect.unit (s := S4096x128) ![256 * (j % 16), 0] S256x128.size (by
  intro a; fin_cases a
  · show 256 * (j % 16) + 256 ≤ 4096
    omega
  · show 0 + 128 ≤ 128
    omega)

/-- Columns `256 j … 256 j + 255` of group `g` of the transposed values. -/
def vrect (g j : ℕ) : Rect S1x2x80x4096 := Rect.unit (s := S1x2x80x4096) ![0, g % 2, 0, 256 * (j % 16)] S1x1x80x256.size (by
  intro a; fin_cases a
  · show 0 + 1 ≤ 1
    omega
  · show g % 2 + 1 ≤ 2
    omega
  · show 0 + 80 ≤ 80
    omega
  · show 256 * (j % 16) + 256 ≤ 4096
    omega)

/-- The column maxima's slot `b`. -/
def mrect (b : ℕ) : Rect S2x1x512 := Rect.unit (s := S2x1x512) ![b % 2, 0, 0] S1x1x512.size (by
  intro a; fin_cases a
  · show b % 2 + 1 ≤ 2
    omega
  · show 0 + 1 ≤ 1
    omega
  · show 0 + 512 ≤ 512
    omega)

/-- The maxima over the four quarters of a chunk of scores. -/
def cmax (Q : FVec F S128x512 .bf16) (kc : Vec F S256x128 .bf16) : FVec F S64x512 .f32 :=
  multiReduction .maximumf [0] S64x512 (shapeCast S4x64x512 (k0_pay9 Q kc) shapeCasts_S256x512_S4x64x512) 0xFF800000#32
    reduces_S4x64x512_S64x512 (.inl rfl) rfl

/-- The maxima so far, after chunk `n`. -/
def mx (Q : FVec F S128x512 .bf16) (kc : ℕ → Vec F S256x128 .bf16) : ℕ → FVec F S64x512 .f32
  | 0 => cmax Q (kc 0)
  | n + 1 => maximumf (mx Q kc n) (cmax Q (kc (n + 1)))

/-- The column maxima of a block of scores. -/
def colmax (Q : FVec F S128x512 .bf16) (kc : ℕ → Vec F S256x128 .bf16) : FVec F S1x1x512 .f32 := k0_pay237 (mx Q kc 15)

/-- The weighted values (and, in the rows below, the weights' sums) after chunk `n`. -/
def acc (s : ℕ → Vec F S256x512 .f32) (m : Vec F S1x1x512 .f32) (vt : ℕ → Vec F S1x1x80x256 .bf16) : ℕ → FVec F S80x512 .f32
  | 0 => k0_pay8 (s 0) m (vt 0)
  | n + 1 => addf (acc s m vt n) (k0_pay8 (s (n + 1)) m (vt (n + 1)))

/-- The weighted values over the weights' sums. -/
def quot (o : FVec F S80x512 .f32) : FVec F S1x64x512 .f32 :=
  shapeCast S1x64x512 (divf (extractStridedSlice S64x512 ![0, 0] o slices_S80x512_o0_0_S64x512)
    (broadcastTo S64x512 (extractStridedSlice S1x512 ![64, 0] o slices_S80x512_o64_0_S1x512) broadcasts_S1x512_S64x512))
    shapeCasts_S64x512_S1x64x512

/-- The normalised block of a block of scores `s` with column maxima `m`. -/
def yblk (s : ℕ → Vec F S256x512 .f32) (m : Vec F S1x1x512 .f32) (vt : ℕ → Vec F S1x1x80x256 .bf16) : FVec F S1x64x512 .f32 :=
  quot (acc s m vt 15)

/-- The first `n` chunks written over `tail`, the last first. -/
def rowsN (s : ℕ → Vec F S256x512 .f32) (tail : List (View.Piece (Elt F) S4096x512 .f32)) : ℕ → List (View.Piece (Elt F) S4096x512 .f32)
  | 0 => tail
  | n + 1 => ⟨crect n, s n⟩ :: rowsN s tail n

/-- Two chunks of a score buffer do not meet. -/
theorem crect_disjoint {i j : ℕ} (hi : i < 16) (hj : j < 16) (h : i ≠ j) : Disjoint (crect i).set (crect j).toLoadRect.set := by
  rw [Finset.disjoint_left]
  intro x hx hx'
  have h1 := (Rect.mem_set_unit.mp hx) 0
  have h2 := (Rect.mem_set_unit.mp hx') 0
  have h1' : 256 * (i % 16) ≤ (x 0 : ℕ) ∧ (x 0 : ℕ) < 256 * (i % 16) + 256 := h1
  have h2' : 256 * (j % 16) ≤ (x 0 : ℕ) ∧ (x 0 : ℕ) < 256 * (j % 16) + 256 := h2
  omega

/-- A load of chunk `j` from a buffer filled chunk by chunk reads that chunk. -/
theorem readCov_rowsN (v : View sig .tc .vmem S4096x512 .f32) (s : ℕ → Vec F S256x512 .f32)
    (tail : List (View.Piece (Elt F) S4096x512 .f32)) (j : ℕ) : ∀ n : ℕ, n ≤ 16 → j < n →
      v.readCov (rowsN s tail n) (crect j).toLoadRect = s j
  | 0, _, h => absurd h (by omega)
  | n + 1, hn, h => by
    rcases Nat.lt_succ_iff_lt_or_eq.mp h with h' | rfl
    · exact (View.readCov_cons_of_disjoint v ⟨crect n, s n⟩ _ _ (crect_disjoint (by omega) (by omega) (by omega))).trans
        (readCov_rowsN v s tail j n (by omega) h')
    · exact View.readCov_cons_toLoadRect v (crect j) (s j) _

/-- Slot `b` of the normalised blocks. -/
def yrect (b : ℕ) : Rect S4x64x512 := Rect.unit (s := S4x64x512) ![b % 4, 0, 0] S1x64x512.size (by
  intro a; fin_cases a
  · show b % 4 + 1 ≤ 4
    omega
  · show 0 + 64 ≤ 64
    omega
  · show 0 + 512 ≤ 512
    omega)

/-- Head `r` of query tile `t`. -/
def qrect (t r : ℕ) : Rect S1x16x4x128x256 := Rect.unit (s := S1x16x4x128x256) ![0, t % 16, r % 4, 0, 0] S1x1x1x128x256.size (by
  intro a; fin_cases a
  · show 0 + 1 ≤ 1
    omega
  · show t % 16 + 1 ≤ 16
    omega
  · show r % 4 + 1 ≤ 4
    omega
  · show 0 + 128 ≤ 128
    omega
  · show 0 + 256 ≤ 256
    omega)

/-- Weighted values that agree on the chunks they sum agree. -/
theorem acc_congr {s s' : ℕ → Vec F S256x512 .f32} (m : Vec F S1x1x512 .f32) (vt : ℕ → Vec F S1x1x80x256 .bf16) :
    ∀ n : ℕ, (∀ j, j ≤ n → s j = s' j) → acc s m vt n = acc s' m vt n
  | 0, h => by show k0_pay8 _ _ _ = k0_pay8 _ _ _; rw [h 0 le_rfl]
  | n + 1, h => by
    show addf _ (k0_pay8 _ _ _) = addf _ (k0_pay8 _ _ _)
    rw [acc_congr m vt n fun j hj => h j (by omega), h (n + 1) le_rfl]

theorem yblk_congr {s s' : ℕ → Vec F S256x512 .f32} {m m' : Vec F S1x1x512 .f32} (vt : ℕ → Vec F S1x1x80x256 .bf16)
    (h : ∀ j, j < 16 → s j = s' j) (hm : m = m') : yblk s m vt = yblk s' m' vt := by
  subst hm
  exact congrArg quot (acc_congr m vt 15 fun j hj => h j (by omega))

/-- The loop's trips are sixteen. -/
theorem lt16 (k : Fin k0_t1_loop.trips) : (k : ℕ) < 16 := k.isLt.trans_eq (by decide +kernel)

/-! ## What the kernel computes of its operands' contents -/

section Values

variable (v2 : IVec S128x256 1) (x1 : S1x16x4x128x256.Idx → Elt F .bf16) (x2 : S4096x128.Idx → Elt F .bf16)
  (x3 : S1x2x80x4096.Idx → Elt F .bf16)

/-- Chunk `j` of the keys. -/
def kch (j : ℕ) : Vec F S256x128 .bf16 := View.ld x2 (krect j)
/-- Chunk `j` of group `g`'s values. -/
def vch (g j : ℕ) : Vec F S1x1x80x256 .bf16 := View.ld x3 (vrect g j)
/-- The queries of head `r` of tile `t`. -/
def qch (t r : ℕ) : Vec F S1x1x1x128x256 .bf16 := View.ld x1 (qrect t r)

/-- The masked queries of block `b` of tile `t`: group 0's for the first two blocks, group 1's for the others. -/
def qm (t : ℕ) : ℕ → FVec F S128x512 .bf16
  | 0 => k0_pay4 v2 (qch x1 t 0) (qch x1 t 1)
  | 1 => k0_pay4 v2 (qch x1 t 2) (qch x1 t 3)
  | 2 => k0_pay63 v2 (qch x1 t 0) (qch x1 t 1)
  | _ => k0_pay63 v2 (qch x1 t 2) (qch x1 t 3)

/-- The stored scores of chunk `j` for the masked queries `Q`. -/
def sco (Q : FVec F S128x512 .bf16) (j : ℕ) : Vec F S256x512 .f32 := k0_pay10 Q (kch x2 j)

/-- The normalised block `b` of tile `t`. -/
def yv (t b : ℕ) : FVec F S1x64x512 .f32 :=
  yblk (sco x2 (qm v2 x1 t b)) (colmax (qm v2 x1 t b) (kch x2)) (vch x3 (b / 2))

/-- The output's columns `128 n … 128 n + 127` in tile `t`. -/
def ov (t : ℕ) : ℕ → FVec F S256x128 .bf16
  | 0 => k0_pay245 (yv v2 x1 x2 x3 t 0) (yv v2 x1 x2 x3 t 2)
  | 1 => k0_pay1 (k0_pay246 (yv v2 x1 x2 x3 t 0) (yv v2 x1 x2 x3 t 2))
  | 2 => k0_pay2 (yv v2 x1 x2 x3 t 1) (yv v2 x1 x2 x3 t 3)
  | _ => k0_pay3 (yv v2 x1 x2 x3 t 1) (yv v2 x1 x2 x3 t 3)

/-- The position within a tile's 256 rows and a group's 128 columns. -/
def oloc (y : S4096x512.Idx) : S256x128.Idx := fun a => match a with
  | ⟨0, _⟩ => ⟨(y 0 : ℕ) % 256, Nat.mod_lt _ (by decide)⟩
  | ⟨1, _⟩ => ⟨(y 1 : ℕ) % 128, Nat.mod_lt _ (by decide)⟩

/-- The output block. -/
def outv (y : S4096x512.Idx) : Elt F .bf16 := ov v2 x1 x2 x3 ((y 0 : ℕ) / 256) ((y 1 : ℕ) / 128) (oloc y)

end Values

/-- Two loads through rectangles of one size at equal offsets read the same. -/
theorem readAt_unit_congr {sp : Space} {s : Shape} {e : EltTy} (v : View sig .tc sp s e) (f : v.ty.Contents (Elt F))
    {off off' size : Fin s.rank → ℕ} (h : off = off') (inb : ∀ a, off a + size a ≤ s.size a)
    (inb' : ∀ a, off' a + size a ≤ s.size a) :
    v.readAt (Elt F) (Rect.unit off size inb).toLoadRect f = View.ld (v.read (Elt F) f) (Rect.unit off' size inb') := by
  subst h; rfl

section Words

variable (c : Dev nD) (arg1 : Memref sig .tc .vmem S1x16x4x128x256 .bf16) (arg2 : Memref sig .tc .vmem S4096x128 .bf16)
  (arg3 : Memref sig .tc .vmem S1x2x80x4096 .bf16) (arg5 arg6 : Memref sig .tc .vmem S4096x512 .f32)
  (arg7 : Memref sig .tc .vmem S2x1x512 .f32) (arg8 : Memref sig .tc .vmem S4x64x512 .f32)
  (v2 : IVec S128x256 1) (k : Fin k0_t1_loop.trips) (X1 : Bf F c arg1) (X2 : Bf F c arg2) (X3 : Bf F c arg3)
  (f5 : Bf F c arg5) (f7 : Bf F c arg7)
  (hc1 : k0_cond1 k = 1#1) (hc2 : k0_cond2 k = 1#1) (hc3 : k0_cond3 k = 1#1) (hc4 : k0_cond4 k = 1#1)

/-- The masked queries of the second block. -/
def qm1 : FVec F S128x512 .bf16 := k0_pay4 v2
  (arg1.view.readAt (Elt F) (Rect.unit (s := S1x16x4x128x256) (k0_off1 k) S1x1x1x128x256.size (k0_off1_inb k hc1)).toLoadRect X1)
  (arg1.view.readAt (Elt F) (Rect.unit (s := S1x16x4x128x256) (k0_off2 k) S1x1x1x128x256.size (k0_off2_inb k hc1)).toLoadRect X1)
/-- The masked queries of the third block. -/
def qm2 : FVec F S128x512 .bf16 := k0_pay63 v2
  (arg1.view.readAt (Elt F) (Rect.unit (s := S1x16x4x128x256) (k0_off3 k) S1x1x1x128x256.size (k0_off3_inb k hc2)).toLoadRect X1)
  (arg1.view.readAt (Elt F) (Rect.unit (s := S1x16x4x128x256) (k0_off4 k) S1x1x1x128x256.size (k0_off4_inb k hc2)).toLoadRect X1)
/-- The masked queries of the fourth block. -/
def qm3 : FVec F S128x512 .bf16 := k0_pay63 v2
  (arg1.view.readAt (Elt F) (Rect.unit (s := S1x16x4x128x256) (k0_off5 k) S1x1x1x128x256.size (k0_off5_inb k hc3)).toLoadRect X1)
  (arg1.view.readAt (Elt F) (Rect.unit (s := S1x16x4x128x256) (k0_off6 k) S1x1x1x128x256.size (k0_off6_inb k hc3)).toLoadRect X1)
/-- The masked queries of the next tile's first block. -/
def qm4 : FVec F S128x512 .bf16 := k0_pay4 v2
  (arg1.view.readAt (Elt F) (Rect.unit (s := S1x16x4x128x256) (k0_off7 k) S1x1x1x128x256.size (k0_off7_inb k hc4)).toLoadRect X1)
  (arg1.view.readAt (Elt F) (Rect.unit (s := S1x16x4x128x256) (k0_off8 k) S1x1x1x128x256.size (k0_off8_inb k hc4)).toLoadRect X1)
theorem qm1_eq : qm1 c arg1 v2 k X1 hc1 = qm v2 (arg1.view.read (Elt F) X1) k 1 :=
  congrArg₂ (k0_pay4 v2)
    (readAt_unit_congr _ _ ((k0_off1_eq k).trans (by rw [Nat.mod_eq_of_lt (lt16 k)])) _ _)
    (readAt_unit_congr _ _ ((k0_off2_eq k).trans (by rw [Nat.mod_eq_of_lt (lt16 k)])) _ _)
theorem qm2_eq : qm2 c arg1 v2 k X1 hc2 = qm v2 (arg1.view.read (Elt F) X1) k 2 :=
  congrArg₂ (k0_pay63 v2)
    (readAt_unit_congr _ _ ((k0_off3_eq k).trans (by rw [Nat.mod_eq_of_lt (lt16 k)])) _ _)
    (readAt_unit_congr _ _ ((k0_off4_eq k).trans (by rw [Nat.mod_eq_of_lt (lt16 k)])) _ _)
theorem qm3_eq : qm3 c arg1 v2 k X1 hc3 = qm v2 (arg1.view.read (Elt F) X1) k 3 :=
  congrArg₂ (k0_pay63 v2)
    (readAt_unit_congr _ _ ((k0_off5_eq k).trans (by rw [Nat.mod_eq_of_lt (lt16 k)])) _ _)
    (readAt_unit_congr _ _ ((k0_off6_eq k).trans (by rw [Nat.mod_eq_of_lt (lt16 k)])) _ _)
theorem qm4_eq : qm4 c arg1 v2 k X1 hc4 = qm v2 (arg1.view.read (Elt F) X1) (min (k + 1) 15) 0 :=
  congrArg₂ (k0_pay4 v2)
    (readAt_unit_congr _ _ ((k0_off7_eq k).trans (by rw [Nat.mod_eq_of_lt (show min ((k : ℕ) + 1) 15 < 16 by omega)])) _ _)
    (readAt_unit_congr _ _ ((k0_off8_eq k).trans (by rw [Nat.mod_eq_of_lt (show min ((k : ℕ) + 1) 15 < 16 by omega)])) _ _)

theorem H6_16_eq : trip.sl.H6_16 c arg1 arg2 v2 k X1 X2 hc1
    = rowsN (sco (arg2.view.read (Elt F) X2) (qm1 c arg1 v2 k X1 hc1)) [] 16 := rfl

theorem H5_16_eq : trip.sl.H5_16 c arg1 arg2 v2 k X1 X2 hc2
    = rowsN (sco (arg2.view.read (Elt F) X2) (qm2 c arg1 v2 k X1 hc2)) [] 16 := rfl

theorem H6_32_eq : trip.sl.H6_32 c arg1 arg2 v2 k X1 X2 hc1 hc3
    = rowsN (sco (arg2.view.read (Elt F) X2) (qm3 c arg1 v2 k X1 hc3)) (trip.sl.H6_16 c arg1 arg2 v2 k X1 X2 hc1) 16 := rfl

theorem H5_32_eq : trip.sl.H5_32 c arg1 arg2 v2 k X1 X2 hc2 hc4
    = rowsN (sco (arg2.view.read (Elt F) X2) (qm4 c arg1 v2 k X1 hc4)) (trip.sl.H5_16 c arg1 arg2 v2 k X1 X2 hc2) 16 := rfl

theorem H7_4_eq : trip.sl.H7_4 c arg1 arg2 v2 k X1 X2 hc1 hc2 hc3 hc4
    = [⟨mrect 0, colmax (qm4 c arg1 v2 k X1 hc4) (kch (arg2.view.read (Elt F) X2))⟩, ⟨mrect 1, colmax (qm3 c arg1 v2 k X1 hc3) (kch (arg2.view.read (Elt F) X2))⟩,
       ⟨mrect 0, colmax (qm2 c arg1 v2 k X1 hc2) (kch (arg2.view.read (Elt F) X2))⟩, ⟨mrect 1, colmax (qm1 c arg1 v2 k X1 hc1) (kch (arg2.view.read (Elt F) X2))⟩] := rfl

theorem H8_1_raw : trip.sl.H8_1 c arg3 arg5 arg7 X3 f5 f7
    = [⟨yrect 0, yblk (fun j => arg5.view.readAt (Elt F) (crect j).toLoadRect f5)
        (arg7.view.readAt (Elt F) (mrect 0).toLoadRect f7) (vch (arg3.view.read (Elt F) X3) 0)⟩] := rfl

theorem H8_2_raw : trip.sl.H8_2 c arg1 arg2 arg3 arg5 arg6 arg7 v2 k X1 X2 X3 hc1 f5 f7
    = ⟨yrect 1, yblk (fun j => arg6.view.readCov (trip.sl.H6_16 c arg1 arg2 v2 k X1 X2 hc1) (crect j).toLoadRect)
        (arg7.view.readCov (⟨mrect 1, colmax (qm1 c arg1 v2 k X1 hc1) (kch (arg2.view.read (Elt F) X2))⟩ :: []) (mrect 1).toLoadRect) (vch (arg3.view.read (Elt F) X3) 0)⟩
      :: trip.sl.H8_1 c arg3 arg5 arg7 X3 f5 f7 := rfl

theorem H8_3_raw : trip.sl.H8_3 c arg1 arg2 arg3 arg5 arg6 arg7 v2 k X1 X2 X3 hc1 hc2 f5 f7
    = ⟨yrect 2, yblk (fun j => arg5.view.readCov (trip.sl.H5_16 c arg1 arg2 v2 k X1 X2 hc2) (crect j).toLoadRect)
        (arg7.view.readCov (⟨mrect 0, colmax (qm2 c arg1 v2 k X1 hc2) (kch (arg2.view.read (Elt F) X2))⟩ ::
          ⟨mrect 1, colmax (qm1 c arg1 v2 k X1 hc1) (kch (arg2.view.read (Elt F) X2))⟩ :: []) (mrect 0).toLoadRect) (vch (arg3.view.read (Elt F) X3) 1)⟩
      :: trip.sl.H8_2 c arg1 arg2 arg3 arg5 arg6 arg7 v2 k X1 X2 X3 hc1 f5 f7 := rfl

theorem H8_4_raw : trip.sl.H8_4 c arg1 arg2 arg3 arg5 arg6 arg7 v2 k X1 X2 X3 hc1 hc2 hc3 f5 f7
    = ⟨yrect 3, yblk (fun j => arg6.view.readCov (trip.sl.H6_32 c arg1 arg2 v2 k X1 X2 hc1 hc3) (crect j).toLoadRect)
        (arg7.view.readCov (⟨mrect 1, colmax (qm3 c arg1 v2 k X1 hc3) (kch (arg2.view.read (Elt F) X2))⟩ ::
          ⟨mrect 0, colmax (qm2 c arg1 v2 k X1 hc2) (kch (arg2.view.read (Elt F) X2))⟩ ::
          ⟨mrect 1, colmax (qm1 c arg1 v2 k X1 hc1) (kch (arg2.view.read (Elt F) X2))⟩ :: []) (mrect 1).toLoadRect) (vch (arg3.view.read (Elt F) X3) 1)⟩
      :: trip.sl.H8_3 c arg1 arg2 arg3 arg5 arg6 arg7 v2 k X1 X2 X3 hc1 hc2 f5 f7 := rfl

/-- The four normalised blocks the trip leaves, where it found the tile's first block of scores and its maxima. -/
theorem H8_4_eq (h5 : ∀ j, j < 16 → arg5.view.readAt (Elt F) (crect j).toLoadRect f5 = sco (arg2.view.read (Elt F) X2) (qm v2 (arg1.view.read (Elt F) X1) k 0) j)
    (h7 : arg7.view.readAt (Elt F) (mrect 0).toLoadRect f7 = colmax (qm v2 (arg1.view.read (Elt F) X1) k 0) (kch (arg2.view.read (Elt F) X2))) :
    trip.sl.H8_4 c arg1 arg2 arg3 arg5 arg6 arg7 v2 k X1 X2 X3 hc1 hc2 hc3 f5 f7
      = [⟨yrect 3, yv v2 (arg1.view.read (Elt F) X1) (arg2.view.read (Elt F) X2) (arg3.view.read (Elt F) X3) k 3⟩, ⟨yrect 2, yv v2 (arg1.view.read (Elt F) X1) (arg2.view.read (Elt F) X2) (arg3.view.read (Elt F) X3) k 2⟩, ⟨yrect 1, yv v2 (arg1.view.read (Elt F) X1) (arg2.view.read (Elt F) X2) (arg3.view.read (Elt F) X3) k 1⟩,
         ⟨yrect 0, yv v2 (arg1.view.read (Elt F) X1) (arg2.view.read (Elt F) X2) (arg3.view.read (Elt F) X3) k 0⟩] := by
  have e0 := yblk_congr (vch (arg3.view.read (Elt F) X3) 0) (s := fun j => arg5.view.readAt (Elt F) (crect j).toLoadRect f5) h5 h7
  have e1 := yblk_congr (s' := sco (arg2.view.read (Elt F) X2) (qm v2 (arg1.view.read (Elt F) X1) k 1))
    (m' := colmax (qm v2 (arg1.view.read (Elt F) X1) k 1) (kch (arg2.view.read (Elt F) X2))) (vch (arg3.view.read (Elt F) X3) 0)
    (s := fun j => arg6.view.readCov (trip.sl.H6_16 c arg1 arg2 v2 k X1 X2 hc1) (crect j).toLoadRect)
    (fun j hj => (readCov_rowsN arg6.view (sco (arg2.view.read (Elt F) X2) (qm1 c arg1 v2 k X1 hc1)) [] j 16 le_rfl hj).trans
      (by rw [qm1_eq]))
    ((View.readCov_cons_toLoadRect arg7.view (mrect 1) (colmax (qm1 c arg1 v2 k X1 hc1) (kch (arg2.view.read (Elt F) X2))) []).trans
      (by rw [qm1_eq]))
  have e2 := yblk_congr (s' := sco (arg2.view.read (Elt F) X2) (qm v2 (arg1.view.read (Elt F) X1) k 2))
    (m' := colmax (qm v2 (arg1.view.read (Elt F) X1) k 2) (kch (arg2.view.read (Elt F) X2))) (vch (arg3.view.read (Elt F) X3) 1)
    (s := fun j => arg5.view.readCov (trip.sl.H5_16 c arg1 arg2 v2 k X1 X2 hc2) (crect j).toLoadRect)
    (fun j hj => (readCov_rowsN arg5.view (sco (arg2.view.read (Elt F) X2) (qm2 c arg1 v2 k X1 hc2)) [] j 16 le_rfl hj).trans
      (by rw [qm2_eq]))
    ((View.readCov_cons_toLoadRect arg7.view (mrect 0) (colmax (qm2 c arg1 v2 k X1 hc2) (kch (arg2.view.read (Elt F) X2)))
      (⟨mrect 1, colmax (qm1 c arg1 v2 k X1 hc1) (kch (arg2.view.read (Elt F) X2))⟩ :: [])).trans (by rw [qm2_eq]))
  have e3 := yblk_congr (s' := sco (arg2.view.read (Elt F) X2) (qm v2 (arg1.view.read (Elt F) X1) k 3))
    (m' := colmax (qm v2 (arg1.view.read (Elt F) X1) k 3) (kch (arg2.view.read (Elt F) X2))) (vch (arg3.view.read (Elt F) X3) 1)
    (s := fun j => arg6.view.readCov (trip.sl.H6_32 c arg1 arg2 v2 k X1 X2 hc1 hc3) (crect j).toLoadRect)
    (fun j hj => (readCov_rowsN arg6.view (sco (arg2.view.read (Elt F) X2) (qm3 c arg1 v2 k X1 hc3)) _ j 16 le_rfl hj).trans
      (by rw [qm3_eq]))
    ((View.readCov_cons_toLoadRect arg7.view (mrect 1) (colmax (qm3 c arg1 v2 k X1 hc3) (kch (arg2.view.read (Elt F) X2)))
      (⟨mrect 0, colmax (qm2 c arg1 v2 k X1 hc2) (kch (arg2.view.read (Elt F) X2))⟩ ::
          ⟨mrect 1, colmax (qm1 c arg1 v2 k X1 hc1) (kch (arg2.view.read (Elt F) X2))⟩ :: [])).trans (by rw [qm3_eq]))
  rw [H8_4_raw, H8_3_raw, H8_2_raw, H8_1_raw, e0, e1, e2, e3]
  rfl

end Words

end Cert.Attn

end
-- ==== Proof.Attn.Loop.lean ====
/- The loop over query tiles by its invariant: before trip `k` the first score buffer holds the scores of tile `k`'s
   first block, the maxima's first slot their column maxima, and the output's rows of the tiles before `k` their
   values. -/
module

public import proofs.«01_k».proof.Proof.Attn.Vocab
public import Idealize.ShloMosaic.Lib.WritesUnit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of chunk `j` from a buffer whose newest sixteen writes are the chunks reads that chunk. -/
theorem readAt_rowsN (v : View sig .tc .vmem S4096x512 .f32) (f : v.ty.Contents (Elt F)) (s : ℕ → Vec F S256x512 .f32)
    (tail : List (View.Piece (Elt F) S4096x512 .f32)) (j : ℕ) : ∀ n : ℕ, n ≤ 16 → j < n →
      v.readAt (Elt F) (crect j).toLoadRect (v.writes (Elt F) f (rowsN s tail n)) = s j
  | 0, _, h => absurd h (by omega)
  | n + 1, hn, h => by
    rcases Nat.lt_succ_iff_lt_or_eq.mp h with h' | rfl
    · rw [← readAt_rowsN v f s tail j n (by omega) h']
      funext x
      refine View.read_writes_cons_unit_of_not_mem v f _ _ _ _ rfl 0 ?_
      show 256 * (j % 16) + 1 * (x 0 : ℕ) < 256 * (n % 16) ∨ 256 * (n % 16) + 256 ≤ 256 * (j % 16) + 1 * (x 0 : ℕ)
      have hx : (x 0 : ℕ) < 256 := (x 0).isLt
      omega
    · funext x
      refine View.read_writes_cons_unit_of_mem v f _ _ _ _ x rfl fun a => ?_
      show (crect j).off a + 1 * (x a : ℕ) = _
      rw [Nat.one_mul]; rfl

/-- A load of a maxima's slot whose write is the newest reads it. -/
theorem readAt_slot (v : View sig .tc .vmem S2x1x512 .f32) (f : v.ty.Contents (Elt F)) (b : ℕ) (w : FVec F S1x1x512 .f32)
    (L : List (View.Piece (Elt F) S2x1x512 .f32)) :
    v.readAt (Elt F) (mrect b).toLoadRect (v.writes (Elt F) f (⟨mrect b, w⟩ :: L)) = w := by
  funext x
  refine View.read_writes_cons_unit_of_mem v f _ _ _ _ x rfl fun a => ?_
  show (mrect b).off a + 1 * (x a : ℕ) = _
  rw [Nat.one_mul]; rfl

section Values

variable (v2 : IVec S128x256 1) (x1 : S1x16x4x128x256.Idx → Elt F .bf16) (x2 : S4096x128.Idx → Elt F .bf16)
  (x3 : S1x2x80x4096.Idx → Elt F .bf16)

/-- What the loop knows before trip `k` of the output's, the first score buffer's and the maxima's contents. -/
def Known (c : Dev nD) (arg4 : Memref sig .tc .vmem S4096x512 .bf16) (arg5 : Memref sig .tc .vmem S4096x512 .f32)
    (arg7 : Memref sig .tc .vmem S2x1x512 .f32) (k : ℕ) (f4 : Bf F c arg4) (f5 : Bf F c arg5) (f7 : Bf F c arg7) : Prop :=
  (∀ j, j < 16 → arg5.view.readAt (Elt F) (crect j).toLoadRect f5 = sco x2 (qm v2 x1 (min k 15) 0) j)
    ∧ arg7.view.readAt (Elt F) (mrect 0).toLoadRect f7 = colmax (qm v2 x1 (min k 15) 0) (kch x2)
    ∧ ∀ y : S4096x512.Idx, (y 0 : ℕ) < 256 * k → arg4.view.read (Elt F) f4 y = outv v2 x1 x2 x3 y

/-- The four pieces of tile `k` leave its rows at the output's values and the rows before as they were. -/
theorem out_step (v : View sig .tc .vmem S4096x512 .bf16) (f : v.ty.Contents (Elt F)) (k : Fin k0_t1_loop.trips)
    (w0 w1 w2 w3 : Vec F S256x128 .bf16) (h0 : w0 = ov v2 x1 x2 x3 k 0) (h1 : w1 = ov v2 x1 x2 x3 k 1)
    (h2 : w2 = ov v2 x1 x2 x3 k 2) (h3 : w3 = ov v2 x1 x2 x3 k 3)
    (i0 : ∀ a, k0_off9 k a + S256x128.size a ≤ S4096x512.size a) (i1 : ∀ a, k0_off10 k a + S256x128.size a ≤ S4096x512.size a)
    (i2 : ∀ a, k0_off11 k a + S256x128.size a ≤ S4096x512.size a) (i3 : ∀ a, k0_off12 k a + S256x128.size a ≤ S4096x512.size a)
    (hf : ∀ y : S4096x512.Idx, (y 0 : ℕ) < 256 * k → v.read (Elt F) f y = outv v2 x1 x2 x3 y)
    (y : S4096x512.Idx) (hy : (y 0 : ℕ) < 256 * ((k : ℕ) + 1)) :
    v.read (Elt F) (v.writes (Elt F) f [⟨Rect.unit (s := S4096x512) (k0_off12 k) S256x128.size i3, w3⟩,
      ⟨Rect.unit (s := S4096x512) (k0_off11 k) S256x128.size i2, w2⟩,
      ⟨Rect.unit (s := S4096x512) (k0_off10 k) S256x128.size i1, w1⟩,
      ⟨Rect.unit (s := S4096x512) (k0_off9 k) S256x128.size i0, w0⟩]) y = outv v2 x1 x2 x3 y := by
  have e9 := k0_off9_eq k
  have e10 := k0_off10_eq k
  have e11 := k0_off11_eq k
  have e12 := k0_off12_eq k
  have hy1 : (y 1 : ℕ) < 512 := (y 1).isLt
  have hm : ∀ n : ℕ, ¬ (y 0 : ℕ) < 256 * k → (y 1 : ℕ) / 128 = n →
      ∀ a : Fin 2, (y a : ℕ) = (![256 * (k : ℕ), 128 * n] : Fin 2 → ℕ) a + (oloc y a : ℕ) := by
    intro n hk hn a
    fin_cases a
    · show (y 0 : ℕ) = 256 * (k : ℕ) + (y 0 : ℕ) % 256
      omega
    · show (y 1 : ℕ) = 128 * n + (y 1 : ℕ) % 128
      omega
  have hv : ∀ n : ℕ, ¬ (y 0 : ℕ) < 256 * k → (y 1 : ℕ) / 128 = n → ov v2 x1 x2 x3 k n (oloc y) = outv v2 x1 x2 x3 y := by
    intro n hk hn
    show _ = ov v2 x1 x2 x3 ((y 0 : ℕ) / 256) ((y 1 : ℕ) / 128) (oloc y)
    rw [hn, show (y 0 : ℕ) / 256 = k by omega]
  have miss : ∀ (off : Fin 2 → ℕ) (n : ℕ) (i : ∀ a, off a + S256x128.size a ≤ S4096x512.size a) (w : Vec F S256x128 .bf16)
      (L : List (View.Piece (Elt F) S4096x512 .bf16)), off = ![256 * (k : ℕ), 128 * n] → (y 1 : ℕ) / 128 ≠ n →
      v.read (Elt F) (v.writes (Elt F) f (⟨Rect.unit (s := S4096x512) off S256x128.size i, w⟩ :: L)) y
        = v.read (Elt F) (v.writes (Elt F) f L) y := by
    intro off n i w L he hn
    refine View.read_writes_cons_unit_of_not_mem v f i w L y he 1 ?_
    show (y 1 : ℕ) < 128 * n ∨ 128 * n + 128 ≤ (y 1 : ℕ)
    omega
  have hit : ∀ (off : Fin 2 → ℕ) (n : ℕ) (i : ∀ a, off a + S256x128.size a ≤ S4096x512.size a) (w : Vec F S256x128 .bf16)
      (L : List (View.Piece (Elt F) S4096x512 .bf16)), off = ![256 * (k : ℕ), 128 * n] → ¬ (y 0 : ℕ) < 256 * k →
      (y 1 : ℕ) / 128 = n → v.read (Elt F) (v.writes (Elt F) f (⟨Rect.unit (s := S4096x512) off S256x128.size i, w⟩ :: L)) y
        = w (oloc y) := by
    intro off n i w L he hk hn
    exact View.read_writes_cons_unit_of_mem v f i w L y (oloc y) he (hm n hk hn)
  have before : ∀ (off : Fin 2 → ℕ) (n : ℕ) (i : ∀ a, off a + S256x128.size a ≤ S4096x512.size a) (w : Vec F S256x128 .bf16)
      (L : List (View.Piece (Elt F) S4096x512 .bf16)), off = ![256 * (k : ℕ), 128 * n] → (y 0 : ℕ) < 256 * k →
      v.read (Elt F) (v.writes (Elt F) f (⟨Rect.unit (s := S4096x512) off S256x128.size i, w⟩ :: L)) y
        = v.read (Elt F) (v.writes (Elt F) f L) y := by
    intro off n i w L he hk
    exact View.read_writes_cons_unit_of_not_mem v f i w L y he 0 (Or.inl hk)
  have c9 : k0_off9 k = ![256 * (k : ℕ), 128 * 0] := e9
  have c10 : k0_off10 k = ![256 * (k : ℕ), 128 * 1] := e10
  have c11 : k0_off11 k = ![256 * (k : ℕ), 128 * 2] := e11
  have c12 : k0_off12 k = ![256 * (k : ℕ), 128 * 3] := e12
  by_cases hk : (y 0 : ℕ) < 256 * k
  · rw [before _ 3 _ _ _ c12 hk, before _ 2 _ _ _ c11 hk, before _ 1 _ _ _ c10 hk, before _ 0 _ _ _ c9 hk]
    exact hf y hk
  · have h4 : (y 1 : ℕ) / 128 = 3 ∨ (y 1 : ℕ) / 128 = 2 ∨ (y 1 : ℕ) / 128 = 1 ∨ (y 1 : ℕ) / 128 = 0 := by omega
    rcases h4 with h | h | h | h
    · rw [hit _ 3 _ _ _ c12 hk h, h3, hv 3 hk h]
    · rw [miss _ 3 _ _ _ c12 (by omega), hit _ 2 _ _ _ c11 hk h, h2, hv 2 hk h]
    · rw [miss _ 3 _ _ _ c12 (by omega), miss _ 2 _ _ _ c11 (by omega),
        hit _ 1 _ _ _ c10 hk h, h1, hv 1 hk h]
    · rw [miss _ 3 _ _ _ c12 (by omega), miss _ 2 _ _ _ c11 (by omega), miss _ 1 _ _ _ c10 (by omega),
        hit _ 0 _ _ _ c9 hk h, h0, hv 0 hk h]

end Values

section Slots

variable (v : View sig .tc .vmem S4x64x512 .f32) (y0 y1 y2 y3 : Vec F S1x64x512 .f32)

theorem yrect_disjoint {i j : ℕ} (h : i % 4 ≠ j % 4) : Disjoint (yrect i).set (yrect j).toLoadRect.set := by
  rw [Finset.disjoint_left]
  intro x hx hx'
  have h1 : i % 4 ≤ (x 0 : ℕ) ∧ (x 0 : ℕ) < i % 4 + 1 := (Rect.mem_set_unit.mp hx) 0
  have h2 : j % 4 ≤ (x 0 : ℕ) ∧ (x 0 : ℕ) < j % 4 + 1 := (Rect.mem_set_unit.mp hx') 0
  omega

theorem slot3 : v.readCov [⟨yrect 3, y3⟩, ⟨yrect 2, y2⟩, ⟨yrect 1, y1⟩, ⟨yrect 0, y0⟩] (yrect 3).toLoadRect = y3 :=
  View.readCov_cons_toLoadRect v _ _ _
theorem slot2 : v.readCov [⟨yrect 3, y3⟩, ⟨yrect 2, y2⟩, ⟨yrect 1, y1⟩, ⟨yrect 0, y0⟩] (yrect 2).toLoadRect = y2 :=
  (View.readCov_cons_of_disjoint v ⟨yrect 3, y3⟩ _ _ (yrect_disjoint (by decide))).trans (View.readCov_cons_toLoadRect v _ _ _)
theorem slot1 : v.readCov [⟨yrect 3, y3⟩, ⟨yrect 2, y2⟩, ⟨yrect 1, y1⟩, ⟨yrect 0, y0⟩] (yrect 1).toLoadRect = y1 :=
  (View.readCov_cons_of_disjoint v ⟨yrect 3, y3⟩ _ _ (yrect_disjoint (by decide))).trans
    ((View.readCov_cons_of_disjoint v ⟨yrect 2, y2⟩ _ _ (yrect_disjoint (by decide))).trans (View.readCov_cons_toLoadRect v _ _ _))
theorem slot0 : v.readCov [⟨yrect 3, y3⟩, ⟨yrect 2, y2⟩, ⟨yrect 1, y1⟩, ⟨yrect 0, y0⟩] (yrect 0).toLoadRect = y0 :=
  (View.readCov_cons_of_disjoint v ⟨yrect 3, y3⟩ _ _ (yrect_disjoint (by decide))).trans
    ((View.readCov_cons_of_disjoint v ⟨yrect 2, y2⟩ _ _ (yrect_disjoint (by decide))).trans
      ((View.readCov_cons_of_disjoint v ⟨yrect 1, y1⟩ _ _ (yrect_disjoint (by decide))).trans (View.readCov_cons_toLoadRect v _ _ _)))

end Slots

section Step

variable (c : Dev nD) (i : grid0.Coords) (arg1 : Memref sig .tc .vmem S1x16x4x128x256 .bf16) (harg1 : arg1.IsWhole) (arg2 : Memref sig .tc .vmem S4096x128 .bf16) (harg2 : arg2.IsWhole) (arg3 : Memref sig .tc .vmem S1x2x80x4096 .bf16) (harg3 : arg3.IsWhole) (arg4 : Memref sig .tc .vmem S4096x512 .bf16) (harg4 : arg4.IsWhole) (arg5 : Memref sig .tc .vmem S4096x512 .f32) (harg5 : arg5.IsWhole) (arg6 : Memref sig .tc .vmem S4096x512 .f32) (harg6 : arg6.IsWhole) (arg7 : Memref sig .tc .vmem S2x1x512 .f32) (harg7 : arg7.IsWhole) (arg8 : Memref sig .tc .vmem S4x64x512 .f32) (harg8 : arg8.IsWhole)
  (v2 : IVec S128x256 1) (c0_i32_93 : BitVec 32) (X1 : Bf F c arg1) (X2 : Bf F c arg2) (X3 : Bf F c arg3)

theorem trip_W5 (k : Fin k0_t1_loop.trips) (f4 : Bf F c arg4) (f5 : Bf F c arg5) (f6 : Bf F c arg6) (f7 : Bf F c arg7) (f8 : Bf F c arg8) :
    (trip c i arg1 harg1 arg2 harg2 arg3 harg3 arg4 harg4 arg5 harg5 arg6 harg6 arg7 harg7 arg8 harg8 v2 c0_i32_93 k X1 X2 X3).2.1 f4 f5 f6 f7 f8 = arg5.view.writes (Elt F) arg5.view.junk
      (trip.sl.H5_32 c arg1 arg2 v2 k X1 X2 (cond2_true k) (cond4_true k)) := by
  delta trip
  dsimp only

theorem trip_W7 (k : Fin k0_t1_loop.trips) (f4 : Bf F c arg4) (f5 : Bf F c arg5) (f6 : Bf F c arg6) (f7 : Bf F c arg7) (f8 : Bf F c arg8) :
    (trip c i arg1 harg1 arg2 harg2 arg3 harg3 arg4 harg4 arg5 harg5 arg6 harg6 arg7 harg7 arg8 harg8 v2 c0_i32_93 k X1 X2 X3).2.2.2.1 f4 f5 f6 f7 f8 = arg7.view.writes (Elt F) arg7.view.junk
      (trip.sl.H7_4 c arg1 arg2 v2 k X1 X2 (cond1_true k) (cond2_true k) (cond3_true k) (cond4_true k)) := by
  delta trip
  dsimp only

theorem trip_W4 (k : Fin k0_t1_loop.trips) (f4 : Bf F c arg4) (f5 : Bf F c arg5) (f6 : Bf F c arg6) (f7 : Bf F c arg7) (f8 : Bf F c arg8) :
    (trip c i arg1 harg1 arg2 harg2 arg3 harg3 arg4 harg4 arg5 harg5 arg6 harg6 arg7 harg7 arg8 harg8 v2 c0_i32_93 k X1 X2 X3).1 f4 f5 f6 f7 f8 = arg4.view.writes (Elt F) f4
      [⟨Rect.unit (s := S4096x512) (k0_off12 k) S256x128.size (k0_off12_inb k), k0_pay3
          (arg8.view.readCov (trip.sl.H8_4 c arg1 arg2 arg3 arg5 arg6 arg7 v2 k X1 X2 X3 (cond1_true k) (cond2_true k) (cond3_true k) f5 f7) (yrect 1).toLoadRect)
          (arg8.view.readCov (trip.sl.H8_4 c arg1 arg2 arg3 arg5 arg6 arg7 v2 k X1 X2 X3 (cond1_true k) (cond2_true k) (cond3_true k) f5 f7) (yrect 3).toLoadRect)⟩,
       ⟨Rect.unit (s := S4096x512) (k0_off11 k) S256x128.size (k0_off11_inb k), k0_pay2
          (arg8.view.readCov (trip.sl.H8_4 c arg1 arg2 arg3 arg5 arg6 arg7 v2 k X1 X2 X3 (cond1_true k) (cond2_true k) (cond3_true k) f5 f7) (yrect 1).toLoadRect)
          (arg8.view.readCov (trip.sl.H8_4 c arg1 arg2 arg3 arg5 arg6 arg7 v2 k X1 X2 X3 (cond1_true k) (cond2_true k) (cond3_true k) f5 f7) (yrect 3).toLoadRect)⟩,
       ⟨Rect.unit (s := S4096x512) (k0_off10 k) S256x128.size (k0_off10_inb k), k0_pay1 (k0_pay246
          (arg8.view.readCov (trip.sl.H8_4 c arg1 arg2 arg3 arg5 arg6 arg7 v2 k X1 X2 X3 (cond1_true k) (cond2_true k) (cond3_true k) f5 f7) (yrect 0).toLoadRect)
          (arg8.view.readCov (trip.sl.H8_4 c arg1 arg2 arg3 arg5 arg6 arg7 v2 k X1 X2 X3 (cond1_true k) (cond2_true k) (cond3_true k) f5 f7) (yrect 2).toLoadRect))⟩,
       ⟨Rect.unit (s := S4096x512) (k0_off9 k) S256x128.size (k0_off9_inb k), k0_pay245
          (arg8.view.readCov (trip.sl.H8_4 c arg1 arg2 arg3 arg5 arg6 arg7 v2 k X1 X2 X3 (cond1_true k) (cond2_true k) (cond3_true k) f5 f7) (yrect 0).toLoadRect)
          (arg8.view.readCov (trip.sl.H8_4 c arg1 arg2 arg3 arg5 arg6 arg7 v2 k X1 X2 X3 (cond1_true k) (cond2_true k) (cond3_true k) f5 f7) (yrect 2).toLoadRect)⟩] := by
  delta trip
  dsimp only
  rfl

/-- What a trip leaves is what the next trip needs. -/
theorem known_step (k : Fin k0_t1_loop.trips) (f4 : Bf F c arg4) (f5 : Bf F c arg5) (f6 : Bf F c arg6) (f7 : Bf F c arg7) (f8 : Bf F c arg8)
    (h : Known v2 (arg1.view.read (Elt F) X1) (arg2.view.read (Elt F) X2) (arg3.view.read (Elt F) X3) c arg4 arg5 arg7 k f4 f5 f7) :
    Known v2 (arg1.view.read (Elt F) X1) (arg2.view.read (Elt F) X2) (arg3.view.read (Elt F) X3) c arg4 arg5 arg7 ((k : ℕ) + 1)
      ((trip c i arg1 harg1 arg2 harg2 arg3 harg3 arg4 harg4 arg5 harg5 arg6 harg6 arg7 harg7 arg8 harg8 v2 c0_i32_93 k X1 X2 X3).1 f4 f5 f6 f7 f8)
      ((trip c i arg1 harg1 arg2 harg2 arg3 harg3 arg4 harg4 arg5 harg5 arg6 harg6 arg7 harg7 arg8 harg8 v2 c0_i32_93 k X1 X2 X3).2.1 f4 f5 f6 f7 f8)
      ((trip c i arg1 harg1 arg2 harg2 arg3 harg3 arg4 harg4 arg5 harg5 arg6 harg6 arg7 harg7 arg8 harg8 v2 c0_i32_93 k X1 X2 X3).2.2.2.1 f4 f5 f6 f7 f8) := by
  have hk : min (k : ℕ) 15 = k := by have := lt16 k; omega
  obtain ⟨h5, h7, h4⟩ := h
  rw [hk] at h5 h7
  have hH := H8_4_eq c arg1 arg2 arg3 arg5 arg6 arg7 v2 k X1 X2 X3 f5 f7 (cond1_true k) (cond2_true k) (cond3_true k) h5 h7
  rw [trip_W4, trip_W5, trip_W7, H5_32_eq, H7_4_eq, hH, slot0, slot1, slot2, slot3]
  refine ⟨fun j hj => ?_, ?_, out_step v2 _ _ _ arg4.view f4 k _ _ _ _ rfl rfl rfl rfl _ _ _ _ h4⟩
  · rw [readAt_rowsN _ _ _ _ j 16 le_rfl hj, qm4_eq]
  · rw [readAt_slot, qm4_eq]

/-- The loop's invariant. -/
def invAt (k : ℕ) : sProp 𝕄 :=
  iprop(held c arg1 X1 ∗ held c arg2 X2 ∗ held c arg3 X3
    ∗ ∃ (f4 : Bf F c arg4), ∃ (f5 : Bf F c arg5), ∃ (f6 : Bf F c arg6), ∃ (f7 : Bf F c arg7), ∃ (f8 : Bf F c arg8),
      held c arg4 f4 ∗ held c arg5 f5 ∗ held c arg6 f6 ∗ held c arg7 f7 ∗ held c arg8 f8
        ∗ ⌜Known v2 (arg1.view.read (Elt F) X1) (arg2.view.read (Elt F) X2) (arg3.view.read (Elt F) X3) c arg4 arg5 arg7 k f4 f5 f7⌝)

set_option warn.classDefReducibility false in
/-- The loop keeps it. -/
def loopInv : LoopInvTy_k0_t1 (F := F) Unit ℕ (UR sig nD τ) ℕ Variants.none c none Set.univ i arg1 harg1 arg2 harg2 arg3 harg3 arg4 harg4 arg5 harg5 arg6 harg6 arg7 harg7 arg8 harg8 v2 c0_i32_93 where
  inv k _ := invAt c arg1 arg2 arg3 arg4 arg5 arg6 arg7 arg8 v2 X1 X2 X3 k
  step k _ := by
    unfold invAt
    iintro ⟨H1, H2, H3, ⟨%f4, %f5, %f6, %f7, %f8, H4, H5, H6, H7, H8, %h⟩⟩
    iapply (wp_wand_r Idealize.ShloMosaic.frame (wpE (defs₀ (F := F)) Variants.none (c : Thread nD τ) none) Set.univ)
    isplitl [H1 H2 H3 H4 H5 H6 H7 H8]
    · iapply ((trip c i arg1 harg1 arg2 harg2 arg3 harg3 arg4 harg4 arg5 harg5 arg6 harg6 arg7 harg7 arg8 harg8 v2 c0_i32_93 k X1 X2 X3).2.2.2.2.2 f4 f5 f6 f7 f8)
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro %_ ⟨H1, H2, H3, H4, H5, H6, H7, H8⟩
      isplitl [H1]; · iexact H1
      isplitl [H2]; · iexact H2
      isplitl [H3]; · iexact H3
      iexists _; iexists _; iexists _; iexists _; iexists _
      isplitl [H4]; · iexact H4
      isplitl [H5]; · iexact H5
      isplitl [H6]; · iexact H6
      isplitl [H7]; · iexact H7
      isplitl [H8]; · iexact H8
      ipureintro
      exact known_step c i arg1 harg1 arg2 harg2 arg3 harg3 arg4 harg4 arg5 harg5 arg6 harg6 arg7 harg7 arg8 harg8 v2 c0_i32_93 X1 X2 X3 k f4 f5 f6 f7 f8 h

end Step

end Cert.Attn

end
-- ==== Proof.Attn.Body.lean ====
/- The attention kernel's body on one block: what comes before the loop, the loop by its invariant, and the output
   block it leaves. From it the pipeline's proof data and the run. -/
module

public import proofs.«01_k».proof.Proof.Attn.Prologue
public import proofs.«01_k».proof.Proof.Attn.Loop
public import proofs.«01_k».proof.Proof.Gen.KernelIdeal.Points

@[expose] public section

set_option maxRecDepth 16384

noncomputable section

namespace Cert.Attn

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid0.Coords) (arg1 : Memref sig .tc .vmem S1x16x4x128x256 .bf16) (harg1 : arg1.IsWhole) (arg2 : Memref sig .tc .vmem S4096x128 .bf16) (harg2 : arg2.IsWhole) (arg3 : Memref sig .tc .vmem S1x2x80x4096 .bf16) (harg3 : arg3.IsWhole) (arg4 : Memref sig .tc .vmem S4096x512 .bf16) (harg4 : arg4.IsWhole) (arg5 : Memref sig .tc .vmem S4096x512 .f32) (harg5 : arg5.IsWhole) (arg6 : Memref sig .tc .vmem S4096x512 .f32) (harg6 : arg6.IsWhole) (arg7 : Memref sig .tc .vmem S2x1x512 .f32) (harg7 : arg7.IsWhole) (arg8 : Memref sig .tc .vmem S4x64x512 .f32) (harg8 : arg8.IsWhole)
  (X1 : Bf F c arg1) (X2 : Bf F c arg2) (X3 : Bf F c arg3)

/-- The part before the loop leaves what the loop needs at its first trip. -/
theorem known_zero (f4 : Bf F c arg4) (f7 : Bf F c arg7) :
    Known k0_pay247 (arg1.view.read (Elt F) X1) (arg2.view.read (Elt F) X2) (arg3.view.read (Elt F) X3) c arg4 arg5 arg7 0 f4
      (prologue c i arg1 harg1 arg2 harg2 arg3 harg3 arg4 harg4 arg5 harg5 arg6 harg6 arg7 harg7 arg8 harg8 X1 X2).2.1
      ((prologue c i arg1 harg1 arg2 harg2 arg3 harg3 arg4 harg4 arg5 harg5 arg6 harg6 arg7 harg7 arg8 harg8 X1 X2).2.2.1 f7) := by
  have e5 : (prologue c i arg1 harg1 arg2 harg2 arg3 harg3 arg4 harg4 arg5 harg5 arg6 harg6 arg7 harg7 arg8 harg8 X1 X2).2.1 = arg5.view.writes (Elt F) arg5.view.junk
      (rowsN (sco (arg2.view.read (Elt F) X2) (qm k0_pay247 (arg1.view.read (Elt F) X1) 0 0)) [] 16) := by
    delta prologue
    dsimp only
    rfl
  have e7 : (prologue c i arg1 harg1 arg2 harg2 arg3 harg3 arg4 harg4 arg5 harg5 arg6 harg6 arg7 harg7 arg8 harg8 X1 X2).2.2.1 f7 = arg7.view.writes (Elt F) f7
      (⟨mrect 0, colmax (qm k0_pay247 (arg1.view.read (Elt F) X1) 0 0) (kch (arg2.view.read (Elt F) X2))⟩ :: []) := by
    delta prologue
    dsimp only
    rfl
  refine ⟨fun j hj => (congrArg (arg5.view.readAt (Elt F) (crect j).toLoadRect) e5).trans ?_,
    (congrArg (arg7.view.readAt (Elt F) (mrect 0).toLoadRect) e7).trans ?_, fun y hy => absurd hy (by omega)⟩
  · rw [readAt_rowsN _ _ _ _ j 16 le_rfl hj]; rfl
  · rw [readAt_slot]; rfl

/-- The loop by its invariant, with what comes after it. -/
theorem loop_run (v2 : IVec S128x256 1) {β : Type} {kk : Unit → Prog (TpuEff nD τ sig (Elt F) Λ₀ .tc) β} {Q : β → sProp 𝕄} :
    invAt c arg1 arg2 arg3 arg4 arg5 arg6 arg7 arg8 v2 X1 X2 X3 0
      ⊢ iprop((∀ acc : Unit, invAt c arg1 arg2 arg3 arg4 arg5 arg6 arg7 arg8 v2 X1 X2 X3 k0_t1_loop.trips
            -∗ wp Idealize.ShloMosaic.frame (wpE (defs₀ (F := F)) Variants.none (c : Thread nD τ) none) Set.univ (kk acc) Q)
          -∗ wp Idealize.ShloMosaic.frame (wpE (defs₀ (F := F)) Variants.none (c : Thread nD τ) none) Set.univ
              (Scf.Loop.for k0_t1_loop k0_t1_ok ⟨⟩ (k0_t1_body (F := F) i arg1 harg1 arg2 harg2 arg3 harg3 arg4 harg4 arg5 harg5 arg6 harg6 arg7 harg7 arg8 harg8 v2 0#32) >>= kk) Q) :=
  exec_loop Idealize.ShloMosaic.frame (wpE (defs₀ (F := F)) Variants.none (c : Thread nD τ) none) Set.univ
    k0_t1_loop.lb k0_t1_loop.ub k0_t1_loop.st k0_t1_ok ()
    (k0_t1_body (F := F) i arg1 harg1 arg2 harg2 arg3 harg3 arg4 harg4 arg5 harg5 arg6 harg6 arg7 harg7 arg8 harg8 v2 0#32) (loopInv c i arg1 harg1 arg2 harg2 arg3 harg3 arg4 harg4 arg5 harg5 arg6 harg6 arg7 harg7 arg8 harg8 v2 0#32 X1 X2 X3)

/-- The body: it leaves the output block at its value and its operands as they were. -/
theorem body_run (f4 : Bf F c arg4) (f5 : Bf F c arg5) (f6 : Bf F c arg6) (f7 : Bf F c arg7) (f8 : Bf F c arg8) :
    (iprop(held c arg1 X1 ∗ held c arg2 X2 ∗ held c arg3 X3 ∗ held c arg4 f4 ∗ held c arg5 f5 ∗ held c arg6 f6
        ∗ held c arg7 f7 ∗ held c arg8 f8) : sProp 𝕄)
      ⊢ wp Idealize.ShloMosaic.frame (wpE defs₀ Variants.none (c : Thread nD τ) none) Set.univ
          (cc0_attention (F := F) i arg1 harg1 arg2 harg2 arg3 harg3 arg4 harg4 arg5 harg5 arg6 harg6 arg7 harg7 arg8 harg8)
          (fun _ => iprop(held c arg1 X1 ∗ held c arg2 X2 ∗ held c arg3 X3
            ∗ (∃ f : Bf F c arg4, held c arg4 f ∗ ⌜arg4.view.read (Elt F) f
                = outv k0_pay247 (arg1.view.read (Elt F) X1) (arg2.view.read (Elt F) X2) (arg3.view.read (Elt F) X3)⌝)
            ∗ (∃ f : Bf F c arg5, held c arg5 f) ∗ (∃ f : Bf F c arg6, held c arg6 f)
            ∗ (∃ f : Bf F c arg7, held c arg7 f) ∗ (∃ f : Bf F c arg8, held c arg8 f))) := by
  rw [cc0_attention_eq_skeleton]; unfold cc0_attention_skel
  rw [wp_bind]
  iintro ⟨H1, H2, H3, H4, H5, H6, H7, H8⟩
  iapply (wp_wand_r Idealize.ShloMosaic.frame (wpE (defs₀ (F := F)) Variants.none (c : Thread nD τ) none) Set.univ)
  isplitl [H1 H2 H5 H7]
  · iapply ((prologue c i arg1 harg1 arg2 harg2 arg3 harg3 arg4 harg4 arg5 harg5 arg6 harg6 arg7 harg7 arg8 harg8 X1 X2).2.2.2 f5 f7)
    isplitl [H1]; · iexact H1
    isplitl [H2]; · iexact H2
    isplitl [H5]; · iexact H5
    iexact H7
  iintro %r ⟨%hr, H1, H2, H5, H7⟩
  subst hr
  dsimp only
  iapply (loop_run c i arg1 harg1 arg2 harg2 arg3 harg3 arg4 harg4 arg5 harg5 arg6 harg6 arg7 harg7 arg8 harg8 X1 X2 X3 (prologue c i arg1 harg1 arg2 harg2 arg3 harg3 arg4 harg4 arg5 harg5 arg6 harg6 arg7 harg7 arg8 harg8 X1 X2).1) $$ [H1 H2 H3 H4 H5 H6 H7 H8]
  · unfold invAt
    isplitl [H1]; · iexact H1
    isplitl [H2]; · iexact H2
    isplitl [H3]; · iexact H3
    iexists _; iexists _; iexists _; iexists _; iexists _
    isplitl [H4]; · iexact H4
    isplitl [H5]; · iexact H5
    isplitl [H6]; · iexact H6
    isplitl [H7]; · iexact H7
    isplitl [H8]; · iexact H8
    ipureintro
    exact known_zero c i arg1 harg1 arg2 harg2 arg3 harg3 arg4 harg4 arg5 harg5 arg6 harg6 arg7 harg7 arg8 harg8 X1 X2 X3 f4 f7
  iintro %acc HI
  unfold invAt
  sl_step
  icases HI with ⟨H1, H2, H3, ⟨%g4, %g5, %g6, %g7, %g8, H4, H5, H6, H7, H8, %h⟩⟩
  isplitl [H1]; · iexact H1
  isplitl [H2]; · iexact H2
  isplitl [H3]; · iexact H3
  isplitl [H4]
  · iexists _
    isplitl [H4]; · iexact H4
    ipureintro
    exact funext fun y => h.2.2 y (lt_of_lt_of_eq (show (y 0 : ℕ) < 4096 from (y 0).isLt) (by decide +kernel))
  isplitl [H5]; · iexists _; iexact H5
  isplitl [H6]; · iexists _; iexact H6
  isplitl [H7]; · iexists _; iexact H7
  iexists _; iexact H8

end Body

end Cert.Attn

end
-- ==== Proof.Attn.Run.lean ====
/- The attention's pipeline: each point's body leaves the output block of its operands' blocks, whatever its scratch
   buffers hold; so the program runs to its end with every array at what the blocks make of it. -/
module

public import proofs.«01_k».proof.Proof.Attn.Body
public import Idealize.ShloMosaic.Lib.Pipeline.Kit
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole buffer owned at what it reads is the buffer held at some contents that read so. -/
theorem owns_held (c : Dev nD) {sp : Space} {S : Shape} {e : EltTy} (M : Memref sig .tc sp S e) (h : M.IsWhole) (x : S.Idx → Elt F e) :
    (owns (c : Thread nD τ) M fullShare x : sProp 𝕄) = iprop(∃ f : Bf F c M, ⌜M.view.read (Elt F) f = x⌝ ∗ held c M f) := by
  unfold owns held
  rw [h.set_eq_univ]

variable (m : (ℓ : Loc nD τ sig) → Buf (Elt F) ℓ) (ρ : Dev nD → PrngReg)

/-- What the pipeline is proved with: every operand's buffer at its block after each point, the result's at the output
    block of the three. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outv k0_pay247 (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by dsimp only [dats]
theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) :
    (dats m 0 c).after 3 t = outv k0_pay247 (iblk m c 0 t) (iblk m c 1 t) (iblk m c 2 t) := by dsimp only [dats]

/-- One point: from the operands' buffers at their blocks and everything else at anything. -/
theorem point (c : Dev nD) (t : Fin cfg0.N) :
    (iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))) : sProp 𝕄)
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t))) := by
  have w0 : (st0_0 t).IsWhole := hstage0_0 ((cfg0.slots t 0).cast nbuf0_0)
  have w1 : (st0_1 t).IsWhole := hstage0_1 ((cfg0.slots t 1).cast nbuf0_1)
  have w2 : (st0_2 t).IsWhole := hstage0_2 ((cfg0.slots t 2).cast nbuf0_2)
  have w3 : (st0_3 t).IsWhole := hstage0_3 ((cfg0.slots t 3).cast nbuf0_3)
  have b0 : ∀ d, (dats m 0 c).before 0 t d = iblk m c 0 t := before0_0_of m (dats m 0 c) (dats_A m c 0) (dats_after0 m c) t
  have b1 : ∀ d, (dats m 0 c).before 1 t d = iblk m c 1 t := before0_1_of m (dats m 0 c) (dats_A m c 1) (dats_after1 m c) t
  have b2 : ∀ d, (dats m 0 c).before 2 t d = iblk m c 2 t := before0_2_of m (dats m 0 c) (dats_A m c 2) (dats_after2 m c) t
  unfold bodyAt0
  simp only [b0, b1, b2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    dats_after0, dats_after1, dats_after2, dats_after3]
  unfold Pipeline.ΦA
  rw [scopedRest0_eq, owns_held c _ w0, owns_held c _ w1, owns_held c _ w2, owns_held c _ w3]
  simp only [owns_held c _ w3]
  iintro ⟨⟨⟨⟨%f5, H5⟩, ⟨%f6, H6⟩, ⟨%f7, H7⟩, ⟨%f8, H8⟩⟩, Hg⟩, Ho, ⟨%d1, %f1, %h1, H1⟩, ⟨%d2, %f2, %h2, H2⟩, ⟨%d3, %f3, %h3, H3⟩, ⟨%d4, %f4, %h4, H4⟩⟩
  iapply (wp_wand_r Idealize.ShloMosaic.frame (wpE (defs₀ (F := F)) Variants.none (c : Thread nD τ) none) Set.univ)
  isplitl [H1 H2 H3 H4 H5 H6 H7 H8]
  · iapply (body_run c (grid0.coords t) _ w0 _ w1 _ w2 _ w3 (Memref.whole cc0_scratch0) (Memref.isWhole_whole _)
      (Memref.whole cc0_scratch1) (Memref.isWhole_whole _) (Memref.whole cc0_scratch2) (Memref.isWhole_whole _)
      (Memref.whole cc0_scratch3) (Memref.isWhole_whole _) f1 f2 f3 f4 f5 f6 f7 f8)
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %_ ⟨H1, H2, H3, ⟨%g4, H4, %e4⟩, H5, H6, H7, H8⟩
  isplitl [H5 H6 H7 H8 Hg]
  · isplitr [Hg]
    · isplitl [H5]; · iexact H5
      isplitl [H6]; · iexact H6
      isplitl [H7]; · iexact H7
      iexact H8
    · iexact Hg
  isplitl [Ho]; · iexact Ho
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  iexists g4; isplitr
  · ipureintro; rw [e4, h1, h2, h3]
  iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
set_option maxHeartbeats 800000 in
/-- The attention runs to its end, from any memory with zero counters: every array as the blocks make it, and every
    counter at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- Its arguments end as they were, and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run m ρ)))
    ((θ_run defs _ _).mono (fun _ h => h.2) (run m ρ))

end Cert.Attn

end
-- ==== Proof.Frames.lean ====
module

public import proofs.«01_k».proof.Defs
public import proofs.«01_k».proof.Proof.Attn.Run
public import proofs.«01_k».proof.Proof.Gen.Kernel
public import proofs.«01_k».proof.Proof.Gen.Ffn.Frame
public import proofs.«01_k».proof.Proof.Gen.FfnIdeal.Frame
public import proofs.«01_k».proof.Proof.Gen.ReferenceIdeal.Run
public import proofs.«01_k».proof.Proof.Gen.FfnReferenceIdeal.Run
public import proofs.«01_k».proof.Proof.Gen.Post.Frame
public import proofs.«01_k».proof.Proof.Gen.PostIdeal.Frame
public import proofs.«01_k».proof.Proof.Gen.PostReferenceIdeal.Run
public import proofs.«01_k».proof.Proof.Gen.Inproj.Frame
public import proofs.«01_k».proof.Proof.Gen.InprojIdeal.Frame
public import proofs.«01_k».proof.Proof.Gen.InprojReferenceIdeal.Run
public import Idealize.ShloMosaic.Lib.Quiescent

@[expose] public section

noncomputable section

/-! # The frames: every program runs to its end with its arguments unchanged and its counters at zero -/

namespace Cert.Frames

open Idealize.ShloMosaic Idealize.SL.Sem

/-- The attention's two programs have one text, so one body, … -/
theorem body_eq : Cert.KernelIdeal.cc0_attention (F := Bits) = Cert.Kernel.cc0_attention (F := Bits) := by
  with_unfolding_all rfl

/-- … one table of bodies, … -/
theorem bodies_eq : Cert.KernelIdeal.defs₀ (F := Bits) = Cert.Kernel.defs₀ (F := Bits) := by
  unfold Cert.KernelIdeal.defs₀ Cert.Kernel.defs₀
  rw [body_eq]
  refine congrArg Defs.onTc ?_
  funext l a
  match l, a with
  | 0, (t, s) => rfl

/-- … and one table of pipelines. -/
theorem defs_eq : Cert.KernelIdeal.defs (F := Bits) = Cert.Kernel.defs (F := Bits) := by
  unfold Cert.KernelIdeal.defs Cert.Kernel.defs
  rw [bodies_eq]
  rfl

/-- The attention: one run of the program serves both float readings. -/
theorem frame_kernel : Cert.quiescent_Kernel := fun m ρ _ => by
  have h := Cert.Attn.kept (F := Bits) m ρ
  rw [defs_eq] at h
  exact h
theorem frame_kernelIdeal : Cert.quiescent_KernelIdeal := fun m ρ _ => Cert.Attn.kept (F := Ideal) m ρ

/-- The attention's reference runs on the host alone and has no counters. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ffn : Cert.quiescent_Ffn := fun m ρ _ => Cert.Ffn.Gen.frame m ρ
theorem frame_ffnIdeal : Cert.quiescent_FfnIdeal := fun m ρ _ => Cert.FfnIdeal.Gen.frame m ρ

/-- The FFN's reference runs on the host alone and has no counters. -/
theorem frame_ffnReferenceIdeal : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

theorem frame_post : Cert.quiescent_Post := fun m ρ _ => Cert.Post.Gen.frame m ρ
theorem frame_postIdeal : Cert.quiescent_PostIdeal := fun m ρ _ => Cert.PostIdeal.Gen.frame m ρ

/-- So does the reference of the layer's end. -/
theorem frame_postReferenceIdeal : Cert.quiescent_PostReferenceIdeal := fun m ρ _ =>
  (θ_run Cert.PostReferenceIdeal.defs _ _).mono
    (fun r h => ⟨fun c => (h c).2, Idealize.ShloMosaic.sem_eq_zero_of_no_sems (by decide) r.2⟩)
    (Cert.PostReferenceIdeal.Value.run (F := Ideal) m ρ)

theorem frame_inproj : Cert.quiescent_Inproj := fun m ρ _ => Cert.Inproj.Gen.frame m ρ
theorem frame_inprojIdeal : Cert.quiescent_InprojIdeal := fun m ρ _ => Cert.InprojIdeal.Gen.frame m ρ

/-- So does the reference of the combined projection. -/
theorem frame_inprojReferenceIdeal : Cert.quiescent_InprojReferenceIdeal := fun m ρ _ =>
  (θ_run Cert.InprojReferenceIdeal.defs _ _).mono
    (fun r h => ⟨fun c => (h c).2.2.2.2.2.2.2.2.2.2.2.2, Idealize.ShloMosaic.sem_eq_zero_of_no_sems (by decide) r.2⟩)
    (Cert.InprojReferenceIdeal.Value.run (F := Ideal) m ρ)

theorem preserves_kernel : Cert.preserves_Kernel_KernelIdeal := trivial
theorem preserves_ffn : Cert.preserves_Ffn_FfnIdeal := trivial
theorem preserves_post : Cert.preserves_Post_PostIdeal := trivial

/-- The named constant is the literal without its rounding. -/
theorem preserves_inproj : Cert.preserves_Inproj_InprojIdeal :=
  IdealRules.named_const.statement Cert.InprojIdeal.κ "scale" .f32 0x3E38AA3B#32 (((8 * Real.log 2)⁻¹ : ℝ) : EReal) rfl

end Cert.Frames

end
-- ==== Proof.Ffn.Spec.lean ====
module

public import Idealize.ShloMosaic.Lib.Pointwise
public import Mathlib.Analysis.SpecialFunctions.Trigonometric.DerivHyp

@[expose] public section

noncomputable section

/-! # The gated feed-forward layer over the extended reals, one row at a time -/

namespace Cert.Layer

open Idealize.ShloMosaic

/-- The row length, the norm's offset and one half, as the programs spell them. -/
abbrev width : EReal := Ideal.ofBits .f32 0x44800000#32
abbrev eps : EReal := Ideal.ofBits .f32 0x358637BD#32
abbrev half : EReal := Ideal.ofBits .f32 0x3F000000#32

/-- A row divided by its root mean square, then scaled entry by entry. -/
def normed (x g : Fin 1024 → EReal) (i : Fin 1024) : EReal :=
  x i * Ideal.rsqrt (Ideal.div (∑ k : Fin 1024, x k * x k) width + eps) * g i

/-- The gate of the layer. -/
def silu (z : EReal) : EReal := z * Ideal.div 1 (1 + Ideal.exp (-z))

/-- Two projections of a row, one gated, multiplied and projected back. -/
def gated (h : Fin 1024 → EReal) (wg wu : Fin 1024 → Fin 2816 → EReal) (wd : Fin 2816 → Fin 1024 → EReal)
    (n : Fin 1024) : EReal :=
  ∑ j : Fin 2816, silu (∑ i : Fin 1024, h i * wg i j) * (∑ i : Fin 1024, h i * wu i j) * wd j n

/-- The row with half the layer of its norm added. -/
def added (x g : Fin 1024 → EReal) (wg wu : Fin 1024 → Fin 2816 → EReal) (wd : Fin 2816 → Fin 1024 → EReal)
    (n : Fin 1024) : EReal :=
  x n + half * gated (normed x g) wg wu wd n

theorem half_eq : half = ((1 / 2 : ℝ) : EReal) := by
  simp [half, Ideal.ofBits, Ideal.ieee, -EReal.coe_mul]
  norm_num

/-- The hyperbolic tangent at half a real, shifted, is the logistic function. -/
theorem half_tanh_real (r : ℝ) : 1 / 2 * Real.tanh (1 / 2 * r) + 1 / 2 = 1 / (1 + Real.exp (-r)) := by
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add]; simp
  have p1 := Real.exp_pos (1 / 2 * r)
  have p2 := Real.exp_pos (-(1 / 2 * r))
  rw [Real.tanh_eq_sinh_div_cosh, Real.sinh_eq, Real.cosh_eq, e1]
  generalize Real.exp (1 / 2 * r) = a at *
  generalize Real.exp (-(1 / 2 * r)) = b at *
  have h1 : a + b ≠ 0 := by positivity
  have h2 : 1 + b * b ≠ 0 := by positivity
  field_simp
  linear_combination (2 * b) * e2

/-- The kernel's gate is the reference's, infinities included. -/
theorem half_tanh (z : EReal) : half * Ideal.tanh (half * z) + half = Ideal.div 1 (1 + Ideal.exp (-z)) := by
  rw [half_eq]
  induction z using EReal.rec with
  | bot =>
    rw [EReal.coe_mul_bot_of_pos (by norm_num)]
    simp only [Ideal.tanh_bot, EReal.neg_bot, Ideal.exp_top]
    rw [EReal.add_top_of_ne_bot (by decide)]
    unfold Ideal.div
    rw [if_neg (by decide), EReal.inv_top, mul_zero]
    rw [mul_neg, mul_one, ← EReal.coe_neg, ← EReal.coe_add]
    norm_num
  | top =>
    rw [EReal.coe_mul_top_of_pos (by norm_num)]
    simp only [Ideal.tanh_top, EReal.neg_top, Ideal.exp_bot, add_zero, mul_one]
    rw [← EReal.coe_add, show (1 : EReal) = ((1 : ℝ) : EReal) from rfl, Ideal.div_coe one_ne_zero, ← EReal.coe_mul]
    norm_num
  | coe r =>
    rw [← EReal.coe_neg, Ideal.exp_coe, ← EReal.coe_mul, Ideal.tanh_coe, ← EReal.coe_mul, ← EReal.coe_add,
      half_tanh_real, show (1 : EReal) = ((1 : ℝ) : EReal) from rfl, ← EReal.coe_add,
      Ideal.div_coe (by positivity), ← EReal.coe_mul, one_mul]

end Cert.Layer

end
-- ==== Proof.Ffn.Block.lean ====
module

public import proofs.«01_k».proof.Proof.Ffn.Spec
public import proofs.«01_k».proof.Proof.Gen.FfnIdeal.Value
public import proofs.«01_k».proof.Proof.Gen.FfnReferenceIdeal.Run

@[expose] public section

set_option maxRecDepth 16384

noncomputable section

/-! # What the body computes of one block, over the extended reals -/

namespace Cert.FfnIdeal.Block

open Cert.FfnIdeal Cert.FfnIdeal.Gen Cert.Layer Idealize.ShloMosaic Idealize.ShloMosaic.TcCoe

/-- The first half of the block's rows. -/
theorem upper (x : FVec Ideal S256x1024 .f32) (g : FVec Ideal S1x1024 .f32) (wg wu : FVec Ideal S1024x2816 .bf16)
    (wd : FVec Ideal S2816x1024 .bf16) (r : Fin 256) (n : Fin 1024) :
    k0_pay8 (F := Ideal) (k0_pay2 x) (k0_pay5 x g wg) (k0_pay6 x g wu) wd (ix2 r n)
      = added (fun k => x (ix2 r k)) (fun k => g (ix2 0 k)) (fun i j => wg (ix2 i j)) (fun i j => wu (ix2 i j))
          (fun j k => wd (ix2 j k)) n := by
  pointwise [k0_pay8, k0_pay2, k0_pay5, k0_pay6, k0_pay4]
  simp only [half_tanh]
  rfl

/-- The second half. -/
theorem lower (x : FVec Ideal S256x1024 .f32) (g : FVec Ideal S1x1024 .f32) (wg wu : FVec Ideal S1024x2816 .bf16)
    (wd : FVec Ideal S2816x1024 .bf16) (r : Fin 256) (n : Fin 1024) :
    k0_pay1 (F := Ideal) (k0_pay3 x) (k0_pay9 (k0_pay7 x g) wg wu wd) (Scalar.ofBits .f32 0x3F000000#32) (ix2 r n)
      = added (fun k => x (ix2 r k)) (fun k => g (ix2 0 k)) (fun i j => wg (ix2 i j)) (fun i j => wu (ix2 i j))
          (fun j k => wd (ix2 j k)) n := by
  pointwise [k0_pay1, k0_pay3, k0_pay9, k0_pay7]
  simp only [half_tanh]
  rfl

end Cert.FfnIdeal.Block

end
-- ==== Proof.Ffn.Value.lean ====
module

public import proofs.«01_k».proof.Defs
public import proofs.«01_k».proof.Proof.Ffn.Block
public import Idealize.ShloMosaic.Lib.Pipeline.ValueKit
public import Idealize.ShloMosaic.Lib.Tactic.CleanTypes

@[expose] public section

set_option maxRecDepth 16384

noncomputable section

/-! # The first feed-forward layer's result -/

namespace Cert.FfnIdeal.Result

open Cert.FfnIdeal Cert.FfnIdeal.Gen Cert.Layer Idealize.ShloMosaic Idealize.ShloMosaic.TcCoe Idealize.SL.Sem

/-- The layer of whole arrays: row `4096 b + s` of the result is the layer of row `(b, s)` of the argument. -/
def layer (x : FVec Ideal S8x4096x1024 .f32) (g : FVec Ideal S1x1024 .f32) (wg wu : FVec Ideal S1x1024x2816 .f32)
    (wd : FVec Ideal S1x2816x1024 .f32) : FVec Ideal S32768x1024 .f32 := fun i =>
  have h : (i 0).val < 32768 := (i 0).isLt
  added (fun k => x (ix3 ⟨(i 0).val / 4096, by omega⟩ ⟨(i 0).val % 4096, by omega⟩ k)) (fun k => g (ix2 0 k))
    (fun a b => wg (ix3 0 a b)) (fun a b => wu (ix3 0 a b)) (fun a b => wd (ix3 0 a b)) (i 1)

variable (m : (ℓ : Loc nD τ sig) → Buf (Elt Ideal) ℓ) (ρ : Dev nD → PrngReg)

theorem indices : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![t.val, 0] := by
  decide +kernel

/-- The blocks the body reads, by their entries: 512 rows of the argument, … -/
theorem rows_at (c : Dev nD) (t : Fin cfg0.N) (q : Fin 512) (k : Fin 1024) :
    iblk m c 0 t (ix2 q k) = m ((c : Thread nD τ).loc main_arg0)
      (ix3 ⟨(512 * t.val + q.val) / 4096, by have := t.isLt; have : cfg0.N = 64 := N_0; omega⟩
        ⟨(512 * t.val + q.val) % 4096, by omega⟩ k) := by
  have e : (win0_0.blk t).view.emb (ix2 q k) = ix2 ⟨512 * t.val + q.val, by have := t.isLt; have : cfg0.N = 64 := N_0; omega⟩ k := by
    blk_ext [(indices t).1]
  show V m c main_v0 ((win0_0.blk t).view.emb (ix2 q k)) = _
  rw [e]
  entry_read
  pointwise

/-- … the scales, … -/
theorem scale_at (c : Dev nD) (t : Fin cfg0.N) (k : Fin 1024) :
    iblk m c 1 t (ix2 0 k) = m ((c : Thread nD τ).loc main_arg1) (ix2 0 k) := by
  have e : (win0_1.blk t).view.emb (ix2 0 k) = ix2 0 k := by
    blk_ext [(indices t).2.1]
  show V m c main_v8 ((win0_1.blk t).view.emb (ix2 0 k)) = _
  rw [e]
  entry_read
  pointwise

/-- … and the weights whole. -/
theorem gate_at (c : Dev nD) (t : Fin cfg0.N) (a : Fin 1024) (b : Fin 2816) :
    iblk m c 2 t (ix2 a b) = m ((c : Thread nD τ).loc main_arg2) (ix3 0 a b) := by
  have e : (win0_2.blk t).view.emb (ix2 a b) = ix2 a b := by
    blk_ext [(indices t).2.2.1]
  show V m c main_v3 ((win0_2.blk t).view.emb (ix2 a b)) = _
  rw [e]
  entry_read
  pointwise

theorem up_at (c : Dev nD) (t : Fin cfg0.N) (a : Fin 1024) (b : Fin 2816) :
    iblk m c 3 t (ix2 a b) = m ((c : Thread nD τ).loc main_arg3) (ix3 0 a b) := by
  have e : (win0_3.blk t).view.emb (ix2 a b) = ix2 a b := by
    blk_ext [(indices t).2.2.2.1]
  show V m c main_v5 ((win0_3.blk t).view.emb (ix2 a b)) = _
  rw [e]
  entry_read
  pointwise

theorem down_at (c : Dev nD) (t : Fin cfg0.N) (a : Fin 2816) (b : Fin 1024) :
    iblk m c 4 t (ix2 a b) = m ((c : Thread nD τ).loc main_arg4) (ix3 0 a b) := by
  have e : (win0_4.blk t).view.emb (ix2 a b) = ix2 a b := by
    blk_ext [(indices t).2.2.2.2.1]
  show V m c main_v7 ((win0_4.blk t).view.emb (ix2 a b)) = _
  rw [e]
  entry_read
  pointwise

/-- One row of a block's layer is the row of the whole layer that the block is placed at. -/
theorem row_eq (c : Dev nD) (t : Fin cfg0.N) (q : Fin 512) (n : Fin 1024) (R : Fin 32768) (hR : R.val = 512 * t.val + q.val) :
    added (fun k => iblk m c 0 t (ix2 q k)) (fun k => iblk m c 1 t (ix2 0 k)) (fun i j => iblk m c 2 t (ix2 i j))
        (fun i j => iblk m c 3 t (ix2 i j)) (fun j k => iblk m c 4 t (ix2 j k)) n
      = layer (m ((c : Thread nD τ).loc main_arg0)) (m ((c : Thread nD τ).loc main_arg1))
        (m ((c : Thread nD τ).loc main_arg2)) (m ((c : Thread nD τ).loc main_arg3))
        (m ((c : Thread nD τ).loc main_arg4)) (ix2 R n) := by
  obtain ⟨R, hlt⟩ := R
  subst hR
  simp only [rows_at, scale_at, gate_at, up_at, down_at]
  rfl

/-- The result array. -/
theorem final (c : Dev nD) : (dats m 0 c).arrAt 5 cfg0.N
    = layer (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN : t.val < 64 := t.isLt
  blk_simp
  rw [after0_5]
  frame_out
  canon_tiles x h
  · obtain ⟨r, n, rfl⟩ : ∃ (r : Fin 256) (n : Fin 1024), x = ix2 r n := ⟨x 0, x 1, eq_ix2 x⟩
    replace h0 : (y 0).val = 256 + r.val := h0
    replace h1 : (y 1).val = n.val := h1
    have e : (win0_5.blk t).view.emb y = ix2 ⟨512 * t.val + (256 + r.val), by omega⟩ n := by
      blk_ext [(indices t).2.2.2.2.2]
    have l (k : Fin 1024) : View.ld (iblk m c 0 t) r0_1 (ix2 r k) = iblk m c 0 t (ix2 ⟨256 + r.val, by omega⟩ k) := by
      pointwise [r0_1]
    rw [Block.lower]
    refine Eq.trans ?_ (congrArg _ e.symm)
    simp only [l]
    exact row_eq m c t ⟨256 + r.val, by omega⟩ n _ rfl
  · obtain ⟨r, n, rfl⟩ : ∃ (r : Fin 256) (n : Fin 1024), x = ix2 r n := ⟨x 0, x 1, eq_ix2 x⟩
    replace h0 : (y 0).val = r.val := h0
    replace h1 : (y 1).val = n.val := h1
    have e : (win0_5.blk t).view.emb y = ix2 ⟨512 * t.val + r.val, by omega⟩ n := by
      blk_ext [(indices t).2.2.2.2.2]
    have l (k : Fin 1024) : View.ld (iblk m c 0 t) r0_0 (ix2 r k) = iblk m c 0 t (ix2 ⟨r.val, by omega⟩ k) := by
      pointwise [r0_0]
    rw [Block.upper]
    refine Eq.trans ?_ (congrArg _ e.symm)
    simp only [l]
    exact row_eq m c t ⟨r.val, by omega⟩ n _ rfl

/-- The reference's term is the layer. -/
theorem reference_eq (m' : (ℓ : Loc FfnReferenceIdeal.nD FfnReferenceIdeal.τ FfnReferenceIdeal.sig) → Buf (Elt Ideal) ℓ)
    (ρ' : Dev FfnReferenceIdeal.nD → PrngReg) :
    θ_run FfnReferenceIdeal.defs (onTc (τ := FfnReferenceIdeal.τ) (FfnReferenceIdeal.main (F := Ideal))) ⟨m', fun _ => 0, ρ'⟩
      fun r => ∀ c : Dev FfnReferenceIdeal.nD,
        r.2.mem ((c.tc : Thread _ _).loc FfnReferenceIdeal.main_v25)
            = layer (m' ((c.tc : Thread _ _).loc FfnReferenceIdeal.main_arg0)) (m' ((c.tc : Thread _ _).loc FfnReferenceIdeal.main_arg1))
              (m' ((c.tc : Thread _ _).loc FfnReferenceIdeal.main_arg2)) (m' ((c.tc : Thread _ _).loc FfnReferenceIdeal.main_arg3))
              (m' ((c.tc : Thread _ _).loc FfnReferenceIdeal.main_arg4))
        ∧ r.2.mem ((c.tc : Thread _ _).loc FfnReferenceIdeal.main_arg0) = m' ((c.tc : Thread _ _).loc FfnReferenceIdeal.main_arg0)
        ∧ r.2.mem ((c.tc : Thread _ _).loc FfnReferenceIdeal.main_arg1) = m' ((c.tc : Thread _ _).loc FfnReferenceIdeal.main_arg1)
        ∧ r.2.mem ((c.tc : Thread _ _).loc FfnReferenceIdeal.main_arg2) = m' ((c.tc : Thread _ _).loc FfnReferenceIdeal.main_arg2)
        ∧ r.2.mem ((c.tc : Thread _ _).loc FfnReferenceIdeal.main_arg3) = m' ((c.tc : Thread _ _).loc FfnReferenceIdeal.main_arg3)
        ∧ r.2.mem ((c.tc : Thread _ _).loc FfnReferenceIdeal.main_arg4) = m' ((c.tc : Thread _ _).loc FfnReferenceIdeal.main_arg4) := by
  refine (θ_run FfnReferenceIdeal.defs _ _).mono (fun _ h c => ⟨(h c).1.trans ?_, (h c).2⟩)
    (FfnReferenceIdeal.Value.run (F := Ideal) m' ρ')
  clear h
  funext i
  obtain ⟨i, j, rfl⟩ : ∃ (a : Fin 32768) (b : Fin 1024), i = ix2 a b := ⟨i 0, i 1, eq_ix2 i⟩
  generalize m' (c.tc.loc FfnReferenceIdeal.main_arg0) = x
  generalize m' (c.tc.loc FfnReferenceIdeal.main_arg1) = g
  generalize m' (c.tc.loc FfnReferenceIdeal.main_arg2) = wg
  generalize m' (c.tc.loc FfnReferenceIdeal.main_arg3) = wu
  generalize m' (c.tc.loc FfnReferenceIdeal.main_arg4) = wd
  clean_types
  pointwise
  rfl

theorem algebraic : Cert.algebraic_FfnIdeal_FfnReferenceIdeal := by
  intro m ρ m' ρ' _ hagree
  refine ⟨fun c => layer (m ((c : Thread nD τ).loc main_arg0)) (m ((c : Thread nD τ).loc main_arg1))
        (m ((c : Thread nD τ).loc main_arg2)) (m ((c : Thread nD τ).loc main_arg3)) (m ((c : Thread nD τ).loc main_arg4)), ?_, ?_⟩
  · exact (θ_run Cert.FfnIdeal.defs _ _).mono (fun _ h c => ⟨(h c).1.trans (final m c), (h c).2⟩)
      (Cert.FfnIdeal.Value.run_blocks (F := Ideal) m ρ)
  · refine (θ_run Cert.FfnReferenceIdeal.defs _ _).mono (fun _ h c => ⟨(h c).1.trans ?_, (h c).2⟩) (reference_eq m' ρ')
    rw [(hagree c).1, (hagree c).2.1, (hagree c).2.2.1, (hagree c).2.2.2.1, (hagree c).2.2.2.2]

end Cert.FfnIdeal.Result

end
-- ==== Proof.Post.Spec.lean ====
module

public import proofs.«01_k».proof.Proof.Ffn.Spec

@[expose] public section

noncomputable section

/-! # The merge of the two mixers over the extended reals, one row at a time -/

namespace Cert.Layer

open Idealize.ShloMosaic

/-- The length of a head, as the reference spells it. -/
abbrev headWidth : EReal := Ideal.ofBits .f32 0x42800000#32

/-- A row divided, head by head, by the head's root mean square, scaled entry by entry and gated. -/
def headNormed (o ng hg : Fin 512 → EReal) (n : Fin 512) : EReal :=
  o n * Ideal.rsqrt (Ideal.div (∑ k : Fin 64, o ⟨64 * (n.val / 64) + k.val, by omega⟩ * o ⟨64 * (n.val / 64) + k.val, by omega⟩) headWidth + eps)
    * ng n * hg n

/-- The row with the gated sum of the two mixers' projections projected back and added. -/
def merged (x : Fin 1024 → EReal) (ya o hg : Fin 512 → EReal) (ga gb : Fin 1024 → EReal) (ng : Fin 512 → EReal)
    (wa wb : Fin 512 → Fin 1024 → EReal) (wo : Fin 1024 → Fin 1024 → EReal) (n : Fin 1024) : EReal :=
  x n + ∑ k : Fin 1024, (ga k * (∑ c : Fin 512, ya c * wa c k) + gb k * (∑ c : Fin 512, headNormed o ng hg c * wb c k)) * wo k n

/-- A product with the ones of a head is the sum over the head. -/
theorem sum_head (f : Fin 512 → EReal) (n : Fin 512) :
    ∑ c : Fin 512, f c * (if c.val / 64 = n.val / 64 then 1 else 0) = ∑ k : Fin 64, f ⟨64 * (n.val / 64) + k.val, by omega⟩ := by
  simp only [mul_ite, mul_one, mul_zero]
  rw [← Finset.sum_filter]
  symm
  refine Finset.sum_bij (fun k _ => (⟨64 * (n.val / 64) + k.val, by omega⟩ : Fin 512)) ?_ ?_ ?_ ?_
  · intro k _
    simp only [Finset.mem_filter, Finset.mem_univ, true_and]
    omega
  · intro a _ b _ e
    have := congrArg Fin.val e
    exact Fin.ext (by dsimp only at this; omega)
  · intro c hc
    simp only [Finset.mem_filter, Finset.mem_univ, true_and] at hc
    exact ⟨⟨c.val % 64, by omega⟩, Finset.mem_univ _, Fin.ext (by dsimp only; omega)⟩
  · intro k _
    rfl

/-- The kernel multiplies by the inverse of the head's length. -/
theorem mul_inv_head (x : EReal) : x * Ideal.ofBits .f32 0x3C800000#32 = Ideal.div x headWidth := by
  have h1 : Ideal.ofBits .f32 0x3C800000#32 = ((1 / 64 : ℝ) : EReal) := by
    simp [Ideal.ofBits, Ideal.ieee, -EReal.coe_mul]
    norm_num
  have h2 : headWidth = ((64 : ℝ) : EReal) := by
    simp [headWidth, Ideal.ofBits, Ideal.ieee, -EReal.coe_mul]
    norm_num
  rw [h1, h2, Ideal.div_coe (by norm_num)]

/-- The attention's columns, head by head within a group, set to group by group within a head. -/
def regroup : Fin 512 ≃ Fin 512 where
  toFun c := ⟨c.val / 64 % 2 * 256 + c.val / 128 * 64 + c.val % 64, by omega⟩
  invFun c := ⟨128 * (c.val / 64 % 4) + 64 * (c.val / 256) + c.val % 64, by omega⟩
  left_inv := by unfold Function.LeftInverse; decide +kernel
  right_inv := by unfold Function.RightInverse Function.LeftInverse; decide +kernel

/-- The attention's columns and the rows of its projection may be set in either order. -/
theorem merged_regroup (x : Fin 1024 → EReal) (ya o hg : Fin 512 → EReal) (ga gb : Fin 1024 → EReal) (ng : Fin 512 → EReal)
    (wa wb : Fin 512 → Fin 1024 → EReal) (wo : Fin 1024 → Fin 1024 → EReal) (n : Fin 1024) :
    merged x (fun k => ya (regroup k)) o hg ga gb ng (fun i j => wa (regroup i) j) wb wo n = merged x ya o hg ga gb ng wa wb wo n := by
  unfold merged
  have e (k : Fin 1024) := Equiv.sum_comp regroup fun a : Fin 512 => ya a * wa a k
  simp only [e]

end Cert.Layer

end
-- ==== Proof.Post.Block.lean ====
module

public import proofs.«01_k».proof.Proof.Post.Spec
public import proofs.«01_k».proof.Proof.Gen.PostIdeal.Value
public import proofs.«01_k».proof.Proof.Gen.PostIdeal.Frame

@[expose] public section

set_option maxRecDepth 16384

noncomputable section

/-! # What the body computes of one block, over the extended reals -/

namespace Cert.PostIdeal.Block

open Cert.PostIdeal Cert.PostIdeal.Gen Cert.Layer Idealize.ShloMosaic Idealize.ShloMosaic.TcCoe

/-- A column's head, as the kernel computes it by a shift. -/
theorem head_of : ∀ a : Fin 512, IntOp.shrsi ArithUnit.vector (BitVec.ofNat 32 a.val) 6#32 = BitVec.ofNat 32 (a.val / 64) := by
  decide +kernel

theorem same_head : ∀ u v : Fin 8, BitVec.setWidth 32 (IntOp.cmpi CmpIPredicate.eq (BitVec.ofNat 32 u.val) (BitVec.ofNat 32 v.val))
    = if u.val = v.val then 1#32 else 0#32 := by
  decide +kernel

/-- The matrix of ones the kernel sums a head with. -/
theorem ones_at (a b : Fin 512) : k0_pay6 (F := Ideal) (ix2 a b) = if a.val / 64 = b.val / 64 then 1 else 0 := by
  pointwise [k0_pay6]
  rw [head_of a, head_of b]
  have h := same_head ⟨a.val / 64, by omega⟩ ⟨b.val / 64, by omega⟩
  dsimp only at h
  rw [h]
  split
  · simp [FloatOps.sitofp]
  · simp [FloatOps.sitofp]

/-- The heads' norms projected, the first half of the block's rows. -/
theorem heads_upper (p q : FVec Ideal S256x512 .f32) (ng : FVec Ideal S1x512 .f32) (hg : FVec Ideal S256x512 .bf16)
    (wb : FVec Ideal S512x1024 .bf16) (r : Fin 256) (n : Fin 1024) :
    k0_pay10 (F := Ideal) k0_pay6 (k0_pay7 p q) (k0_pay9 p q) ng hg wb (ix2 r n)
      = ∑ c : Fin 512, headNormed (fun k => p (ix2 r k) + q (ix2 r k)) (fun k => ng (ix2 0 k)) (fun k => hg (ix2 r k)) c * wb (ix2 c n) := by
  pointwise [k0_pay10, k0_pay7, k0_pay9]
  simp only [ones_at, sum_head, mul_inv_head]
  rfl

/-- The heads' norms, the second half. -/
theorem heads_lower (p q : FVec Ideal S256x512 .f32) (ng : FVec Ideal S1x512 .f32) (hg : FVec Ideal S256x512 .bf16)
    (r : Fin 256) (n : Fin 512) :
    k0_pay11 (F := Ideal) k0_pay6 (k0_pay8 p q) ng hg (ix2 r n)
      = headNormed (fun k => p (ix2 r k) + q (ix2 r k)) (fun k => ng (ix2 0 k)) (fun k => hg (ix2 r k)) n := by
  pointwise [k0_pay11, k0_pay8]
  simp only [ones_at, sum_head, mul_inv_head]
  rfl

/-- The merge, the first half of the block's rows. -/
theorem merged_upper (x : FVec Ideal S256x1024 .f32) (ya : FVec Ideal S256x512 .bf16) (p q : FVec Ideal S256x512 .f32)
    (hg : FVec Ideal S256x512 .bf16) (ga gb : FVec Ideal S256x1024 .bf16) (ng : FVec Ideal S1x512 .f32)
    (wa wb : FVec Ideal S512x1024 .bf16) (wo : FVec Ideal S1024x1024 .bf16) (r : Fin 256) (n : Fin 1024) :
    k0_pay13 (F := Ideal) (k0_pay2 x) (k0_pay4 ya wa) (k0_pay10 k0_pay6 (k0_pay7 p q) (k0_pay9 p q) ng hg wb) ga gb wo (ix2 r n)
      = merged (fun k => x (ix2 r k)) (fun k => ya (ix2 r k)) (fun k => p (ix2 r k) + q (ix2 r k)) (fun k => hg (ix2 r k))
          (fun k => ga (ix2 r k)) (fun k => gb (ix2 r k)) (fun k => ng (ix2 0 k)) (fun a b => wa (ix2 a b))
          (fun a b => wb (ix2 a b)) (fun a b => wo (ix2 a b)) n := by
  pointwise [k0_pay13, k0_pay2, k0_pay4]
  simp only [heads_upper]
  rfl

/-- The merge, the second half. -/
theorem merged_lower (x : FVec Ideal S256x1024 .f32) (ya : FVec Ideal S256x512 .bf16) (p q : FVec Ideal S256x512 .f32)
    (hg : FVec Ideal S256x512 .bf16) (ga gb : FVec Ideal S256x1024 .bf16) (ng : FVec Ideal S1x512 .f32)
    (wa wb : FVec Ideal S512x1024 .bf16) (wo : FVec Ideal S1024x1024 .bf16) (r : Fin 256) (n : Fin 1024) :
    k0_pay14 (F := Ideal) (k0_pay3 x) (k0_pay5 ya wa) (k0_pay11 k0_pay6 (k0_pay8 p q) ng hg) (k0_pay12 wb)
        (constant S256x1024 .f32 0x00000000#32) ga gb wo (ix2 r n)
      = merged (fun k => x (ix2 r k)) (fun k => ya (ix2 r k)) (fun k => p (ix2 r k) + q (ix2 r k)) (fun k => hg (ix2 r k))
          (fun k => ga (ix2 r k)) (fun k => gb (ix2 r k)) (fun k => ng (ix2 0 k)) (fun a b => wa (ix2 a b))
          (fun a b => wb (ix2 a b)) (fun a b => wo (ix2 a b)) n := by
  pointwise [k0_pay14, k0_pay3, k0_pay5, k0_pay12]
  simp only [heads_lower]
  rfl

/-- The layer and the last norm, the second half. -/
theorem lower (X : FVec Ideal S256x1024 .f32) (g : FVec Ideal S1x1024 .f32) (wg wu : FVec Ideal S1024x2816 .bf16)
    (wd : FVec Ideal S2816x1024 .bf16) (fg : FVec Ideal S1x1024 .f32) (r : Fin 256) (n : Fin 1024) :
    k0_pay1 (F := Ideal) (k0_pay22 X (k0_pay18 X g wg) (k0_pay19 X g wu) wd) (k0_pay23 fg) (ix2 r n)
      = normed (added (fun k => X (ix2 r k)) (fun k => g (ix2 0 k)) (fun i j => wg (ix2 i j)) (fun i j => wu (ix2 i j))
          (fun j k => wd (ix2 j k))) (fun k => fg (ix2 0 k)) n := by
  have h (k : Fin 1024) : k0_pay22 (F := Ideal) X (k0_pay18 X g wg) (k0_pay19 X g wu) wd (ix2 r k)
      = added (fun k => X (ix2 r k)) (fun k => g (ix2 0 k)) (fun i j => wg (ix2 i j)) (fun i j => wu (ix2 i j))
          (fun j k => wd (ix2 j k)) k := by
    pointwise [k0_pay22, k0_pay18, k0_pay19, k0_pay17]
    simp only [half_tanh]
    rfl
  pointwise [k0_pay1, k0_pay23]
  simp only [h]
  rfl

/-- The first half; the layer's norm is computed beside the merge. -/
theorem upper (v1 v8 v57 : FVec Ideal S256x1024 .f32) (ga gb : FVec Ideal S256x1024 .bf16) (wo : FVec Ideal S1024x1024 .bf16)
    (g : FVec Ideal S1x1024 .f32) (wg wu : FVec Ideal S1024x2816 .bf16)
    (wd : FVec Ideal S2816x1024 .bf16) (fg : FVec Ideal S1x1024 .f32) (r : Fin 256) (n : Fin 1024) :
    k0_pay21 (F := Ideal) (k0_pay13 v1 v8 v57 ga gb wo) (k0_pay20 (k0_pay15 g) (k0_pay16 v1 v8 v57 ga gb wo) wg wu) wd fg (ix2 r n)
      = normed (added (fun k => k0_pay13 (F := Ideal) v1 v8 v57 ga gb wo (ix2 r k)) (fun k => g (ix2 0 k)) (fun i j => wg (ix2 i j)) (fun i j => wu (ix2 i j))
          (fun j k => wd (ix2 j k))) (fun k => fg (ix2 0 k)) n := by
  unfold k0_pay16
  generalize k0_pay13 (F := Ideal) v1 v8 v57 ga gb wo = X
  pointwise [k0_pay21, k0_pay20, k0_pay15]
  simp only [half_tanh]
  rfl

variable (x0 : FVec Ideal S512x1024 .f32) (x1 : FVec Ideal S512x512 .bf16) (x2 : FVec Ideal S512x512 .f32) (x3 : FVec Ideal S512x512 .f32) (x4 : FVec Ideal S512x512 .bf16) (x5 : FVec Ideal S512x1024 .bf16) (x6 : FVec Ideal S512x1024 .bf16) (x7 : FVec Ideal S1x512 .f32) (x8 : FVec Ideal S512x1024 .bf16) (x9 : FVec Ideal S512x1024 .bf16) (x10 : FVec Ideal S1024x1024 .bf16) (x11 : FVec Ideal S1x1024 .f32) (x12 : FVec Ideal S1024x2816 .bf16) (x13 : FVec Ideal S1024x2816 .bf16) (x14 : FVec Ideal S2816x1024 .bf16) (x15 : FVec Ideal S1x1024 .f32)

/-- The merge of the block's second half, from the block. -/
theorem second_at (r : Fin 256) (n : Fin 1024) :
    k0_pay28 (F := Ideal) x0 x1 x2 x3 x4 x5 x6 x7 x8 x9 x10 x11 x12 x13 x14 x15 (ix2 r n)
      = merged (fun k => x0 (ix2 ⟨256 + r.val, by omega⟩ k)) (fun k => x1 (ix2 ⟨256 + r.val, by omega⟩ k))
          (fun k => x2 (ix2 ⟨256 + r.val, by omega⟩ k) + x3 (ix2 ⟨256 + r.val, by omega⟩ k))
          (fun k => x4 (ix2 ⟨256 + r.val, by omega⟩ k)) (fun k => x5 (ix2 ⟨256 + r.val, by omega⟩ k)) (fun k => x6 (ix2 ⟨256 + r.val, by omega⟩ k))
          (fun k => x7 (ix2 0 k)) (fun i j => x8 (ix2 i j)) (fun i j => x9 (ix2 i j)) (fun i j => x10 (ix2 i j)) n := by
  unfold k0_pay28 k0_pay26
  rw [merged_lower]
  pointwise [r0_1, r0_3, r0_4, r0_5, r0_6]

/-- The merge of the block's first half, from the block. -/
theorem first_at (r : Fin 256) (n : Fin 1024) :
    k0_pay13 (F := Ideal) (k0_pay24 x0 x1 x2 x3 x4 x5 x6 x7 x8 x9 x10 x11 x12 x13 x14 x15)
        (k0_pay25 x0 x1 x2 x3 x4 x5 x6 x7 x8 x9 x10 x11 x12 x13 x14 x15)
        (k0_pay27 x0 x1 x2 x3 x4 x5 x6 x7 x8 x9 x10 x11 x12 x13 x14 x15)
        (View.ld x5 r0_0) (View.ld x6 r0_0) x10 (ix2 r n)
      = merged (fun k => x0 (ix2 ⟨r.val, by omega⟩ k)) (fun k => x1 (ix2 ⟨r.val, by omega⟩ k))
          (fun k => x2 (ix2 ⟨r.val, by omega⟩ k) + x3 (ix2 ⟨r.val, by omega⟩ k))
          (fun k => x4 (ix2 ⟨r.val, by omega⟩ k)) (fun k => x5 (ix2 ⟨r.val, by omega⟩ k)) (fun k => x6 (ix2 ⟨r.val, by omega⟩ k))
          (fun k => x7 (ix2 0 k)) (fun i j => x8 (ix2 i j)) (fun i j => x9 (ix2 i j)) (fun i j => x10 (ix2 i j)) n := by
  unfold k0_pay24 k0_pay25 k0_pay27 k0_pay26
  rw [merged_upper]
  pointwise [r0_0, r0_2, r0_3, r0_5, r0_6]

end Cert.PostIdeal.Block

end
-- ==== Proof.Post.Reference.lean ====
module

public import proofs.«01_k».proof.Proof.Post.Spec
public import proofs.«01_k».proof.Proof.Gen.PostReferenceIdeal.Run
public import Idealize.ShloMosaic.Lib.Pipeline.ValueKit
public import Idealize.ShloMosaic.Lib.Tactic.CleanTypes
public import Idealize.ShloMosaic.Lib.Pointwise

@[expose] public section

set_option maxRecDepth 16384

noncomputable section

/-! # What the reference computes from the merge on -/

namespace Cert.Post.Whole

open Cert.PostReferenceIdeal Cert.PostReferenceIdeal.Gen Cert.PostReferenceIdeal.Facts Cert.Layer Idealize.ShloMosaic Idealize.ShloMosaic.TcCoe Idealize.SL.Sem

/-- The two directions' sum by heads. -/
def split (p q : FVec Ideal S8x4096x512 .f32) : FVec Ideal S8x4096x8x64 .f32 :=
  shapeCast _ (addf p q) shapeCasts_S8x4096x512_S8x4096x8x64

/-- Heads over their root mean squares, scaled. -/
def headed (O : FVec Ideal S8x4096x8x64 .f32) (ng : FVec Ideal S1x512 .f32) : FVec Ideal S8x4096x8x64 .f32 :=
  mulf (mulf O (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf O O) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x8x64_S8x4096x8x64_0_1_2_3 (broadcastInDim S1x1x8x64 ![2, 3] bcast_S8x64_S1x1x8x64_2_3 (shapeCast _ (shapeCast _ ng shapeCasts_S1x512_S512) shapeCasts_S512_S8x64)))

/-- A mixer projected. -/
def projected (y : FVec Ideal S8x4096x512 .f32) (w : FVec Ideal S1x512x1024 .f32) : FVec Ideal S8x4096x1024 .f32 :=
  Host.dotGeneral dot_S8x4096x512_S512x1024_S8x4096x1024_2_0_01_1_n_n none y (shapeCast _ w shapeCasts_S1x512x1024_S512x1024)

/-- The gated sum projected back and added. -/
def joined (x ga gb A B : FVec Ideal S8x4096x1024 .f32) (wo : FVec Ideal S1x1024x1024 .f32) : FVec Ideal S8x4096x1024 .f32 :=
  addf x (Host.dotGeneral dot_S8x4096x1024_S1024x1024_S8x4096x1024_2_0_01_1_n_n none (addf (mulf ga A) (mulf gb B)) (shapeCast _ wo shapeCasts_S1x1024x1024_S1024x1024))

/-- Rows over their root mean squares, scaled. -/
def rows (X : FVec Ideal S8x4096x1024 .f32) (g : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- One of the feed-forward layer's two projections. -/
def wide (H : FVec Ideal S8x4096x1024 .f32) (w : FVec Ideal S1x1024x2816 .f32) : FVec Ideal S8x4096x2816 .f32 :=
  Host.dotGeneral dot_S8x4096x1024_S1024x2816_S8x4096x2816_2_0_01_1_n_n none H (shapeCast _ w shapeCasts_S1x1024x2816_S1024x2816)

/-- Half the gated product projected back and added. -/
def fed (X : FVec Ideal S8x4096x1024 .f32) (G U : FVec Ideal S8x4096x2816 .f32) (wd : FVec Ideal S1x2816x1024 .f32) : FVec Ideal S8x4096x1024 .f32 :=
  addf X (mulf (broadcastInDim S8x4096x1024 ![] bcast_S_S8x4096x1024 (constant S_ .f32 0x3F000000#32)) (Host.dotGeneral dot_S8x4096x2816_S2816x1024_S8x4096x1024_2_0_01_1_n_n none (mulf (mulf G (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf G))))) U) (shapeCast _ wd shapeCasts_S1x2816x1024_S2816x1024)))

/-- The merge of whole arrays. -/
def merge (x : FVec Ideal S8x4096x1024 .f32) (ya p q hg : FVec Ideal S8x4096x512 .f32) (ga gb : FVec Ideal S8x4096x1024 .f32)
    (ng : FVec Ideal S1x512 .f32) (wa wb : FVec Ideal S1x512x1024 .f32) (wo : FVec Ideal S1x1024x1024 .f32) : FVec Ideal S8x4096x1024 .f32 :=
  joined x ga gb (projected ya wa) (projected (mulf (shapeCast _ (headed (split p q) ng) shapeCasts_S8x4096x8x64_S8x4096x512) hg) wb) wo

/-- The feed-forward layer and the last norm of whole arrays. -/
def rest (X : FVec Ideal S8x4096x1024 .f32) (g : FVec Ideal S1x1024 .f32) (wg wu : FVec Ideal S1x1024x2816 .f32)
    (wd : FVec Ideal S1x2816x1024 .f32) (fg : FVec Ideal S1024 .f32) : FVec Ideal S32768x1024 .f32 :=
  shapeCast _ (rows (fed X (wide (rows X (shapeCast _ g shapeCasts_S1x1024_S1024)) wg) (wide (rows X (shapeCast _ g shapeCasts_S1x1024_S1024)) wu) wd) fg) shapeCasts_S8x4096x1024_S32768x1024

theorem headed_at (O : FVec Ideal S8x4096x8x64 .f32) (ng : FVec Ideal S1x512 .f32) (b : Fin 8) (s : Fin 4096) (h : Fin 8) (d : Fin 64) :
    headed O ng (ix4 b s h d) = O (ix4 b s h d) * Ideal.rsqrt (Ideal.div (∑ k : Fin 64, O (ix4 b s h k) * O (ix4 b s h k)) headWidth + eps)
      * ng (ix2 0 ⟨h.val * 64 + d.val, by omega⟩) := by
  pointwise [headed]

theorem split_at (p q : FVec Ideal S8x4096x512 .f32) (b : Fin 8) (s : Fin 4096) (h : Fin 8) (d : Fin 64) :
    split p q (ix4 b s h d) = p (ix3 b s ⟨h.val * 64 + d.val, by omega⟩) + q (ix3 b s ⟨h.val * 64 + d.val, by omega⟩) := by
  pointwise [split]

theorem gatedHeads_at (p q hg : FVec Ideal S8x4096x512 .f32) (ng : FVec Ideal S1x512 .f32) (b : Fin 8) (s : Fin 4096) (n : Fin 512) :
    mulf (shapeCast _ (headed (split p q) ng) shapeCasts_S8x4096x8x64_S8x4096x512) hg (ix3 b s n)
      = headNormed (fun k => p (ix3 b s k) + q (ix3 b s k)) (fun k => ng (ix2 0 k)) (fun k => hg (ix3 b s k)) n := by
  have e (k : Fin 64) : (⟨n.val / 64 * 64 + k.val, by omega⟩ : Fin 512) = ⟨64 * (n.val / 64) + k.val, by omega⟩ := Fin.ext (by dsimp only; omega)
  have e' : (⟨n.val / 64 * 64 + n.val % 64, by omega⟩ : Fin 512) = n := Fin.ext (by dsimp only; omega)
  have h := headed_at (split p q) ng b s ⟨n.val / 64, by omega⟩ ⟨n.val % 64, by omega⟩
  simp only [split_at, e, e'] at h
  refine Eq.trans (b := headed (split p q) ng (ix4 b s ⟨n.val / 64, by omega⟩ ⟨n.val % 64, by omega⟩) * hg (ix3 b s n)) ?_ ?_
  · pointwise
  · rw [h]
    rfl

theorem projected_at (y : FVec Ideal S8x4096x512 .f32) (w : FVec Ideal S1x512x1024 .f32) (b : Fin 8) (s : Fin 4096) (n : Fin 1024) :
    projected y w (ix3 b s n) = ∑ c : Fin 512, y (ix3 b s c) * w (ix3 0 c n) := by
  pointwise [projected]

theorem joined_at (x ga gb A B : FVec Ideal S8x4096x1024 .f32) (wo : FVec Ideal S1x1024x1024 .f32) (b : Fin 8) (s : Fin 4096) (n : Fin 1024) :
    joined x ga gb A B wo (ix3 b s n) = x (ix3 b s n) + ∑ k : Fin 1024, (ga (ix3 b s k) * A (ix3 b s k) + gb (ix3 b s k) * B (ix3 b s k)) * wo (ix3 0 k n) := by
  pointwise [joined]

theorem merge_at (x : FVec Ideal S8x4096x1024 .f32) (ya p q hg : FVec Ideal S8x4096x512 .f32) (ga gb : FVec Ideal S8x4096x1024 .f32)
    (ng : FVec Ideal S1x512 .f32) (wa wb : FVec Ideal S1x512x1024 .f32) (wo : FVec Ideal S1x1024x1024 .f32)
    (b : Fin 8) (s : Fin 4096) (n : Fin 1024) :
    merge x ya p q hg ga gb ng wa wb wo (ix3 b s n)
      = merged (fun k => x (ix3 b s k)) (fun k => ya (ix3 b s k)) (fun k => p (ix3 b s k) + q (ix3 b s k)) (fun k => hg (ix3 b s k))
          (fun k => ga (ix3 b s k)) (fun k => gb (ix3 b s k)) (fun k => ng (ix2 0 k)) (fun i j => wa (ix3 0 i j))
          (fun i j => wb (ix3 0 i j)) (fun i j => wo (ix3 0 i j)) n := by
  simp only [merge, joined_at, projected_at, gatedHeads_at]
  rfl

theorem rows_at (X : FVec Ideal S8x4096x1024 .f32) (g : FVec Ideal S1024 .f32) (b : Fin 8) (s : Fin 4096) (n : Fin 1024) :
    rows X g (ix3 b s n) = normed (fun k => X (ix3 b s k)) (fun k => g (ix1 k)) n := by
  pointwise [rows]
  rfl

theorem wide_at (H : FVec Ideal S8x4096x1024 .f32) (w : FVec Ideal S1x1024x2816 .f32) (b : Fin 8) (s : Fin 4096) (n : Fin 2816) :
    wide H w (ix3 b s n) = ∑ k : Fin 1024, H (ix3 b s k) * w (ix3 0 k n) := by
  pointwise [wide]

theorem fed_at (X : FVec Ideal S8x4096x1024 .f32) (G U : FVec Ideal S8x4096x2816 .f32) (wd : FVec Ideal S1x2816x1024 .f32)
    (b : Fin 8) (s : Fin 4096) (n : Fin 1024) :
    fed X G U wd (ix3 b s n) = X (ix3 b s n) + half * ∑ j : Fin 2816, silu (G (ix3 b s j)) * U (ix3 b s j) * wd (ix3 0 j n) := by
  pointwise [fed]
  rfl

theorem rest_at (X : FVec Ideal S8x4096x1024 .f32) (g : FVec Ideal S1x1024 .f32) (wg wu : FVec Ideal S1x1024x2816 .f32)
    (wd : FVec Ideal S1x2816x1024 .f32) (fg : FVec Ideal S1024 .f32) (i : Fin 32768) (n : Fin 1024) :
    rest X g wg wu wd fg (ix2 i n)
      = normed (added (fun k => X (ix3 ⟨i.val / 4096, by omega⟩ ⟨i.val % 4096, by omega⟩ k)) (fun k => g (ix2 0 k)) (fun i j => wg (ix3 0 i j))
          (fun i j => wu (ix3 0 i j)) (fun i j => wd (ix3 0 i j))) (fun k => fg (ix1 k)) n := by
  have hg (k : Fin 1024) : shapeCast S1024 g shapeCasts_S1x1024_S1024 (ix1 k) = g (ix2 0 k) := by
    pointwise
  pointwise [rest]
  simp only [rows_at, fed_at, wide_at, hg]
  rfl

theorem run (m : (ℓ : Loc nD τ sig) → Buf (Elt Ideal) ℓ) (c : Dev nD) :
    Cert.PostReferenceIdeal.Value.res_main_v67 (F := Ideal) m c
      = rest (merge (m (c.tc.loc main_arg0)) (m (c.tc.loc main_arg1)) (m (c.tc.loc main_arg2)) (m (c.tc.loc main_arg3)) (m (c.tc.loc main_arg4))
          (m (c.tc.loc main_arg5)) (m (c.tc.loc main_arg6)) (m (c.tc.loc main_arg7)) (m (c.tc.loc main_arg8)) (m (c.tc.loc main_arg9)) (m (c.tc.loc main_arg10)))
        (m (c.tc.loc main_arg11)) (m (c.tc.loc main_arg12)) (m (c.tc.loc main_arg13)) (m (c.tc.loc main_arg14)) (m (c.tc.loc main_arg15)) := by
  rfl

end Cert.Post.Whole

end
-- ==== Proof.Post.Value.lean ====
module

public import proofs.«01_k».proof.Defs
public import proofs.«01_k».proof.Proof.Post.Block
public import proofs.«01_k».proof.Proof.Post.Reference
public import Idealize.ShloMosaic.Lib.Pipeline.ValueKit
public import Idealize.ShloMosaic.Lib.Tactic.CleanTypes

@[expose] public section

set_option maxRecDepth 16384

noncomputable section

/-! # The layer's end: the result from the merge on -/

namespace Cert.PostIdeal.Result

open Cert.PostIdeal Cert.PostIdeal.Gen Cert.Layer Idealize.ShloMosaic Idealize.ShloMosaic.TcCoe Idealize.SL.Sem

variable (m : (ℓ : Loc nD τ sig) → Buf (Elt Ideal) ℓ) (ρ : Dev nD → PrngReg)

/-- Seven arrays are read 512 rows at a time, nine whole; the result is written 512 rows at a time. -/
theorem indices : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_16.index t = ![t.val, 0])
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] := by
  decide +kernel

/-! The blocks of rows by their entries. -/

theorem residual_at (c : Dev nD) (t : Fin cfg0.N) (q : Fin 512) (k : Fin 1024) :
    iblk m c 0 t (ix2 q k) = m ((c : Thread nD τ).loc main_arg0)
      (ix3 ⟨(512 * t.val + q.val) / 4096, by have := t.isLt; have : cfg0.N = 64 := N_0; omega⟩
        ⟨(512 * t.val + q.val) % 4096, by omega⟩ k) := by
  have e : (win0_0.blk t).view.emb (ix2 q k) = ix2 ⟨512 * t.val + q.val, by have := t.isLt; have : cfg0.N = 64 := N_0; omega⟩ k := by
    blk_ext [(indices t).1.1]
  show V m c main_v24 ((win0_0.blk t).view.emb (ix2 q k)) = _
  rw [e]
  entry_read
  pointwise

theorem forward_at (c : Dev nD) (t : Fin cfg0.N) (q : Fin 512) (k : Fin 512) :
    iblk m c 2 t (ix2 q k) = m ((c : Thread nD τ).loc main_arg2)
      (ix3 ⟨(512 * t.val + q.val) / 4096, by have := t.isLt; have : cfg0.N = 64 := N_0; omega⟩
        ⟨(512 * t.val + q.val) % 4096, by omega⟩ k) := by
  have e : (win0_2.blk t).view.emb (ix2 q k) = ix2 ⟨512 * t.val + q.val, by have := t.isLt; have : cfg0.N = 64 := N_0; omega⟩ k := by
    blk_ext [(indices t).1.2.2.1]
  show V m c main_v5 ((win0_2.blk t).view.emb (ix2 q k)) = _
  rw [e]
  entry_read
  pointwise

theorem backward_at (c : Dev nD) (t : Fin cfg0.N) (q : Fin 512) (k : Fin 512) :
    iblk m c 3 t (ix2 q k) = m ((c : Thread nD τ).loc main_arg3)
      (ix3 ⟨(512 * t.val + q.val) / 4096, by have := t.isLt; have : cfg0.N = 64 := N_0; omega⟩
        ⟨(512 * t.val + q.val) % 4096, by omega⟩ k) := by
  have e : (win0_3.blk t).view.emb (ix2 q k) = ix2 ⟨512 * t.val + q.val, by have := t.isLt; have : cfg0.N = 64 := N_0; omega⟩ k := by
    blk_ext [(indices t).1.2.2.2.1]
  show V m c main_v6 ((win0_3.blk t).view.emb (ix2 q k)) = _
  rw [e]
  entry_read
  pointwise

theorem gate_at (c : Dev nD) (t : Fin cfg0.N) (q : Fin 512) (k : Fin 512) :
    iblk m c 4 t (ix2 q k) = m ((c : Thread nD τ).loc main_arg4)
      (ix3 ⟨(512 * t.val + q.val) / 4096, by have := t.isLt; have : cfg0.N = 64 := N_0; omega⟩
        ⟨(512 * t.val + q.val) % 4096, by omega⟩ k) := by
  have e : (win0_4.blk t).view.emb (ix2 q k) = ix2 ⟨512 * t.val + q.val, by have := t.isLt; have : cfg0.N = 64 := N_0; omega⟩ k := by
    blk_ext [(indices t).1.2.2.2.2.1]
  show V m c main_v8 ((win0_4.blk t).view.emb (ix2 q k)) = _
  rw [e]
  entry_read
  pointwise

theorem gateA_at (c : Dev nD) (t : Fin cfg0.N) (q : Fin 512) (k : Fin 1024) :
    iblk m c 5 t (ix2 q k) = m ((c : Thread nD τ).loc main_arg5)
      (ix3 ⟨(512 * t.val + q.val) / 4096, by have := t.isLt; have : cfg0.N = 64 := N_0; omega⟩
        ⟨(512 * t.val + q.val) % 4096, by omega⟩ k) := by
  have e : (win0_5.blk t).view.emb (ix2 q k) = ix2 ⟨512 * t.val + q.val, by have := t.isLt; have : cfg0.N = 64 := N_0; omega⟩ k := by
    blk_ext [(indices t).1.2.2.2.2.2.1]
  show V m c main_v10 ((win0_5.blk t).view.emb (ix2 q k)) = _
  rw [e]
  entry_read
  pointwise

theorem gateB_at (c : Dev nD) (t : Fin cfg0.N) (q : Fin 512) (k : Fin 1024) :
    iblk m c 6 t (ix2 q k) = m ((c : Thread nD τ).loc main_arg6)
      (ix3 ⟨(512 * t.val + q.val) / 4096, by have := t.isLt; have : cfg0.N = 64 := N_0; omega⟩
        ⟨(512 * t.val + q.val) % 4096, by omega⟩ k) := by
  have e : (win0_6.blk t).view.emb (ix2 q k) = ix2 ⟨512 * t.val + q.val, by have := t.isLt; have : cfg0.N = 64 := N_0; omega⟩ k := by
    blk_ext [(indices t).1.2.2.2.2.2.2.1]
  show V m c main_v12 ((win0_6.blk t).view.emb (ix2 q k)) = _
  rw [e]
  entry_read
  pointwise

theorem heads_at (c : Dev nD) (t : Fin cfg0.N) (q : Fin 512) (k : Fin 512) :
    iblk m c 1 t (ix2 q k) = m ((c : Thread nD τ).loc main_arg1)
      (ix3 ⟨(512 * t.val + q.val) / 4096, by have := t.isLt; have : cfg0.N = 64 := N_0; omega⟩
        ⟨(512 * t.val + q.val) % 4096, by omega⟩ (regroup k)) := by
  have e : (win0_1.blk t).view.emb (ix2 q k) = ix2 ⟨512 * t.val + q.val, by have := t.isLt; have : cfg0.N = 64 := N_0; omega⟩ k := by
    blk_ext [(indices t).1.2.1]
  show V m c main_v4 ((win0_1.blk t).view.emb (ix2 q k)) = _
  rw [e]
  entry_read
  pointwise
  rfl

/-! The arrays read whole. -/

theorem headScale_at (c : Dev nD) (t : Fin cfg0.N) (b : Fin 512) :
    iblk m c 7 t (ix2 0 b) = m ((c : Thread nD τ).loc main_arg7) (ix2 0 b) := by
  have e : (win0_7.blk t).view.emb (ix2 0 b) = ix2 0 b := by
    blk_ext [(indices t).2.1]
  show V m c main_v14 ((win0_7.blk t).view.emb (ix2 0 b)) = _
  rw [e]
  entry_read
  pointwise

theorem projA_at (c : Dev nD) (t : Fin cfg0.N) (a : Fin 512) (b : Fin 1024) :
    iblk m c 8 t (ix2 a b) = m ((c : Thread nD τ).loc main_arg8) (ix3 0 (regroup a) b) := by
  have e : (win0_8.blk t).view.emb (ix2 a b) = ix2 a b := by
    blk_ext [(indices t).2.2.1]
  show V m c main_v19 ((win0_8.blk t).view.emb (ix2 a b)) = _
  rw [e]
  entry_read
  pointwise
  rfl

theorem projB_at (c : Dev nD) (t : Fin cfg0.N) (a : Fin 512) (b : Fin 1024) :
    iblk m c 9 t (ix2 a b) = m ((c : Thread nD τ).loc main_arg9) (ix3 0 a b) := by
  have e : (win0_9.blk t).view.emb (ix2 a b) = ix2 a b := by
    blk_ext [(indices t).2.2.2.1]
  show V m c main_v21 ((win0_9.blk t).view.emb (ix2 a b)) = _
  rw [e]
  entry_read
  pointwise

theorem back_at (c : Dev nD) (t : Fin cfg0.N) (a : Fin 1024) (b : Fin 1024) :
    iblk m c 10 t (ix2 a b) = m ((c : Thread nD τ).loc main_arg10) (ix3 0 a b) := by
  have e : (win0_10.blk t).view.emb (ix2 a b) = ix2 a b := by
    blk_ext [(indices t).2.2.2.2.1]
  show V m c main_v23 ((win0_10.blk t).view.emb (ix2 a b)) = _
  rw [e]
  entry_read
  pointwise

theorem scale_at (c : Dev nD) (t : Fin cfg0.N) (b : Fin 1024) :
    iblk m c 11 t (ix2 0 b) = m ((c : Thread nD τ).loc main_arg11) (ix2 0 b) := by
  have e : (win0_11.blk t).view.emb (ix2 0 b) = ix2 0 b := by
    blk_ext [(indices t).2.2.2.2.2.1]
  show V m c main_v32 ((win0_11.blk t).view.emb (ix2 0 b)) = _
  rw [e]
  entry_read
  pointwise

theorem gated_at (c : Dev nD) (t : Fin cfg0.N) (a : Fin 1024) (b : Fin 2816) :
    iblk m c 12 t (ix2 a b) = m ((c : Thread nD τ).loc main_arg12) (ix3 0 a b) := by
  have e : (win0_12.blk t).view.emb (ix2 a b) = ix2 a b := by
    blk_ext [(indices t).2.2.2.2.2.2.1]
  show V m c main_v27 ((win0_12.blk t).view.emb (ix2 a b)) = _
  rw [e]
  entry_read
  pointwise

theorem up_at (c : Dev nD) (t : Fin cfg0.N) (a : Fin 1024) (b : Fin 2816) :
    iblk m c 13 t (ix2 a b) = m ((c : Thread nD τ).loc main_arg13) (ix3 0 a b) := by
  have e : (win0_13.blk t).view.emb (ix2 a b) = ix2 a b := by
    blk_ext [(indices t).2.2.2.2.2.2.2.1]
  show V m c main_v29 ((win0_13.blk t).view.emb (ix2 a b)) = _
  rw [e]
  entry_read
  pointwise

theorem down_at (c : Dev nD) (t : Fin cfg0.N) (a : Fin 2816) (b : Fin 1024) :
    iblk m c 14 t (ix2 a b) = m ((c : Thread nD τ).loc main_arg14) (ix3 0 a b) := by
  have e : (win0_14.blk t).view.emb (ix2 a b) = ix2 a b := by
    blk_ext [(indices t).2.2.2.2.2.2.2.2.1]
  show V m c main_v31 ((win0_14.blk t).view.emb (ix2 a b)) = _
  rw [e]
  entry_read
  pointwise

theorem lastScale_at (c : Dev nD) (t : Fin cfg0.N) (b : Fin 1024) :
    iblk m c 15 t (ix2 0 b) = m ((c : Thread nD τ).loc main_arg15) (ix1 b) := by
  have e : (win0_15.blk t).view.emb (ix2 0 b) = ix2 0 b := by
    blk_ext [(indices t).2.2.2.2.2.2.2.2.2]
  show V m c main_v33 ((win0_15.blk t).view.emb (ix2 0 b)) = _
  rw [e]
  entry_read
  pointwise

/-- What the programs return, from the arrays the call starts from. -/
def result (c : Dev nD) : FVec Ideal S32768x1024 .f32 :=
  Cert.Post.Whole.rest (Cert.Post.Whole.merge (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)))
      (m ((c : Thread nD τ).loc main_arg11)) (m ((c : Thread nD τ).loc main_arg12)) (m ((c : Thread nD τ).loc main_arg13))
      (m ((c : Thread nD τ).loc main_arg14)) (m ((c : Thread nD τ).loc main_arg15))

/-- A row of a block's merge is the row of the whole merge that the block is placed at. -/
theorem merged_eq (c : Dev nD) (t : Fin cfg0.N) (q : Fin 512) :
    merged (fun k => iblk m c 0 t (ix2 q k)) (fun k => iblk m c 1 t (ix2 q k))
          (fun k => Add.add (α := EReal) (iblk m c 2 t (ix2 q k)) (iblk m c 3 t (ix2 q k)))
          (fun k => iblk m c 4 t (ix2 q k)) (fun k => iblk m c 5 t (ix2 q k)) (fun k => iblk m c 6 t (ix2 q k))
          (fun k => iblk m c 7 t (ix2 0 k)) (fun i j => iblk m c 8 t (ix2 i j)) (fun i j => iblk m c 9 t (ix2 i j))
          (fun i j => iblk m c 10 t (ix2 i j))
      = fun n => Cert.Post.Whole.merge (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (ix3 ⟨(512 * t.val + q.val) / 4096, by have := t.isLt; have : cfg0.N = 64 := N_0; omega⟩ ⟨(512 * t.val + q.val) % 4096, by omega⟩ n) := by
  funext n
  rw [Cert.Post.Whole.merge_at]
  simp only [residual_at, heads_at, forward_at, backward_at, gate_at, gateA_at, gateB_at, headScale_at, projA_at, projB_at, back_at]
  exact merged_regroup _ (fun a => m ((c : Thread nD τ).loc main_arg1)
    (ix3 ⟨(512 * t.val + q.val) / 4096, by have := t.isLt; have : cfg0.N = 64 := N_0; omega⟩ ⟨(512 * t.val + q.val) % 4096, by omega⟩ a)) _ _ _ _ _
    (fun a k => m ((c : Thread nD τ).loc main_arg8) (ix3 0 a k)) _ _ n

/-- A row of a block's result is the row of the whole result that the block is placed at. -/
theorem row_eq (c : Dev nD) (t : Fin cfg0.N) (q : Fin 512) (n : Fin 1024) (R : Fin 32768) (hR : R.val = 512 * t.val + q.val) :
    normed (added (merged (fun k => iblk m c 0 t (ix2 q k)) (fun k => iblk m c 1 t (ix2 q k))
          (fun k => Add.add (α := EReal) (iblk m c 2 t (ix2 q k)) (iblk m c 3 t (ix2 q k)))
          (fun k => iblk m c 4 t (ix2 q k)) (fun k => iblk m c 5 t (ix2 q k)) (fun k => iblk m c 6 t (ix2 q k))
          (fun k => iblk m c 7 t (ix2 0 k)) (fun i j => iblk m c 8 t (ix2 i j)) (fun i j => iblk m c 9 t (ix2 i j))
          (fun i j => iblk m c 10 t (ix2 i j)))
        (fun k => iblk m c 11 t (ix2 0 k)) (fun i j => iblk m c 12 t (ix2 i j)) (fun i j => iblk m c 13 t (ix2 i j))
        (fun i j => iblk m c 14 t (ix2 i j))) (fun k => iblk m c 15 t (ix2 0 k)) n
      = result m c (ix2 R n) := by
  obtain ⟨R, hlt⟩ := R
  subst hR
  rw [merged_eq]
  simp only [scale_at, gated_at, up_at, down_at, lastScale_at]
  unfold result
  rw [Cert.Post.Whole.rest_at]

/-- The result array. -/
theorem final (c : Dev nD) : (dats m 0 c).arrAt 16 cfg0.N = result m c := by
  refine (dats m 0 c).arrAt_eq_of_covers 16 _ (by decide +kernel) fun t hf y => ?_
  have hN : t.val < 64 := t.isLt
  blk_simp
  rw [after0_16]
  frame_out
  canon_tiles x h
  · obtain ⟨r, n, rfl⟩ : ∃ (r : Fin 256) (n : Fin 1024), x = ix2 r n := ⟨x 0, x 1, eq_ix2 x⟩
    replace h0 : (y 0).val = 256 + r.val := h0
    replace h1 : (y 1).val = n.val := h1
    have e : (win0_16.blk t).view.emb y = ix2 ⟨512 * t.val + (256 + r.val), by omega⟩ n := by
      blk_ext [(indices t).1.2.2.2.2.2.2.2]
    rw [Block.lower]
    refine Eq.trans ?_ (congrArg _ e.symm)
    simp only [Block.second_at]
    exact row_eq m c t ⟨256 + r.val, by omega⟩ n _ rfl
  · obtain ⟨r, n, rfl⟩ : ∃ (r : Fin 256) (n : Fin 1024), x = ix2 r n := ⟨x 0, x 1, eq_ix2 x⟩
    replace h0 : (y 0).val = r.val := h0
    replace h1 : (y 1).val = n.val := h1
    have e : (win0_16.blk t).view.emb y = ix2 ⟨512 * t.val + r.val, by omega⟩ n := by
      blk_ext [(indices t).1.2.2.2.2.2.2.2]
    rw [Block.upper]
    refine Eq.trans ?_ (congrArg _ e.symm)
    simp only [Block.first_at]
    exact row_eq m c t ⟨r.val, by omega⟩ n _ rfl

/-- From the same arrays both programs return the same array. -/
theorem algebraic : Cert.algebraic_PostIdeal_PostReferenceIdeal := by
  intro m ρ m' ρ' _ hagree
  refine ⟨fun c => result m c, ?_, ?_⟩
  · exact (θ_run Cert.PostIdeal.defs _ _).mono (fun _ h c => ⟨(h c).1.trans (final m c), (h c).2⟩)
      (Cert.PostIdeal.Value.run_blocks (F := Ideal) m ρ)
  · refine (θ_run Cert.PostReferenceIdeal.defs _ _).mono (fun _ h c => ⟨(h c).1.trans ?_, (h c).2⟩)
      (Cert.PostReferenceIdeal.Value.run (F := Ideal) m' ρ')
    rw [Cert.Post.Whole.run, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    rfl

end Cert.PostIdeal.Result

end
-- ==== Proof.Inproj.Spec.lean ====
module

public import proofs.«01_k».proof.Proof.Post.Spec

@[expose] public section

noncomputable section

/-! # The combined projection and what follows it over the extended reals, one row at a time -/

namespace Cert.Layer

open Idealize.ShloMosaic

/-- The logistic function. -/
def logistic (z : EReal) : EReal := Ideal.div 1 (1 + Ideal.exp (-z))

/-- One column of the projection of a row's norm. -/
def column (x g w : Fin 1024 → EReal) : EReal := ∑ k : Fin 1024, normed x g k * w k

/-- A head divided by its root mean square, scaled entry by entry. -/
def scaled (z g : Fin 64 → EReal) (d : Fin 64) : EReal :=
  z d * Ideal.rsqrt (Ideal.div (∑ k : Fin 64, z k * z k) headWidth + eps) * g d

/-- A head's two halves turned by the angles of a position. -/
def turned (y : Fin 64 → EReal) (cos sin : Fin 32 → EReal) (d : Fin 64) : EReal :=
  if h : d.val < 32 then y d * cos ⟨d.val, h⟩ - y ⟨32 + d.val, by omega⟩ * sin ⟨d.val, h⟩
  else y d * cos ⟨d.val - 32, by omega⟩ + y ⟨d.val - 32, by omega⟩ * sin ⟨d.val - 32, by omega⟩

/-- The first of two weights after a softmax. -/
def share (a b : EReal) : EReal :=
  Ideal.div (Ideal.exp (a - max a b)) (Ideal.exp (a - max a b) + Ideal.exp (b - max a b))

/-- A forget gate over its lower bound. -/
def forget (l z : EReal) : EReal := l + (1 - l) * logistic z

/-- What the queries are multiplied by. -/
def scale : EReal := Ideal.div (Ideal.ofBits .f32 0x3E000000#32) (Ideal.log (Ideal.ofBits .f32 0x40000000#32))

theorem half_tanh' (z : EReal) : half * Ideal.tanh (half * z) + half = logistic z := half_tanh z

/-- The scale is a real number. -/
theorem scale_eq : scale = (((8 * Real.log 2)⁻¹ : ℝ) : EReal) := by
  have h1 : Ideal.ofBits .f32 0x3E000000#32 = ((1 / 8 : ℝ) : EReal) := by
    simp [Ideal.ofBits, Ideal.ieee, -EReal.coe_mul]
    norm_num
  have h2 : Ideal.ofBits .f32 0x40000000#32 = ((2 : ℝ) : EReal) := by
    simp [Ideal.ofBits, Ideal.ieee, -EReal.coe_mul]
    norm_num
  have h3 : Real.log 2 ≠ 0 := (Real.log_pos (by norm_num)).ne'
  unfold scale
  rw [h1, h2, Ideal.log_coe, if_neg (by norm_num), Ideal.div_coe h3, ← EReal.coe_mul]
  congr 1
  field_simp

/-- A product with the ones of a head is the sum over the head; the heads lie two by two. -/
theorem sum_pair (f : Fin 128 → EReal) (n : Fin 128) :
    ∑ c : Fin 128, f c * (if c.val / 64 = n.val / 64 then 1 else 0) = ∑ k : Fin 64, f ⟨64 * (n.val / 64) + k.val, by omega⟩ := by
  simp only [mul_ite, mul_one, mul_zero]
  rw [← Finset.sum_filter]
  symm
  refine Finset.sum_bij (fun k _ => (⟨64 * (n.val / 64) + k.val, by omega⟩ : Fin 128)) ?_ ?_ ?_ ?_
  · intro k _
    simp only [Finset.mem_filter, Finset.mem_univ, true_and]
    omega
  · intro a _ b _ e
    have := congrArg Fin.val e
    exact Fin.ext (by dsimp only at this; omega)
  · intro c hc
    simp only [Finset.mem_filter, Finset.mem_univ, true_and] at hc
    exact ⟨⟨c.val % 64, by omega⟩, Finset.mem_univ _, Fin.ext (by dsimp only; omega)⟩
  · intro k _
    rfl

/-- The greater of two, as both programs find it. -/
theorem fold_two (f : Fin 2 → EReal) :
    Finset.fold max (Ideal.ofBits .f32 0xFF800000#32) f Finset.univ = max (f 0) (f 1) := by
  have l : Ideal.ofBits .f32 0xFF800000#32 = ⊥ := by
    simp [Ideal.ofBits, Ideal.ieee]
  rw [l]
  refine le_antisymm ((Finset.fold_max_le _).mpr ⟨bot_le, fun x _ => ?_⟩) (max_le ?_ ?_)
  · fin_cases x
    · exact le_max_left _ _
    · exact le_max_right _ _
  · exact (Finset.le_fold_max _).mpr (Or.inr ⟨0, Finset.mem_univ _, le_rfl⟩)
  · exact (Finset.le_fold_max _).mpr (Or.inr ⟨1, Finset.mem_univ _, le_rfl⟩)

/-- The same, compared with the start once more. -/
theorem fold_two' (f : Fin 2 → EReal) :
    max (Ideal.ofBits .f32 0xFF800000#32) (Finset.fold max (Ideal.ofBits .f32 0xFF800000#32) f Finset.univ) = max (f 0) (f 1) := by
  have l : Ideal.ofBits .f32 0xFF800000#32 = ⊥ := by
    simp [Ideal.ofBits, Ideal.ieee]
  rw [fold_two, l]
  exact max_eq_right bot_le

/-- A head's sum of squares, at an entry of two heads side by side. -/
def squares (p : Fin 128 → EReal) (n : Fin 128) : EReal :=
  ∑ k : Fin 64, p ⟨64 * (n.val / 64) + k.val, by omega⟩ * p ⟨64 * (n.val / 64) + k.val, by omega⟩

/-- Two heads side by side, each divided by its root mean square and scaled, as the kernel computes them. -/
def unit (p g : Fin 128 → EReal) (l : Fin 128) : EReal :=
  p l * Ideal.rsqrt (squares p l * Ideal.ofBits .f32 0x3C800000#32 + eps) * g l

/-- The two heads turned, as the kernel computes it: each entry's partner is found 32 entries on or 32 entries back. -/
def tile (p g c s : Fin 128 → EReal) (l : Fin 128) : EReal :=
  unit p g l * c l
    + Scalar.select (IntOp.cmpi CmpIPredicate.slt (IntOp.andi (BitVec.ofNat 32 l.val) 63#32) 32#32)
        (unit p g ⟨(l.val + 128 - 96) % 128, by omega⟩) (unit p g ⟨(l.val + 128 - 32) % 128, by omega⟩) * s l

theorem slt_at : ∀ l : Fin 128, IntOp.cmpi CmpIPredicate.slt (IntOp.andi (BitVec.ofNat 32 l.val) 63#32) 32#32
    = if l.val % 64 < 32 then 1#1 else 0#1 := by
  decide +kernel

theorem unit_eq (p g : Fin 128 → EReal) (gg : Fin 64 → EReal) (hg : ∀ n : Fin 128, g n = gg ⟨n.val % 64, by omega⟩) (l n : Fin 128)
    (h : n.val / 64 = l.val / 64) (d : Fin 64) (hd : n.val % 64 = d.val) :
    unit p g n = scaled (fun k => p ⟨64 * (l.val / 64) + k.val, by omega⟩) gg d := by
  have e : n = ⟨64 * (l.val / 64) + d.val, by omega⟩ := Fin.ext (by dsimp only; omega)
  have e' : (⟨n.val % 64, by omega⟩ : Fin 64) = d := Fin.ext hd
  unfold unit scaled
  rw [hg, mul_inv_head, e']
  unfold squares
  simp only [h]
  rw [← e]

/-- What the kernel computes of two heads is each head normed and turned. -/
theorem tile_eq (p g c s : Fin 128 → EReal) (gg : Fin 64 → EReal) (cos sin : Fin 32 → EReal)
    (hg : ∀ n : Fin 128, g n = gg ⟨n.val % 64, by omega⟩) (hc : ∀ n : Fin 128, c n = cos ⟨n.val % 32, by omega⟩)
    (hs : ∀ n : Fin 128, s n = if n.val % 64 < 32 then -(sin ⟨n.val % 32, by omega⟩) else sin ⟨n.val % 32, by omega⟩) (l : Fin 128) :
    tile p g c s l = turned (scaled (fun k => p ⟨64 * (l.val / 64) + k.val, by omega⟩) gg) cos sin ⟨l.val % 64, by omega⟩ := by
  unfold tile turned
  rw [slt_at, hc, hs, unit_eq p g gg hg l l rfl ⟨l.val % 64, by omega⟩ rfl]
  by_cases h : l.val % 64 < 32
  · have e : (⟨l.val % 32, by omega⟩ : Fin 32) = ⟨l.val % 64, h⟩ := Fin.ext (by dsimp only; omega)
    rw [if_pos h, if_pos h, dif_pos h, e, sub_eq_add_neg, mul_neg,
      unit_eq p g gg hg l ⟨(l.val + 128 - 96) % 128, by omega⟩ (by dsimp only; omega) ⟨32 + l.val % 64, by omega⟩ (by dsimp only; omega)]
    rfl
  · have e : (⟨l.val % 32, by omega⟩ : Fin 32) = ⟨l.val % 64 - 32, by omega⟩ := Fin.ext (by dsimp only; omega)
    rw [if_neg h, if_neg h, dif_neg h, e,
      unit_eq p g gg hg l ⟨(l.val + 128 - 32) % 128, by omega⟩ (by dsimp only; omega) ⟨l.val % 64 - 32, by omega⟩ (by dsimp only; omega)]
    rfl

end Cert.Layer

end
-- ==== Proof.Inproj.Block.lean ====
module

public import proofs.«01_k».proof.Proof.Inproj.Spec
public import proofs.«01_k».proof.Proof.Gen.InprojIdeal.Value
public import proofs.«01_k».proof.Proof.Gen.InprojIdeal.Frame

@[expose] public section

set_option maxRecDepth 16384

noncomputable section

/-! # What the body computes of one block, over the extended reals -/

namespace Cert.InprojIdeal.Block

open Cert.InprojIdeal Cert.InprojIdeal.Gen Cert.Layer Idealize.ShloMosaic Idealize.ShloMosaic.TcCoe

/-! The two projections' columns. -/

theorem rest_upper (X : FVec Ideal S256x1024 .f32) (g : FVec Ideal S1x1024 .f32) (A B : FVec Ideal S1024x2304 .bf16)
    (w : Fin 1024 → Fin 4608 → EReal) (hA : ∀ k (n : Fin 2304), A (ix2 k n) = w k ⟨n.val, by omega⟩)
    (hB : ∀ k (n : Fin 2304), B (ix2 k n) = w k ⟨2304 + n.val, by omega⟩) (r : Fin 256) (n : Fin 4608) :
    k0_pay21 (F := Ideal) (k0_pay4 X g) (k0_pay9 (k0_pay4 X g) A) B (ix2 r n)
      = column (fun k => X (ix2 r k)) (fun k => g (ix2 0 k)) (fun k => w k n) := by
  have e : ∀ h : ¬ n.val < 2304, (⟨2304 + (n.val - 2304), by omega⟩ : Fin 4608) = n := fun h => Fin.ext (by dsimp only; omega)
  pointwise [k0_pay21, k0_pay9, k0_pay4]
  simp only [hA, hB]
  split
  · rfl
  · next h =>
    simp only [e h]
    rfl

theorem rest_lower (X : FVec Ideal S256x1024 .f32) (g : FVec Ideal S1x1024 .f32) (A B : FVec Ideal S1024x2304 .bf16)
    (w : Fin 1024 → Fin 4608 → EReal) (hA : ∀ k (n : Fin 2304), A (ix2 k n) = w k ⟨n.val, by omega⟩)
    (hB : ∀ k (n : Fin 2304), B (ix2 k n) = w k ⟨2304 + n.val, by omega⟩) (r : Fin 256) (n : Fin 4608) :
    k0_pay22 (F := Ideal) (k0_pay6 (k0_pay5 X g)) (k0_pay10 (k0_pay5 X g) A) B (ix2 r n)
      = column (fun k => X (ix2 r k)) (fun k => g (ix2 0 k)) (fun k => w k n) := by
  have e : ∀ h : ¬ n.val < 2304, (⟨2304 + (n.val - 2304), by omega⟩ : Fin 4608) = n := fun h => Fin.ext (by dsimp only; omega)
  pointwise [k0_pay22, k0_pay10, k0_pay6, k0_pay5]
  simp only [hA, hB]
  split
  · rfl
  · next h =>
    simp only [e h]
    rfl

theorem attn_upper (X : FVec Ideal S256x1024 .f32) (g : FVec Ideal S1x1024 .f32) (W : FVec Ideal S1024x768 .bf16) (r : Fin 256) (n : Fin 768) :
    k0_pay7 (F := Ideal) (k0_pay4 X g) W (ix2 r n)
      = column (fun k => X (ix2 r k)) (fun k => g (ix2 0 k)) (fun k => W (ix2 k n)) := by
  pointwise [k0_pay7, k0_pay4]
  rfl

theorem attn_lower (X : FVec Ideal S256x1024 .f32) (g : FVec Ideal S1x1024 .f32) (W : FVec Ideal S1024x768 .bf16) (r : Fin 256) (n : Fin 768) :
    k0_pay8 (F := Ideal) (k0_pay5 X g) W (ix2 r n)
      = column (fun k => X (ix2 r k)) (fun k => g (ix2 0 k)) (fun k => W (ix2 k n)) := by
  pointwise [k0_pay8, k0_pay6, k0_pay5]
  rfl

/-- The lower bounds of the forget gates. -/
theorem bounds_at (l : FVec Ideal S2x2x512 .f32) (i : Fin 2) (n : Fin 512) :
    k0_pay23 (F := Ideal) l (ix2 i n) = share (l (ix3 i 0 n)) (l (ix3 i 1 n)) := by
  pointwise [k0_pay23]
  rw [fold_two, Fin.sum_univ_two, Fin.sum_univ_one]
  rfl

/-! What is computed of the other projection's columns. -/

theorem readout_upper (R : FVec Ideal S256x4608 .f32) (r : Fin 256) (n : Fin 512) :
    k0_pay46 (F := Ideal) R (ix2 r n) = silu (R (ix2 r ⟨n.val, by omega⟩)) := by
  pointwise [k0_pay46]
  simp only [half_tanh']
  rfl

theorem readout_lower (R : FVec Ideal S256x4608 .f32) (r : Fin 256) (n : Fin 512) :
    k0_pay81 (F := Ideal) (k0_pay79 R) (k0_pay80 R) (ix2 r n) = silu (R (ix2 r ⟨n.val, by omega⟩)) := by
  pointwise [k0_pay81, k0_pay79, k0_pay80]
  simp only [half_tanh']
  rfl

theorem inputF_upper (R : FVec Ideal S256x4608 .f32) (L : FVec Ideal S2x512 .f32) (r : Fin 256) (n : Fin 512) :
    k0_pay50 (F := Ideal) R L (ix2 r n) = 1 - forget (L (ix2 0 n)) (R (ix2 r ⟨512 + n.val, by omega⟩)) := by
  pointwise [k0_pay50, k0_pay47]
  simp only [half_tanh']
  rfl

theorem inputF_lower (R : FVec Ideal S256x4608 .f32) (L : FVec Ideal S2x512 .f32) (r : Fin 256) (n : Fin 512) :
    k0_pay85 (F := Ideal) R L (ix2 r n) = 1 - forget (L (ix2 0 n)) (R (ix2 r ⟨512 + n.val, by omega⟩)) := by
  pointwise [k0_pay85, k0_pay82]
  simp only [half_tanh']
  rfl

theorem logF_upper (R : FVec Ideal S256x4608 .f32) (L : FVec Ideal S2x512 .f32) (r : Fin 256) (n : Fin 512) :
    k0_pay49 (F := Ideal) R L (ix2 r n) = Ideal.log (forget (L (ix2 0 n)) (R (ix2 r ⟨512 + n.val, by omega⟩))) := by
  pointwise [k0_pay49, k0_pay48, k0_pay47]
  simp only [half_tanh']
  rfl

theorem logF_lower (R : FVec Ideal S256x4608 .f32) (L : FVec Ideal S2x512 .f32) (r : Fin 256) (n : Fin 512) :
    k0_pay84 (F := Ideal) R L (ix2 r n) = Ideal.log (forget (L (ix2 0 n)) (R (ix2 r ⟨512 + n.val, by omega⟩))) := by
  pointwise [k0_pay84, k0_pay83, k0_pay82]
  simp only [half_tanh']
  rfl

theorem inputB_upper (R : FVec Ideal S256x4608 .f32) (L : FVec Ideal S2x512 .f32) (r : Fin 256) (n : Fin 512) :
    k0_pay55 (F := Ideal) R L (ix2 r n) = 1 - forget (L (ix2 1 n)) (R (ix2 r ⟨1024 + n.val, by omega⟩)) := by
  pointwise [k0_pay55, k0_pay52]
  simp only [half_tanh']
  rfl

theorem inputB_lower (R : FVec Ideal S256x4608 .f32) (L : FVec Ideal S2x512 .f32) (r : Fin 256) (n : Fin 512) :
    k0_pay93 (F := Ideal) (k0_pay87 R) (k0_pay88 L) (k0_pay89 L) (FloatOps.ofBits FTy.f32 0x3F000000#32) (ix2 r n) = 1 - forget (L (ix2 1 n)) (R (ix2 r ⟨1024 + n.val, by omega⟩)) := by
  pointwise [k0_pay93, k0_pay90, k0_pay87, k0_pay88, k0_pay89]
  simp only [half_tanh']
  rfl

theorem logB_upper (R : FVec Ideal S256x4608 .f32) (L : FVec Ideal S2x512 .f32) (r : Fin 256) (n : Fin 512) :
    k0_pay54 (F := Ideal) R L (ix2 r n) = Ideal.log (forget (L (ix2 1 n)) (R (ix2 r ⟨1024 + n.val, by omega⟩))) := by
  pointwise [k0_pay54, k0_pay53, k0_pay52]
  simp only [half_tanh']
  rfl

theorem logB_lower (R : FVec Ideal S256x4608 .f32) (L : FVec Ideal S2x512 .f32) (r : Fin 256) (n : Fin 512) :
    k0_pay92 (F := Ideal) (k0_pay87 R) (k0_pay88 L) (k0_pay89 L) (FloatOps.ofBits FTy.f32 0x3F000000#32) (ix2 r n) = Ideal.log (forget (L (ix2 1 n)) (R (ix2 r ⟨1024 + n.val, by omega⟩))) := by
  pointwise [k0_pay92, k0_pay91, k0_pay90, k0_pay87, k0_pay88, k0_pay89]
  simp only [half_tanh']
  rfl

theorem carried_upper (R : FVec Ideal S256x4608 .f32) (r : Fin 256) (n : Fin 512) :
    k0_pay57 (F := Ideal) R (ix2 r n) = R (ix2 r ⟨1536 + n.val, by omega⟩) := by
  pointwise [k0_pay57]

theorem carried_lower (R : FVec Ideal S256x4608 .f32) (r : Fin 256) (n : Fin 512) :
    k0_pay95 (F := Ideal) R (ix2 r n) = R (ix2 r ⟨1536 + n.val, by omega⟩) := by
  pointwise [k0_pay95]

theorem outGate_upper (R : FVec Ideal S256x4608 .f32) (r : Fin 256) (n : Fin 512) :
    k0_pay59 (F := Ideal) (k0_pay58 R) (ix2 r n) = silu (R (ix2 r ⟨2048 + n.val, by omega⟩)) := by
  pointwise [k0_pay59, k0_pay58]
  simp only [half_tanh']
  rfl

theorem outGate_lower (R : FVec Ideal S256x4608 .f32) (r : Fin 256) (n : Fin 512) :
    k0_pay96 (F := Ideal) R (ix2 r n) = silu (R (ix2 r ⟨2048 + n.val, by omega⟩)) := by
  pointwise [k0_pay96]
  simp only [half_tanh']
  rfl

theorem gateA_upper (R : FVec Ideal S256x4608 .f32) (r : Fin 256) (n : Fin 1024) :
    k0_pay60 (F := Ideal) R (ix2 r n) = logistic (R (ix2 r ⟨2560 + n.val, by omega⟩)) := by
  pointwise [k0_pay60]
  simp only [half_tanh']

theorem gateA_lower (R : FVec Ideal S256x4608 .f32) (r : Fin 256) (n : Fin 1024) :
    k0_pay1 (F := Ideal) (k0_pay97 R) k0_pay98 (ix2 r n) = logistic (R (ix2 r ⟨2560 + n.val, by omega⟩)) := by
  pointwise [k0_pay1, k0_pay97, k0_pay98]
  simp only [half_tanh']

theorem gateB_upper (R : FVec Ideal S256x4608 .f32) (r : Fin 256) (n : Fin 1024) :
    k0_pay61 (F := Ideal) R (ix2 r n) = logistic (R (ix2 r ⟨3584 + n.val, by omega⟩)) := by
  pointwise [k0_pay61]
  simp only [half_tanh']

theorem gateB_lower (R : FVec Ideal S256x4608 .f32) (r : Fin 256) (n : Fin 1024) :
    k0_pay2 (F := Ideal) R (ix2 r n) = logistic (R (ix2 r ⟨3584 + n.val, by omega⟩)) := by
  pointwise [k0_pay2]
  simp only [half_tanh']

/-! The heads of the queries and the keys. -/

/-- An entry's head, as the kernel computes it by a shift. -/
theorem head_of : ∀ a : Fin 128, IntOp.shrsi ArithUnit.vector (BitVec.ofNat 32 a.val) 6#32 = BitVec.ofNat 32 (a.val / 64) := by
  decide +kernel

theorem same_head : ∀ u v : Fin 2, BitVec.setWidth 32 (IntOp.cmpi CmpIPredicate.eq (BitVec.ofNat 32 u.val) (BitVec.ofNat 32 v.val))
    = if u.val = v.val then 1#32 else 0#32 := by
  decide +kernel

/-- The matrix of ones the kernel sums a head with. -/
theorem ones_at (a b : Fin 128) : k0_pay3 (F := Ideal) (ix2 a b) = if a.val / 64 = b.val / 64 then 1 else 0 := by
  pointwise [k0_pay3]
  rw [head_of a, head_of b]
  have h := same_head ⟨a.val / 64, by omega⟩ ⟨b.val / 64, by omega⟩
  dsimp only at h
  rw [h]
  split
  · simp [FloatOps.sitofp]
  · simp [FloatOps.sitofp]

/-- What the queries are multiplied by is the real number it is named for. -/
theorem named_scale : Named.named (F := Ideal) κ "scale" (φ := .f32) 0x3E38AA3B#32 = scale :=
  (IdealRules.named_const.ideal_named_scalar _ _ _ _ rfl).trans scale_eq.symm

theorem squares_upper0 (H : FVec Ideal S256x1024 .bf16) (W : FVec Ideal S1024x768 .bf16) (r : Fin 256) (n : Fin 128) :
    k0_pay11 (F := Ideal) k0_pay3 H W (ix2 r n) = squares (fun c => k0_pay7 (F := Ideal) H W (ix2 r ⟨c.val, by omega⟩)) n := by
  pointwise [k0_pay11]
  simp only [ones_at, sum_pair]
  rfl

theorem squares_lower0 (H : FVec Ideal S256x1024 .f32) (W : FVec Ideal S1024x768 .bf16) (r : Fin 256) (n : Fin 128) :
    k0_pay16 (F := Ideal) k0_pay3 H W (ix2 r n) = squares (fun c => k0_pay8 (F := Ideal) H W (ix2 r ⟨c.val, by omega⟩)) n := by
  pointwise [k0_pay16]
  simp only [ones_at, sum_pair]
  rfl

theorem squares_upper1 (H : FVec Ideal S256x1024 .bf16) (W : FVec Ideal S1024x768 .bf16) (r : Fin 256) (n : Fin 128) :
    k0_pay12 (F := Ideal) k0_pay3 H W (ix2 r n) = squares (fun c => k0_pay7 (F := Ideal) H W (ix2 r ⟨128 + c.val, by omega⟩)) n := by
  pointwise [k0_pay12]
  simp only [ones_at, sum_pair]
  rfl

theorem squares_lower1 (H : FVec Ideal S256x1024 .f32) (W : FVec Ideal S1024x768 .bf16) (r : Fin 256) (n : Fin 128) :
    k0_pay17 (F := Ideal) k0_pay3 H W (ix2 r n) = squares (fun c => k0_pay8 (F := Ideal) H W (ix2 r ⟨128 + c.val, by omega⟩)) n := by
  pointwise [k0_pay17]
  simp only [ones_at, sum_pair]
  rfl

theorem squares_upper2 (H : FVec Ideal S256x1024 .bf16) (W : FVec Ideal S1024x768 .bf16) (r : Fin 256) (n : Fin 128) :
    k0_pay13 (F := Ideal) k0_pay3 H W (ix2 r n) = squares (fun c => k0_pay7 (F := Ideal) H W (ix2 r ⟨256 + c.val, by omega⟩)) n := by
  pointwise [k0_pay13]
  simp only [ones_at, sum_pair]
  rfl

theorem squares_lower2 (P : FVec Ideal S256x768 .f32) (r : Fin 256) (n : Fin 128) :
    k0_pay18 (F := Ideal) k0_pay3 P (ix2 r n) = squares (fun c => P (ix2 r ⟨256 + c.val, by omega⟩)) n := by
  pointwise [k0_pay18]
  simp only [ones_at, sum_pair]
  rfl

theorem squares_upper3 (H : FVec Ideal S256x1024 .bf16) (W : FVec Ideal S1024x768 .bf16) (r : Fin 256) (n : Fin 128) :
    k0_pay14 (F := Ideal) k0_pay3 H W (ix2 r n) = squares (fun c => k0_pay7 (F := Ideal) H W (ix2 r ⟨384 + c.val, by omega⟩)) n := by
  pointwise [k0_pay14]
  simp only [ones_at, sum_pair]
  rfl

theorem squares_lower3 (P : FVec Ideal S256x768 .f32) (r : Fin 256) (n : Fin 128) :
    k0_pay19 (F := Ideal) k0_pay3 P (ix2 r n) = squares (fun c => P (ix2 r ⟨384 + c.val, by omega⟩)) n := by
  pointwise [k0_pay19]
  simp only [ones_at, sum_pair]
  rfl

theorem squares_upper4 (H : FVec Ideal S256x1024 .bf16) (W : FVec Ideal S1024x768 .bf16) (r : Fin 256) (n : Fin 128) :
    k0_pay15 (F := Ideal) k0_pay3 H W (ix2 r n) = squares (fun c => k0_pay7 (F := Ideal) H W (ix2 r ⟨512 + c.val, by omega⟩)) n := by
  pointwise [k0_pay15]
  simp only [ones_at, sum_pair]
  rfl

theorem squares_lower4 (P : FVec Ideal S256x768 .f32) (r : Fin 256) (n : Fin 128) :
    k0_pay20 (F := Ideal) k0_pay3 P (ix2 r n) = squares (fun c => P (ix2 r ⟨512 + c.val, by omega⟩)) n := by
  pointwise [k0_pay20]
  simp only [ones_at, sum_pair]
  rfl

theorem query_upper0 (P : FVec Ideal S256x768 .f32) (Q C S : FVec Ideal S256x128 .f32) (G : FVec Ideal S1x128 .f32) (l : Fin 128) (r : Fin 256)
    (hQ : ∀ n, Q (ix2 r n) = squares (fun c => P (ix2 r ⟨c.val, by omega⟩)) n) :
    k0_pay29 (F := Ideal) Q (k0_pay24 C) (k0_pay25 S) (k0_pay26 G) (k0_pay27 P) k0_pay28 (ix5 0 0 0 l r)
      = tile (fun c => P (ix2 r ⟨c.val, by omega⟩)) (fun c => G (ix2 0 c)) (fun c => C (ix2 r c)) (fun c => S (ix2 r c)) l * scale := by
  pointwise [k0_pay29, k0_pay24, k0_pay25, k0_pay26, k0_pay27, k0_pay28]
  simp only [hQ, named_scale]
  rfl

theorem query_upper1 (P : FVec Ideal S256x768 .f32) (Q C S : FVec Ideal S256x128 .f32) (G : FVec Ideal S1x128 .f32) (l : Fin 128) (r : Fin 256)
    (hQ : ∀ n, Q (ix2 r n) = squares (fun c => P (ix2 r ⟨128 + c.val, by omega⟩)) n) :
    k0_pay32 (F := Ideal) (k0_pay24 C) (k0_pay25 S) (k0_pay30 P Q G) k0_pay31 96#32 (ix5 0 0 0 l r)
      = tile (fun c => P (ix2 r ⟨128 + c.val, by omega⟩)) (fun c => G (ix2 0 c)) (fun c => C (ix2 r c)) (fun c => S (ix2 r c)) l * scale := by
  pointwise [k0_pay32, k0_pay24, k0_pay25, k0_pay30, k0_pay31]
  simp only [hQ, named_scale]
  rfl

theorem query_upper2 (P : FVec Ideal S256x768 .f32) (Q C S : FVec Ideal S256x128 .f32) (G : FVec Ideal S1x128 .f32) (l : Fin 128) (r : Fin 256)
    (hQ : ∀ n, Q (ix2 r n) = squares (fun c => P (ix2 r ⟨256 + c.val, by omega⟩)) n) :
    k0_pay34 (F := Ideal) (k0_pay33 P Q (k0_pay24 C) (k0_pay25 S) G) (ix5 0 0 0 l r)
      = tile (fun c => P (ix2 r ⟨256 + c.val, by omega⟩)) (fun c => G (ix2 0 c)) (fun c => C (ix2 r c)) (fun c => S (ix2 r c)) l * scale := by
  pointwise [k0_pay34, k0_pay33, k0_pay24, k0_pay25]
  simp only [hQ, named_scale]
  rfl

theorem query_upper3 (P : FVec Ideal S256x768 .f32) (Q C S : FVec Ideal S256x128 .f32) (G : FVec Ideal S1x128 .f32) (l : Fin 128) (r : Fin 256)
    (hQ : ∀ n, Q (ix2 r n) = squares (fun c => P (ix2 r ⟨384 + c.val, by omega⟩)) n) :
    k0_pay35 (F := Ideal) P Q (k0_pay24 C) (k0_pay25 S) G (ix5 0 0 0 l r)
      = tile (fun c => P (ix2 r ⟨384 + c.val, by omega⟩)) (fun c => G (ix2 0 c)) (fun c => C (ix2 r c)) (fun c => S (ix2 r c)) l * scale := by
  pointwise [k0_pay35, k0_pay24, k0_pay25]
  simp only [hQ, named_scale]
  rfl

theorem query_lower0 (P : FVec Ideal S256x768 .f32) (Q C S : FVec Ideal S256x128 .f32) (G : FVec Ideal S1x128 .f32) (l : Fin 128) (r : Fin 256)
    (hQ : ∀ n, Q (ix2 r n) = squares (fun c => P (ix2 r ⟨c.val, by omega⟩)) n) :
    k0_pay65 (F := Ideal) (k0_pay62 C) (k0_pay63 S) (k0_pay64 P Q G) (ix5 0 0 0 l r)
      = tile (fun c => P (ix2 r ⟨c.val, by omega⟩)) (fun c => G (ix2 0 c)) (fun c => C (ix2 r c)) (fun c => S (ix2 r c)) l * scale := by
  pointwise [k0_pay65, k0_pay64, k0_pay62, k0_pay63]
  simp only [hQ, named_scale]
  rfl

theorem query_lower1 (P : FVec Ideal S256x768 .f32) (Q C S : FVec Ideal S256x128 .f32) (G : FVec Ideal S1x128 .f32) (l : Fin 128) (r : Fin 256)
    (hQ : ∀ n, Q (ix2 r n) = squares (fun c => P (ix2 r ⟨128 + c.val, by omega⟩)) n) :
    k0_pay67 (F := Ideal) (k0_pay66 P Q (k0_pay62 C) (k0_pay63 S) G) (Named.named κ "scale" 0x3E38AA3B#32) (ix5 0 0 0 l r)
      = tile (fun c => P (ix2 r ⟨128 + c.val, by omega⟩)) (fun c => G (ix2 0 c)) (fun c => C (ix2 r c)) (fun c => S (ix2 r c)) l * scale := by
  pointwise [k0_pay67, k0_pay66, k0_pay62, k0_pay63]
  simp only [hQ, named_scale]
  rfl

theorem query_lower2 (P : FVec Ideal S256x768 .f32) (Q C S : FVec Ideal S256x128 .f32) (G : FVec Ideal S1x128 .f32) (l : Fin 128) (r : Fin 256)
    (hQ : ∀ n, Q (ix2 r n) = squares (fun c => P (ix2 r ⟨256 + c.val, by omega⟩)) n) :
    k0_pay68 (F := Ideal) P Q (k0_pay62 C) (k0_pay63 S) G (ix5 0 0 0 l r)
      = tile (fun c => P (ix2 r ⟨256 + c.val, by omega⟩)) (fun c => G (ix2 0 c)) (fun c => C (ix2 r c)) (fun c => S (ix2 r c)) l * scale := by
  pointwise [k0_pay68, k0_pay62, k0_pay63]
  simp only [hQ, named_scale]
  rfl

theorem query_lower3 (P : FVec Ideal S256x768 .f32) (Q C S : FVec Ideal S256x128 .f32) (G : FVec Ideal S1x128 .f32) (l : Fin 128) (r : Fin 256)
    (hQ : ∀ n, Q (ix2 r n) = squares (fun c => P (ix2 r ⟨384 + c.val, by omega⟩)) n) :
    k0_pay69 (F := Ideal) P Q (k0_pay62 C) (k0_pay63 S) G (ix5 0 0 0 l r)
      = tile (fun c => P (ix2 r ⟨384 + c.val, by omega⟩)) (fun c => G (ix2 0 c)) (fun c => C (ix2 r c)) (fun c => S (ix2 r c)) l * scale := by
  pointwise [k0_pay69, k0_pay62, k0_pay63]
  simp only [hQ, named_scale]
  rfl

theorem key_upper (P : FVec Ideal S256x768 .f32) (Q C S : FVec Ideal S256x128 .f32) (G : FVec Ideal S1x128 .f32) (l : Fin 128) (r : Fin 256)
    (hQ : ∀ n, Q (ix2 r n) = squares (fun c => P (ix2 r ⟨512 + c.val, by omega⟩)) n) :
    k0_pay39 (F := Ideal) (k0_pay24 C) (k0_pay25 S) (k0_pay36 G) (k0_pay37 P) (k0_pay38 Q) (ix2 r l)
      = tile (fun c => P (ix2 r ⟨512 + c.val, by omega⟩)) (fun c => G (ix2 0 c)) (fun c => C (ix2 r c)) (fun c => S (ix2 r c)) l := by
  pointwise [k0_pay39, k0_pay24, k0_pay25, k0_pay36, k0_pay37, k0_pay38]
  simp only [hQ]
  rfl

theorem key_lower (P : FVec Ideal S256x768 .f32) (Q C S : FVec Ideal S256x128 .f32) (G : FVec Ideal S1x128 .f32) (l : Fin 128) (r : Fin 256)
    (hQ : ∀ n, Q (ix2 r n) = squares (fun c => P (ix2 r ⟨512 + c.val, by omega⟩)) n) :
    k0_pay72 (F := Ideal) (k0_pay62 C) (k0_pay63 S) (k0_pay70 P Q G) k0_pay71 (ix2 r l)
      = tile (fun c => P (ix2 r ⟨512 + c.val, by omega⟩)) (fun c => G (ix2 0 c)) (fun c => C (ix2 r c)) (fun c => S (ix2 r c)) l := by
  pointwise [k0_pay72, k0_pay62, k0_pay63, k0_pay70, k0_pay71]
  simp only [hQ]
  rfl

/-! The values. -/

theorem value_upper0 (P : FVec Ideal S256x768 .f32) (d : Fin 64) (r : Fin 256) :
    k0_pay42 (F := Ideal) P (ix4 0 0 d r) = P (ix2 r ⟨640 + d.val, by omega⟩) := by
  pointwise [k0_pay42, k0_pay40]

theorem value_upper1 (P : FVec Ideal S256x768 .f32) (d : Fin 64) (r : Fin 256) :
    k0_pay44 (F := Ideal) P (ix4 0 0 d r) = P (ix2 r ⟨640 + (64 + d.val), by omega⟩) := by
  pointwise [k0_pay44, k0_pay40]

theorem value_lower0 (P : FVec Ideal S256x768 .f32) (d : Fin 64) (r : Fin 256) :
    k0_pay75 (F := Ideal) P (ix4 0 0 d r) = P (ix2 r ⟨640 + d.val, by omega⟩) := by
  pointwise [k0_pay75, k0_pay73]

theorem value_lower1 (P : FVec Ideal S256x768 .f32) (d : Fin 64) (r : Fin 256) :
    k0_pay77 (F := Ideal) P (ix4 0 0 d r) = P (ix2 r ⟨640 + (64 + d.val), by omega⟩) := by
  pointwise [k0_pay77, k0_pay73]

theorem one_upper0 (d : Fin 16) (r : Fin 256) : k0_pay43 (F := Ideal) (ix4 0 0 d r) = 1 := by
  pointwise [k0_pay43, k0_pay41]

theorem one_upper1 (d : Fin 16) (r : Fin 256) : k0_pay45 (F := Ideal) k0_pay41 (ix4 0 0 d r) = 1 := by
  pointwise [k0_pay45, k0_pay41]

theorem one_lower0 (d : Fin 16) (r : Fin 256) : k0_pay76 (F := Ideal) (ix4 0 0 d r) = 1 := by
  pointwise [k0_pay76, k0_pay74]

theorem one_lower1 (d : Fin 16) (r : Fin 256) : k0_pay78 (F := Ideal) (ix4 0 0 d r) = 1 := by
  pointwise [k0_pay78, k0_pay74]

end Cert.InprojIdeal.Block

end
-- ==== Proof.Inproj.Reference.lean ====
module

public import proofs.«01_k».proof.Proof.Inproj.Spec
public import proofs.«01_k».proof.Proof.Gen.InprojReferenceIdeal.Run
public import Idealize.ShloMosaic.Lib.Pipeline.ValueKit
public import Idealize.ShloMosaic.Lib.Tactic.CleanTypes
public import Idealize.ShloMosaic.Lib.Pointwise

@[expose] public section

set_option maxRecDepth 16384

noncomputable section

/-! # What the reference computes up to the mixers -/

namespace Cert.Inproj.Whole

open Cert.InprojReferenceIdeal Cert.InprojReferenceIdeal.Gen Cert.InprojReferenceIdeal.Facts Cert.Layer Idealize.ShloMosaic Idealize.ShloMosaic.TcCoe Idealize.SL.Sem

/-- The combined projection of the rows over their root mean squares. -/
def proj (x : FVec Ideal S8x4096x1024 .f32) (g : FVec Ideal S1x1024 .f32) (w : FVec Ideal S1x1024x5376 .f32) : FVec Ideal S8x4096x5376 .f32 :=
  Host.dotGeneral dot_S8x4096x1024_S1024x5376_S8x4096x5376_2_0_01_1_n_n none (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))) (shapeCast _ w shapeCasts_S1x1024x5376_S1024x5376)

/-- The queries' heads. -/
def headsQ (P : FVec Ideal S8x4096x5376 .f32) : FVec Ideal S8x4096x8x64 .f32 :=
  shapeCast _ (extractStridedSlice S8x4096x512 ![0, 0, 0] P slices_S8x4096x5376_S8x4096x512_0_0_0) shapeCasts_S8x4096x512_S8x4096x8x64

/-- The keys' heads. -/
def headsK (P : FVec Ideal S8x4096x5376 .f32) : FVec Ideal S8x4096x2x64 .f32 :=
  shapeCast _ (extractStridedSlice S8x4096x128 ![0, 0, 512] P slices_S8x4096x5376_S8x4096x128_0_0_512) shapeCasts_S8x4096x128_S8x4096x2x64

/-- The queries' heads over their root mean squares, scaled. -/
def normQ (X : FVec Ideal S8x4096x8x64 .f32) (g : FVec Ideal S1x64 .f32) : FVec Ideal S8x4096x8x64 .f32 :=
  mulf (mulf X (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf X X) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x1x64_S8x4096x8x64_0_1_2_3 (broadcastInDim S1x1x1x64 ![3] bcast_S64_S1x1x1x64_3 (shapeCast _ g shapeCasts_S1x64_S64)))

/-- The keys' heads over their root mean squares, scaled. -/
def normK (X : FVec Ideal S8x4096x2x64 .f32) (g : FVec Ideal S1x64 .f32) : FVec Ideal S8x4096x2x64 .f32 :=
  mulf (mulf X (broadcastInDim S8x4096x2x64 ![0, 1, 2, 3] bcast_S8x4096x2x1_S8x4096x2x64_0_1_2_3 (Host.rsqrt (addf (Host.divf (broadcastInDim S8x4096x2x1 ![0, 1, 2] bcast_S8x4096x2_S8x4096x2x1_0_1_2 (Host.reduceAdd (mulf X X) (constant S_ .f32 0x00000000#32) reducesTo_S8x4096x2x64_S8x4096x2_d3 h_S_)) (broadcastInDim S8x4096x2x1 ![] bcast_S_S8x4096x2x1 (constant S_ .f32 0x42800000#32))) (broadcastInDim S8x4096x2x1 ![] bcast_S_S8x4096x2x1 (constant S_ .f32 0x358637BD#32)))))) (broadcastInDim S8x4096x2x64 ![0, 1, 2, 3] bcast_S1x1x1x64_S8x4096x2x64_0_1_2_3 (broadcastInDim S1x1x1x64 ![3] bcast_S64_S1x1x1x64_3 (shapeCast _ g shapeCasts_S1x64_S64)))

/-- The queries' heads turned. -/
def turnQ (Y : FVec Ideal S8x4096x8x64 .f32) (cos sin : FVec Ideal S4096x32 .f32) : FVec Ideal S8x4096x8x64 .f32 :=
  concatenate S8x4096x8x64 3 [⟨S8x4096x8x32, (subf (mulf (extractStridedSlice S8x4096x8x32 ![0, 0, 0, 0] Y slices_S8x4096x8x64_S8x4096x8x32_0_0_0_0) (broadcastInDim S8x4096x8x32 ![0, 1, 2, 3] bcast_S1x4096x1x32_S8x4096x8x32_0_1_2_3 (broadcastInDim S1x4096x1x32 ![1, 2, 3] bcast_S4096x1x32_S1x4096x1x32_1_2_3 (broadcastInDim S4096x1x32 ![0, 2] bcast_S4096x32_S4096x1x32_0_2 cos)))) (mulf (extractStridedSlice S8x4096x8x32 ![0, 0, 0, 32] Y slices_S8x4096x8x64_S8x4096x8x32_0_0_0_32) (broadcastInDim S8x4096x8x32 ![0, 1, 2, 3] bcast_S1x4096x1x32_S8x4096x8x32_0_1_2_3 (broadcastInDim S1x4096x1x32 ![1, 2, 3] bcast_S4096x1x32_S1x4096x1x32_1_2_3 (broadcastInDim S4096x1x32 ![0, 2] bcast_S4096x32_S4096x1x32_0_2 sin)))))⟩, ⟨S8x4096x8x32, (addf (mulf (extractStridedSlice S8x4096x8x32 ![0, 0, 0, 32] Y slices_S8x4096x8x64_S8x4096x8x32_0_0_0_32) (broadcastInDim S8x4096x8x32 ![0, 1, 2, 3] bcast_S1x4096x1x32_S8x4096x8x32_0_1_2_3 (broadcastInDim S1x4096x1x32 ![1, 2, 3] bcast_S4096x1x32_S1x4096x1x32_1_2_3 (broadcastInDim S4096x1x32 ![0, 2] bcast_S4096x32_S4096x1x32_0_2 cos)))) (mulf (extractStridedSlice S8x4096x8x32 ![0, 0, 0, 0] Y slices_S8x4096x8x64_S8x4096x8x32_0_0_0_0) (broadcastInDim S8x4096x8x32 ![0, 1, 2, 3] bcast_S1x4096x1x32_S8x4096x8x32_0_1_2_3 (broadcastInDim S1x4096x1x32 ![1, 2, 3] bcast_S4096x1x32_S1x4096x1x32_1_2_3 (broadcastInDim S4096x1x32 ![0, 2] bcast_S4096x32_S4096x1x32_0_2 sin)))))⟩] concatenates_S8x4096x8x32_S8x4096x8x32_S8x4096x8x64_d3

/-- The keys' heads turned. -/
def turnK (Y : FVec Ideal S8x4096x2x64 .f32) (cos sin : FVec Ideal S4096x32 .f32) : FVec Ideal S8x4096x2x64 .f32 :=
  concatenate S8x4096x2x64 3 [⟨S8x4096x2x32, (subf (mulf (extractStridedSlice S8x4096x2x32 ![0, 0, 0, 0] Y slices_S8x4096x2x64_S8x4096x2x32_0_0_0_0) (broadcastInDim S8x4096x2x32 ![0, 1, 2, 3] bcast_S1x4096x1x32_S8x4096x2x32_0_1_2_3 (broadcastInDim S1x4096x1x32 ![1, 2, 3] bcast_S4096x1x32_S1x4096x1x32_1_2_3 (broadcastInDim S4096x1x32 ![0, 2] bcast_S4096x32_S4096x1x32_0_2 cos)))) (mulf (extractStridedSlice S8x4096x2x32 ![0, 0, 0, 32] Y slices_S8x4096x2x64_S8x4096x2x32_0_0_0_32) (broadcastInDim S8x4096x2x32 ![0, 1, 2, 3] bcast_S1x4096x1x32_S8x4096x2x32_0_1_2_3 (broadcastInDim S1x4096x1x32 ![1, 2, 3] bcast_S4096x1x32_S1x4096x1x32_1_2_3 (broadcastInDim S4096x1x32 ![0, 2] bcast_S4096x32_S4096x1x32_0_2 sin)))))⟩, ⟨S8x4096x2x32, (addf (mulf (extractStridedSlice S8x4096x2x32 ![0, 0, 0, 32] Y slices_S8x4096x2x64_S8x4096x2x32_0_0_0_32) (broadcastInDim S8x4096x2x32 ![0, 1, 2, 3] bcast_S1x4096x1x32_S8x4096x2x32_0_1_2_3 (broadcastInDim S1x4096x1x32 ![1, 2, 3] bcast_S4096x1x32_S1x4096x1x32_1_2_3 (broadcastInDim S4096x1x32 ![0, 2] bcast_S4096x32_S4096x1x32_0_2 cos)))) (mulf (extractStridedSlice S8x4096x2x32 ![0, 0, 0, 0] Y slices_S8x4096x2x64_S8x4096x2x32_0_0_0_0) (broadcastInDim S8x4096x2x32 ![0, 1, 2, 3] bcast_S1x4096x1x32_S8x4096x2x32_0_1_2_3 (broadcastInDim S1x4096x1x32 ![1, 2, 3] bcast_S4096x1x32_S1x4096x1x32_1_2_3 (broadcastInDim S4096x1x32 ![0, 2] bcast_S4096x32_S4096x1x32_0_2 sin)))))⟩] concatenates_S8x4096x2x32_S8x4096x2x32_S8x4096x2x64_d3

/-- The queries as the attention takes them. -/
def queries (T : FVec Ideal S8x4096x8x64 .f32) : FVec Ideal S8x16x4x128x256 .bf16 :=
  truncf .bf16 (shapeCast _ (transpose S8x16x4x2x64x256 [0, 1, 4, 3, 5, 2] (shapeCast _ (mulf T (broadcastInDim S8x4096x8x64 ![] bcast_S_S8x4096x8x64 (Host.divf (constant S_ .f32 0x3E000000#32) (Host.log (constant S_ .f32 0x40000000#32))))) shapeCasts_S8x4096x8x64_S8x16x256x2x4x64) transposes_S8x16x256x2x4x64_S8x16x4x2x64x256_0_1_4_3_5_2) shapeCasts_S8x16x4x2x64x256_S8x16x4x128x256) bitsLt_bf16_f32

/-- The keys as the attention takes them. -/
def keys (T : FVec Ideal S8x4096x2x64 .f32) : FVec Ideal S32768x128 .bf16 :=
  truncf .bf16 (shapeCast _ T shapeCasts_S8x4096x2x64_S32768x128) bitsLt_bf16_f32

/-- The values as the attention takes them. -/
def values (P : FVec Ideal S8x4096x5376 .f32) : FVec Ideal S8x2x80x4096 .bf16 :=
  truncf .bf16 (concatenate S8x2x80x4096 2 [⟨S8x2x64x4096, (transpose S8x2x64x4096 [0, 2, 3, 1] (shapeCast _ (extractStridedSlice S8x4096x128 ![0, 0, 640] P slices_S8x4096x5376_S8x4096x128_0_0_640) shapeCasts_S8x4096x128_S8x4096x2x64) transposes_S8x4096x2x64_S8x2x64x4096_0_2_3_1)⟩, ⟨S8x2x16x4096, (broadcastInDim S8x2x16x4096 ![] bcast_S_S8x2x16x4096 (constant S_ .f32 0x3F800000#32))⟩] concatenates_S8x2x64x4096_S8x2x16x4096_S8x2x80x4096_d2) bitsLt_bf16_f32

/-- The two directions' softmax weights before their division. -/
def weights (l : FVec Ideal S2x2x512 .f32) : FVec Ideal S2x2x512 .f32 :=
  Host.exp (subf l (broadcastInDim S2x2x512 ![0, 1, 2] bcast_S2x1x512_S2x2x512_0_1_2 (broadcastInDim S2x1x512 ![0, 2] bcast_S2x512_S2x1x512_0_2 (maximumf (broadcastInDim S2x512 ![] bcast_S_S2x512 (constant S_ .f32 0xFF800000#32)) (Host.reduce FloatOps.maximumf l (constant S_ .f32 0xFF800000#32) reducesTo_S2x2x512_S2x512_d1 h_S_)))))

/-- The first layer's lower bounds from the weights. -/
def bounds (E : FVec Ideal S2x2x512 .f32) : FVec Ideal S2x512 .f32 :=
  shapeCast _ (extractStridedSlice S2x1x512 ![0, 0, 0] (Host.reduceWindowAdd ![1, 2, 1] ![1, 1, 1] ![0, 1, 0] ![0, 0, 0] (Host.divf E (broadcastInDim S2x2x512 ![0, 1, 2] bcast_S2x1x512_S2x2x512_0_1_2 (broadcastInDim S2x1x512 ![0, 2] bcast_S2x512_S2x1x512_0_2 (Host.reduceAdd E (constant S_ .f32 0x00000000#32) reducesTo_S2x2x512_S2x512_d1 h_S_)))) (broadcastInDim S_ ![] bcast_S_S_ (constant S_ .f32 0x00000000#32)) reduceWindows_S2x2x512_S2x2x512_w1s1p0_0_w2s1p1_0_w1s1p0_0 h_S_) slices_S2x2x512_S2x1x512_0_0_0) shapeCasts_S2x1x512_S2x512

/-- The forward direction's forget gates. -/
def forgetF (P : FVec Ideal S8x4096x5376 .f32) (L : FVec Ideal S2x512 .f32) : FVec Ideal S8x4096x512 .f32 :=
  addf (broadcastInDim S8x4096x512 ![0, 1, 2] bcast_S1x1x512_S8x4096x512_0_1_2 (broadcastInDim S1x1x512 ![2] bcast_S512_S1x1x512_2 (shapeCast _ (extractStridedSlice S1x512 ![0, 0] L slices_S2x512_S1x512_0_0) shapeCasts_S1x512_S512))) (mulf (broadcastInDim S8x4096x512 ![0, 1, 2] bcast_S1x1x512_S8x4096x512_0_1_2 (broadcastInDim S1x1x512 ![2] bcast_S512_S1x1x512_2 (subf (broadcastInDim S512 ![] bcast_S_S512 (constant S_ .f32 0x3F800000#32)) (shapeCast _ (extractStridedSlice S1x512 ![0, 0] L slices_S2x512_S1x512_0_0) shapeCasts_S1x512_S512)))) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 1280] P slices_S8x4096x5376_S8x4096x512_0_0_1280))))))

/-- The backward direction's forget gates. -/
def forgetB (P : FVec Ideal S8x4096x5376 .f32) (L : FVec Ideal S2x512 .f32) : FVec Ideal S8x4096x512 .f32 :=
  addf (broadcastInDim S8x4096x512 ![0, 1, 2] bcast_S1x1x512_S8x4096x512_0_1_2 (broadcastInDim S1x1x512 ![2] bcast_S512_S1x1x512_2 (shapeCast _ (extractStridedSlice S1x512 ![1, 0] L slices_S2x512_S1x512_1_0) shapeCasts_S1x512_S512))) (mulf (broadcastInDim S8x4096x512 ![0, 1, 2] bcast_S1x1x512_S8x4096x512_0_1_2 (broadcastInDim S1x1x512 ![2] bcast_S512_S1x1x512_2 (subf (broadcastInDim S512 ![] bcast_S_S512 (constant S_ .f32 0x3F800000#32)) (shapeCast _ (extractStridedSlice S1x512 ![1, 0] L slices_S2x512_S1x512_1_0) shapeCasts_S1x512_S512)))) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 1792] P slices_S8x4096x5376_S8x4096x512_0_0_1792))))))

/-- The recurrence's queries. -/
def readout (P : FVec Ideal S8x4096x5376 .f32) : FVec Ideal S32768x512 .bf16 :=
  truncf .bf16 (shapeCast _ (mulf (extractStridedSlice S8x4096x512 ![0, 0, 768] P slices_S8x4096x5376_S8x4096x512_0_0_768) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 768] P slices_S8x4096x5376_S8x4096x512_0_0_768)))))) shapeCasts_S8x4096x512_S32768x512) bitsLt_bf16_f32

/-- One minus the forget gates. -/
def inputs (f : FVec Ideal S8x4096x512 .f32) : FVec Ideal S32768x512 .bf16 :=
  truncf .bf16 (shapeCast _ (subf (broadcastInDim S8x4096x512 ![] bcast_S_S8x4096x512 (constant S_ .f32 0x3F800000#32)) f) shapeCasts_S8x4096x512_S32768x512) bitsLt_bf16_f32

/-- The logarithms of the forget gates. -/
def logs (f : FVec Ideal S8x4096x512 .f32) : FVec Ideal S32768x512 .bf16 :=
  truncf .bf16 (shapeCast _ (Host.log f) shapeCasts_S8x4096x512_S32768x512) bitsLt_bf16_f32

/-- The recurrence's values. -/
def carried (P : FVec Ideal S8x4096x5376 .f32) : FVec Ideal S32768x512 .bf16 :=
  truncf .bf16 (shapeCast _ (extractStridedSlice S8x4096x512 ![0, 0, 2304] P slices_S8x4096x5376_S8x4096x512_0_0_2304) shapeCasts_S8x4096x512_S32768x512) bitsLt_bf16_f32

/-- The recurrence's output gate. -/
def outGate (P : FVec Ideal S8x4096x5376 .f32) : FVec Ideal S32768x512 .bf16 :=
  truncf .bf16 (shapeCast _ (mulf (extractStridedSlice S8x4096x512 ![0, 0, 2816] P slices_S8x4096x5376_S8x4096x512_0_0_2816) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 2816] P slices_S8x4096x5376_S8x4096x512_0_0_2816)))))) shapeCasts_S8x4096x512_S32768x512) bitsLt_bf16_f32

/-- The attention's gate of the merge. -/
def gateA (P : FVec Ideal S8x4096x5376 .f32) : FVec Ideal S32768x1024 .bf16 :=
  truncf .bf16 (shapeCast _ (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 3328] P slices_S8x4096x5376_S8x4096x1024_0_0_3328))))) shapeCasts_S8x4096x1024_S32768x1024) bitsLt_bf16_f32

/-- The recurrence's gate of the merge. -/
def gateB (P : FVec Ideal S8x4096x5376 .f32) : FVec Ideal S32768x1024 .bf16 :=
  truncf .bf16 (shapeCast _ (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 4352] P slices_S8x4096x5376_S8x4096x1024_0_0_4352))))) shapeCasts_S8x4096x1024_S32768x1024) bitsLt_bf16_f32

theorem proj_at (x : FVec Ideal S8x4096x1024 .f32) (g : FVec Ideal S1x1024 .f32) (w : FVec Ideal S1x1024x5376 .f32)
    (b : Fin 8) (s : Fin 4096) (n : Fin 5376) :
    proj x g w (ix3 b s n) = column (fun k => x (ix3 b s k)) (fun k => g (ix2 0 k)) (fun k => w (ix3 0 k n)) := by
  pointwise [proj]
  rfl

theorem headsQ_at (P : FVec Ideal S8x4096x5376 .f32) (b : Fin 8) (s : Fin 4096) (h : Fin 8) (d : Fin 64) :
    headsQ P (ix4 b s h d) = P (ix3 b s ⟨h.val * 64 + d.val, by omega⟩) := by
  pointwise [headsQ]

theorem headsK_at (P : FVec Ideal S8x4096x5376 .f32) (b : Fin 8) (s : Fin 4096) (h : Fin 2) (d : Fin 64) :
    headsK P (ix4 b s h d) = P (ix3 b s ⟨512 + (h.val * 64 + d.val), by omega⟩) := by
  pointwise [headsK]

theorem normQ_at (X : FVec Ideal S8x4096x8x64 .f32) (g : FVec Ideal S1x64 .f32) (b : Fin 8) (s : Fin 4096) (h : Fin 8) (d : Fin 64) :
    normQ X g (ix4 b s h d) = scaled (fun k => X (ix4 b s h k)) (fun k => g (ix2 0 k)) d := by
  pointwise [normQ]
  rfl

theorem normK_at (X : FVec Ideal S8x4096x2x64 .f32) (g : FVec Ideal S1x64 .f32) (b : Fin 8) (s : Fin 4096) (h : Fin 2) (d : Fin 64) :
    normK X g (ix4 b s h d) = scaled (fun k => X (ix4 b s h k)) (fun k => g (ix2 0 k)) d := by
  pointwise [normK]
  rfl

theorem turnQ_at (Y : FVec Ideal S8x4096x8x64 .f32) (cos sin : FVec Ideal S4096x32 .f32) (b : Fin 8) (s : Fin 4096) (h : Fin 8) (d : Fin 64) :
    turnQ Y cos sin (ix4 b s h d) = turned (fun k => Y (ix4 b s h k)) (fun k => cos (ix2 s k)) (fun k => sin (ix2 s k)) d := by
  have e : ∀ (h : ¬ d.val < 32), (⟨32 + (d.val - 32), by omega⟩ : Fin 64) = d := fun h => Fin.ext (by dsimp only; omega)
  unfold turned
  pointwise [turnQ]
  split
  · rfl
  · next k => simp only [e k]

theorem queries_at (T : FVec Ideal S8x4096x8x64 .f32) (b : Fin 8) (i : Fin 16) (j : Fin 4) (l : Fin 128) (r : Fin 256) :
    queries T (ix5 b i j l r) = T (ix4 b ⟨i.val * 256 + r.val, by omega⟩ ⟨l.val / 64 * 4 + j.val, by omega⟩ ⟨l.val % 64, by omega⟩) * scale := by
  pointwise [queries]
  rfl

theorem values_at (P : FVec Ideal S8x4096x5376 .f32) (b : Fin 8) (h : Fin 2) (d : Fin 80) (s : Fin 4096) :
    values P (ix4 b h d s) = if k : d.val < 64 then P (ix3 b s ⟨640 + (h.val * 64 + d.val), by omega⟩) else 1 := by
  pointwise [values]

theorem weights_at (l : FVec Ideal S2x2x512 .f32) (i j : Fin 2) (n : Fin 512) :
    weights l (ix3 i j n) = Ideal.exp (l (ix3 i j n) - max (l (ix3 i 0 n)) (l (ix3 i 1 n))) := by
  pointwise [weights]
  rw [fold_two']

/-- A choice whose condition fails. -/
theorem not_taken {p : Prop} (i : Decidable p) (H : ¬ p) {a : p → EReal} {b : ¬ p → EReal} : @dite _ p i a b = b H := by
  cases i with
  | isTrue h => exact absurd h H
  | isFalse _ => rfl

/-- A choice whose condition holds. -/
theorem taken {p : Prop} (i : Decidable p) (H : p) {a : p → EReal} {b : ¬ p → EReal} : @dite _ p i a b = a H := by
  cases i with
  | isTrue _ => rfl
  | isFalse h => exact absurd H h

/-- The first entry of a sum over the entries so far is the first entry. -/
theorem first_window (D : FVec Ideal S2x2x512 .f32) (z : FVec Ideal S_ .f32) (hz : ∀ i, z i = 0) (h) (hu) (i : Fin 2) (n : Fin 512) :
    Host.reduceWindowAdd (t := S2x2x512) (u := S_) ![1, 2, 1] ![1, 1, 1] ![0, 1, 0] ![0, 0, 0] D z h hu (ix3 i 0 n) = D (ix3 i 0 n) := by
  unfold Host.reduceWindowAdd
  rw [hz]
  show Ideal.hostReduceWindowAdd _ _ _ _ _ _ _ _ = _
  unfold Ideal.hostReduceWindowAdd
  have e : List.finRange (⟨3, ![1, 2, 1]⟩ : Shape).numel = [⟨0, by decide⟩, ⟨1, by decide⟩] := by decide +kernel
  have w0 : ((⟨3, ![1, 2, 1]⟩ : Shape).rowMajor.symm ⟨0, by decide⟩ 1).val = 0 := by decide +kernel
  have w1 : ∀ a, ((⟨3, ![1, 2, 1]⟩ : Shape).rowMajor.symm ⟨1, by decide⟩ a).val = ![0, 1, 0] a := by decide +kernel
  have w10 := w1 0
  have w11 := w1 1
  have w12 := w1 2
  unfold Host.reduceWindow
  show List.foldl _ _ (List.finRange (⟨3, ![1, 2, 1]⟩ : Shape).numel) = _
  rw [e, List.foldl_cons, List.foldl_cons, List.foldl_nil]
  refine (congrArg₂ (· + ·) (congrArg₂ (· + ·) rfl (not_taken _ ?_)) (taken _ ?_)).trans ?_
  · intro H
    have h1 := (H 1).1
    change 1 ≤ 0 * 1 + ((⟨3, ![1, 2, 1]⟩ : Shape).rowMajor.symm ⟨0, by decide⟩ 1).val at h1
    rw [w0] at h1
    exact absurd h1 (by decide)
  · intro a
    fin_cases a
    · show 0 ≤ i.val * 1 + ((⟨3, ![1, 2, 1]⟩ : Shape).rowMajor.symm ⟨1, by decide⟩ 0).val ∧ i.val * 1 + ((⟨3, ![1, 2, 1]⟩ : Shape).rowMajor.symm ⟨1, by decide⟩ 0).val - 0 < 2
      rw [w10]
      exact ⟨Nat.zero_le _, by show i.val * 1 + 0 - 0 < 2; omega⟩
    · show 1 ≤ 0 * 1 + ((⟨3, ![1, 2, 1]⟩ : Shape).rowMajor.symm ⟨1, by decide⟩ 1).val ∧ 0 * 1 + ((⟨3, ![1, 2, 1]⟩ : Shape).rowMajor.symm ⟨1, by decide⟩ 1).val - 1 < 2
      rw [w11]
      decide
    · show 0 ≤ n.val * 1 + ((⟨3, ![1, 2, 1]⟩ : Shape).rowMajor.symm ⟨1, by decide⟩ 2).val ∧ n.val * 1 + ((⟨3, ![1, 2, 1]⟩ : Shape).rowMajor.symm ⟨1, by decide⟩ 2).val - 0 < 512
      rw [w12]
      exact ⟨Nat.zero_le _, by show n.val * 1 + 0 - 0 < 512; omega⟩
  · refine (congrArg₂ (· + ·) (add_zero (0 : EReal)) rfl).trans ((zero_add _).trans (congrArg D ?_))
    funext a
    apply Fin.ext
    fin_cases a
    · show i.val * 1 + ((⟨3, ![1, 2, 1]⟩ : Shape).rowMajor.symm ⟨1, by decide⟩ 0).val - 0 = i.val
      rw [w10]
      show i.val * 1 + 0 - 0 = i.val
      omega
    · show 0 * 1 + ((⟨3, ![1, 2, 1]⟩ : Shape).rowMajor.symm ⟨1, by decide⟩ 1).val - 1 = 0
      rw [w11]
      rfl
    · show n.val * 1 + ((⟨3, ![1, 2, 1]⟩ : Shape).rowMajor.symm ⟨1, by decide⟩ 2).val - 0 = n.val
      rw [w12]
      show n.val * 1 + 0 - 0 = n.val
      omega

theorem bounds_at (E : FVec Ideal S2x2x512 .f32) (i : Fin 2) (n : Fin 512) :
    bounds E (ix2 i n) = Ideal.div (E (ix3 i 0 n)) (E (ix3 i 0 n) + E (ix3 i 1 n)) := by
  pointwise [bounds]
  rw [first_window _ _ (fun _ => by pointwise []) _ _ i n]
  pointwise []
  rw [Fin.sum_univ_two]

theorem forgetF_at (P : FVec Ideal S8x4096x5376 .f32) (L : FVec Ideal S2x512 .f32) (b : Fin 8) (s : Fin 4096) (n : Fin 512) :
    forgetF P L (ix3 b s n) = forget (L (ix2 0 n)) (P (ix3 b s ⟨1280 + n.val, by omega⟩)) := by
  pointwise [forgetF]
  rfl

theorem gateA_at (P : FVec Ideal S8x4096x5376 .f32) (i : Fin 32768) (n : Fin 1024) :
    gateA P (ix2 i n) = logistic (P (ix3 ⟨i.val / 4096, by omega⟩ ⟨i.val % 4096, by omega⟩ ⟨3328 + n.val, by omega⟩)) := by
  pointwise [gateA]
  rfl

theorem turnK_at (Y : FVec Ideal S8x4096x2x64 .f32) (cos sin : FVec Ideal S4096x32 .f32) (b : Fin 8) (s : Fin 4096) (h : Fin 2) (d : Fin 64) :
    turnK Y cos sin (ix4 b s h d) = turned (fun k => Y (ix4 b s h k)) (fun k => cos (ix2 s k)) (fun k => sin (ix2 s k)) d := by
  have e : ∀ (h : ¬ d.val < 32), (⟨32 + (d.val - 32), by omega⟩ : Fin 64) = d := fun h => Fin.ext (by dsimp only; omega)
  unfold turned
  pointwise [turnK]
  split
  · rfl
  · next k => simp only [e k]

theorem keys_at (T : FVec Ideal S8x4096x2x64 .f32) (i : Fin 32768) (n : Fin 128) :
    keys T (ix2 i n) = T (ix4 ⟨i.val / 4096, by omega⟩ ⟨i.val % 4096, by omega⟩ ⟨n.val / 64, by omega⟩ ⟨n.val % 64, by omega⟩) := by
  pointwise [keys]

theorem forgetB_at (P : FVec Ideal S8x4096x5376 .f32) (L : FVec Ideal S2x512 .f32) (b : Fin 8) (s : Fin 4096) (n : Fin 512) :
    forgetB P L (ix3 b s n) = forget (L (ix2 1 n)) (P (ix3 b s ⟨1792 + n.val, by omega⟩)) := by
  pointwise [forgetB]
  rfl

theorem inputs_at (f : FVec Ideal S8x4096x512 .f32) (i : Fin 32768) (n : Fin 512) :
    inputs f (ix2 i n) = 1 - f (ix3 ⟨i.val / 4096, by omega⟩ ⟨i.val % 4096, by omega⟩ n) := by
  pointwise [inputs]

theorem logs_at (f : FVec Ideal S8x4096x512 .f32) (i : Fin 32768) (n : Fin 512) :
    logs f (ix2 i n) = Ideal.log (f (ix3 ⟨i.val / 4096, by omega⟩ ⟨i.val % 4096, by omega⟩ n)) := by
  pointwise [logs]

theorem readout_at (P : FVec Ideal S8x4096x5376 .f32) (i : Fin 32768) (n : Fin 512) :
    readout P (ix2 i n) = silu (P (ix3 ⟨i.val / 4096, by omega⟩ ⟨i.val % 4096, by omega⟩ ⟨768 + n.val, by omega⟩)) := by
  pointwise [readout]
  rfl

theorem carried_at (P : FVec Ideal S8x4096x5376 .f32) (i : Fin 32768) (n : Fin 512) :
    carried P (ix2 i n) = P (ix3 ⟨i.val / 4096, by omega⟩ ⟨i.val % 4096, by omega⟩ ⟨2304 + n.val, by omega⟩) := by
  pointwise [carried]

theorem outGate_at (P : FVec Ideal S8x4096x5376 .f32) (i : Fin 32768) (n : Fin 512) :
    outGate P (ix2 i n) = silu (P (ix3 ⟨i.val / 4096, by omega⟩ ⟨i.val % 4096, by omega⟩ ⟨2816 + n.val, by omega⟩)) := by
  pointwise [outGate]
  rfl

theorem gateB_at (P : FVec Ideal S8x4096x5376 .f32) (i : Fin 32768) (n : Fin 1024) :
    gateB P (ix2 i n) = logistic (P (ix3 ⟨i.val / 4096, by omega⟩ ⟨i.val % 4096, by omega⟩ ⟨4352 + n.val, by omega⟩)) := by
  pointwise [gateB]
  rfl

end Cert.Inproj.Whole

end
-- ==== Proof.Inproj.Value.lean ====
module

public import proofs.«01_k».proof.Defs
public import proofs.«01_k».proof.Proof.Inproj.Block
public import proofs.«01_k».proof.Proof.Inproj.Reference
public import proofs.«01_k».proof.Proof.Inproj.Reference
public import Idealize.ShloMosaic.Lib.Pipeline.ValueKit
public import Idealize.ShloMosaic.Lib.Tactic.CleanTypes

@[expose] public section

set_option maxRecDepth 16384

noncomputable section

/-! # The combined projection: the twelve results -/

namespace Cert.InprojIdeal.Result

open Cert.InprojIdeal Cert.InprojIdeal.Gen Cert.Layer Idealize.ShloMosaic Idealize.ShloMosaic.TcCoe Idealize.SL.Sem

variable (m : (ℓ : Loc nD τ sig) → Buf (Elt Ideal) ℓ) (ρ : Dev nD → PrngReg)

/-- The rows of the input and of most results go 512 at a time, in order. -/
theorem indices : ∀ t : Fin cfg0.N, win0_0.index t = ![t.val, 0] ∧ win0_10.index t = ![t.val, 0] ∧ win0_12.index t = ![t.val, 0]
    ∧ win0_13.index t = ![t.val, 0] ∧ win0_14.index t = ![t.val, 0] ∧ win0_16.index t = ![t.val, 0] ∧ win0_17.index t = ![t.val, 0]
    ∧ win0_19.index t = ![t.val, 0] ∧ win0_20.index t = ![t.val, 0] ∧ win0_21.index t = ![t.val, 0] ∧ win0_22.index t = ![t.val, 0] := by
  decide +kernel

/-- The tables start over with each sequence; the queries and the values are placed by sequence and by block of 512 in it. -/
theorem indices' : ∀ t : Fin cfg0.N, win0_4.index t = ![t.val % 8, 0] ∧ win0_5.index t = ![t.val % 8, 0]
    ∧ win0_9.index t = ![t.val / 8, t.val % 8, 0, 0, 0] ∧ win0_11.index t = ![t.val / 8, 0, 0, t.val % 8] := by
  decide +kernel

/-- The rest is read whole. -/
theorem wholes : ∀ t : Fin cfg0.N, win0_1.index t = ![0, 0] ∧ win0_2.index t = ![0, 0] ∧ win0_3.index t = ![0, 0]
    ∧ win0_6.index t = ![0, 0] ∧ win0_7.index t = ![0, 0] ∧ win0_8.index t = ![0, 0, 0] := by
  decide +kernel

theorem points (t : Fin cfg0.N) : t.val < 64 := t.isLt

/-! The blocks by their entries. -/

theorem x_at (c : Dev nD) (t : Fin cfg0.N) (q : Fin 512) (b : Fin 8) (s : Fin 4096) (hs : b.val * 4096 + s.val = 512 * t.val + q.val) (k : Fin 1024) :
    iblk m c 0 t (ix2 q k) = m ((c : Thread nD τ).loc main_arg0) (ix3 b s k) := by
  have e : (win0_0.blk t).view.emb (ix2 q k) = ix2 ⟨b.val * 4096 + s.val, by omega⟩ k := by
    blk_ext [(indices t).1]
  have eb : (⟨(b.val * 4096 + s.val) / 4096, by omega⟩ : Fin 8) = b := Fin.ext (by dsimp only; omega)
  have es : (⟨(b.val * 4096 + s.val) % 4096, by omega⟩ : Fin 4096) = s := Fin.ext (by dsimp only; omega)
  show V m c main_v22 ((win0_0.blk t).view.emb (ix2 q k)) = _
  rw [e]
  entry_read
  pointwise
  first | done | (simp only [eb, es]; try rfl)

theorem gain_at (c : Dev nD) (t : Fin cfg0.N) (k : Fin 1024) :
    iblk m c 1 t (ix2 0 k) = m ((c : Thread nD τ).loc main_arg1) (ix2 0 k) := by
  have e : (win0_1.blk t).view.emb (ix2 0 k) = ix2 0 k := by
    blk_ext [(wholes t).1]
  show V m c main_v34 ((win0_1.blk t).view.emb (ix2 0 k)) = _
  rw [e]
  entry_read
  pointwise

theorem attnW_at (c : Dev nD) (t : Fin cfg0.N) (k : Fin 1024) (n : Fin 768) :
    iblk m c 2 t (ix2 k n) = if h : n.val < 512
      then m ((c : Thread nD τ).loc main_arg2) (ix3 0 k ⟨n.val / 64 % 2 * 256 + n.val / 128 * 64 + n.val % 64, by omega⟩)
      else m ((c : Thread nD τ).loc main_arg2) (ix3 0 k ⟨512 + (n.val - 512), by omega⟩) := by
  have e : (win0_2.blk t).view.emb (ix2 k n) = ix2 k n := by
    blk_ext [(wholes t).2.1]
  show V m c main_v9 ((win0_2.blk t).view.emb (ix2 k n)) = _
  rw [e]
  entry_read
  pointwise
  first | done | rfl

theorem restW_at (c : Dev nD) (t : Fin cfg0.N) (k : Fin 1024) (n : Fin 4608) :
    iblk m c 3 t (ix2 k n) = m ((c : Thread nD τ).loc main_arg2) (ix3 0 k ⟨768 + n.val, by omega⟩) := by
  have e : (win0_3.blk t).view.emb (ix2 k n) = ix2 k n := by
    blk_ext [(wholes t).2.2.1]
  show V m c main_v12 ((win0_3.blk t).view.emb (ix2 k n)) = _
  rw [e]
  entry_read
  pointwise

theorem cos_at (c : Dev nD) (t : Fin cfg0.N) (q : Fin 512) (s : Fin 4096) (hs : s.val = 512 * (t.val % 8) + q.val) (l : Fin 128) :
    iblk m c 4 t (ix2 q l) = m ((c : Thread nD τ).loc main_arg5) (ix2 s ⟨l.val % 32, by omega⟩) := by
  have e : (win0_4.blk t).view.emb (ix2 q l) = ix2 s l := by
    blk_ext [(indices' t).1]
  have e₁ : l.val % 64 < 32 → l.val % 64 = l.val % 32 := fun h => by omega
  have e₂ : ¬ l.val % 64 < 32 → l.val % 64 - 32 = l.val % 32 := fun h => by omega
  show V m c main_v16 ((win0_4.blk t).view.emb (ix2 q l)) = _
  rw [e]
  entry_read
  pointwise
  by_cases h : l.val % 64 < 32
  · refine (Cert.Inproj.Whole.taken _ h).trans ?_
    skip
    simp only [e₁ h]
    first | done | rfl
  · refine (Cert.Inproj.Whole.not_taken _ h).trans ?_
    skip
    simp only [e₂ h]
    first | done | rfl

theorem sin_at (c : Dev nD) (t : Fin cfg0.N) (q : Fin 512) (s : Fin 4096) (hs : s.val = 512 * (t.val % 8) + q.val) (l : Fin 128) :
    iblk m c 5 t (ix2 q l) = if l.val % 64 < 32 then Neg.neg (α := EReal) (m ((c : Thread nD τ).loc main_arg6) (ix2 s ⟨l.val % 32, by omega⟩))
      else m ((c : Thread nD τ).loc main_arg6) (ix2 s ⟨l.val % 32, by omega⟩) := by
  have e : (win0_5.blk t).view.emb (ix2 q l) = ix2 s l := by
    blk_ext [(indices' t).2.1]
  have e₁ : l.val % 64 < 32 → l.val % 64 = l.val % 32 := fun h => by omega
  have e₂ : ¬ l.val % 64 < 32 → l.val % 64 - 32 = l.val % 32 := fun h => by omega
  show V m c main_v21 ((win0_5.blk t).view.emb (ix2 q l)) = _
  rw [e]
  entry_read
  pointwise
  by_cases h : l.val % 64 < 32
  · refine (Cert.Inproj.Whole.taken _ h).trans ?_
    refine Eq.trans ?_ (if_pos h).symm
    simp only [e₁ h]
    first | done | rfl
  · refine (Cert.Inproj.Whole.not_taken _ h).trans ?_
    refine Eq.trans ?_ (if_neg h).symm
    simp only [e₂ h]
    first | done | rfl

theorem gainQ_at (c : Dev nD) (t : Fin cfg0.N) (l : Fin 128) :
    iblk m c 6 t (ix2 0 l) = m ((c : Thread nD τ).loc main_arg3) (ix2 0 ⟨l.val % 64, by omega⟩) := by
  have e : (win0_6.blk t).view.emb (ix2 0 l) = ix2 0 l := by
    blk_ext [(wholes t).2.2.2.1]
  show V m c main_v28 ((win0_6.blk t).view.emb (ix2 0 l)) = _
  rw [e]
  entry_read
  pointwise

theorem gainK_at (c : Dev nD) (t : Fin cfg0.N) (l : Fin 128) :
    iblk m c 7 t (ix2 0 l) = m ((c : Thread nD τ).loc main_arg4) (ix2 0 ⟨l.val % 64, by omega⟩) := by
  have e : (win0_7.blk t).view.emb (ix2 0 l) = ix2 0 l := by
    blk_ext [(wholes t).2.2.2.2.1]
  show V m c main_v33 ((win0_7.blk t).view.emb (ix2 0 l)) = _
  rw [e]
  entry_read
  pointwise

theorem lower_at (c : Dev nD) (t : Fin cfg0.N) (i j : Fin 2) (n : Fin 512) :
    iblk m c 8 t (ix3 i j n) = m ((c : Thread nD τ).loc main_arg7) (ix3 i j n) := by
  have e : (win0_8.blk t).view.emb (ix3 i j n) = ix3 i j n := by
    blk_ext [(wholes t).2.2.2.2.2]
  show V m c main_arg7 ((win0_8.blk t).view.emb (ix3 i j n)) = _
  rw [e]
  entry_read
  rfl

/-- The projection of the normed input. -/
def prj (c : Dev nD) : FVec Ideal Cert.InprojReferenceIdeal.S8x4096x5376 .f32 :=
  Cert.Inproj.Whole.proj (m ((c : Thread nD τ).loc main_arg0)) (m ((c : Thread nD τ).loc main_arg1)) (m ((c : Thread nD τ).loc main_arg2))

/-- The forget gates' lower bounds. -/
def low (c : Dev nD) : FVec Ideal S2x512 .f32 :=
  Cert.Inproj.Whole.bounds (Cert.Inproj.Whole.weights (m ((c : Thread nD τ).loc main_arg7)))

/-- The queries, normed and turned. -/
def rotQ (c : Dev nD) : FVec Ideal Cert.InprojReferenceIdeal.S8x4096x8x64 .f32 :=
  Cert.Inproj.Whole.turnQ (Cert.Inproj.Whole.normQ (Cert.Inproj.Whole.headsQ (prj m c)) (m ((c : Thread nD τ).loc main_arg3)))
    (m ((c : Thread nD τ).loc main_arg5)) (m ((c : Thread nD τ).loc main_arg6))

/-- The keys, normed and turned. -/
def rotK (c : Dev nD) : FVec Ideal Cert.InprojReferenceIdeal.S8x4096x2x64 .f32 :=
  Cert.Inproj.Whole.turnK (Cert.Inproj.Whole.normK (Cert.Inproj.Whole.headsK (prj m c)) (m ((c : Thread nD τ).loc main_arg4)))
    (m ((c : Thread nD τ).loc main_arg5)) (m ((c : Thread nD τ).loc main_arg6))

theorem low_at (c : Dev nD) (t : Fin cfg0.N) (i : Fin 2) (n : Fin 512) :
    k0_pay23 (F := Ideal) (iblk m c 8 t) (ix2 i n) = low m c (ix2 i n) := by
  rw [Block.bounds_at, low, Cert.Inproj.Whole.bounds_at]
  simp only [Cert.Inproj.Whole.weights_at, lower_at]
  rfl

theorem rest_upper (c : Dev nD) (t : Fin cfg0.N) (q : Fin 512) (b : Fin 8) (s : Fin 4096) (hs : b.val * 4096 + s.val = 512 * t.val + q.val)
    (r : Fin 256) (n : Fin 4608) (n' : Fin 5376) (hn : n'.val = 768 + n.val)
    (X : FVec Ideal S256x1024 .f32) (A B : FVec Ideal S1024x2304 .bf16)
    (hX : ∀ k, X (ix2 r k) = iblk m c 0 t (ix2 q k))
    (hA : ∀ k (n : Fin 2304), A (ix2 k n) = iblk m c 3 t (ix2 k ⟨n.val, by omega⟩))
    (hB : ∀ k (n : Fin 2304), B (ix2 k n) = iblk m c 3 t (ix2 k ⟨2304 + n.val, by omega⟩)) :
    k0_pay21 (F := Ideal) (k0_pay4 X (iblk m c 1 t)) (k0_pay9 (k0_pay4 X (iblk m c 1 t)) A) B (ix2 r n) = prj m c (ix3 b s n') := by
  rw [show n' = (⟨768 + n.val, by omega⟩ : Fin 5376) from Fin.ext hn]
  rw [Block.rest_upper X _ A B (fun k n => iblk m c 3 t (ix2 k n)) hA hB r n, prj, Cert.Inproj.Whole.proj_at]
  simp only [hX, x_at m c t q b s hs, gain_at, restW_at]

theorem rest_lower (c : Dev nD) (t : Fin cfg0.N) (q : Fin 512) (b : Fin 8) (s : Fin 4096) (hs : b.val * 4096 + s.val = 512 * t.val + q.val)
    (r : Fin 256) (n : Fin 4608) (n' : Fin 5376) (hn : n'.val = 768 + n.val)
    (X : FVec Ideal S256x1024 .f32) (A B : FVec Ideal S1024x2304 .bf16)
    (hX : ∀ k, X (ix2 r k) = iblk m c 0 t (ix2 q k))
    (hA : ∀ k (n : Fin 2304), A (ix2 k n) = iblk m c 3 t (ix2 k ⟨n.val, by omega⟩))
    (hB : ∀ k (n : Fin 2304), B (ix2 k n) = iblk m c 3 t (ix2 k ⟨2304 + n.val, by omega⟩)) :
    k0_pay22 (F := Ideal) (k0_pay6 (k0_pay5 X (iblk m c 1 t))) (k0_pay10 (k0_pay5 X (iblk m c 1 t)) A) B (ix2 r n) = prj m c (ix3 b s n') := by
  rw [show n' = (⟨768 + n.val, by omega⟩ : Fin 5376) from Fin.ext hn]
  rw [Block.rest_lower X _ A B (fun k n => iblk m c 3 t (ix2 k n)) hA hB r n, prj, Cert.Inproj.Whole.proj_at]
  simp only [hX, x_at m c t q b s hs, gain_at, restW_at]

theorem attn_upper (c : Dev nD) (t : Fin cfg0.N) (q : Fin 512) (b : Fin 8) (s : Fin 4096) (hs : b.val * 4096 + s.val = 512 * t.val + q.val)
    (r : Fin 256) (n : Fin 768) (n' : Fin 5376)
    (hn : n'.val = if n.val < 512 then n.val / 64 % 2 * 256 + n.val / 128 * 64 + n.val % 64 else n.val)
    (X : FVec Ideal S256x1024 .f32) (hX : ∀ k, X (ix2 r k) = iblk m c 0 t (ix2 q k)) :
    k0_pay7 (F := Ideal) (k0_pay4 X (iblk m c 1 t)) (iblk m c 2 t) (ix2 r n) = prj m c (ix3 b s n') := by
  rw [Block.attn_upper, prj, Cert.Inproj.Whole.proj_at]
  simp only [hX, x_at m c t q b s hs, gain_at]
  congr 1
  funext k
  refine (attnW_at m c t k n).trans ?_
  by_cases h : n.val < 512
  · rw [if_pos h] at hn
    refine (Cert.Inproj.Whole.taken _ h).trans ?_
    simp only [← hn]
  · rw [if_neg h] at hn
    refine (Cert.Inproj.Whole.not_taken _ h).trans ?_
    have e : 512 + (n.val - 512) = n'.val := by omega
    simp only [e]

theorem attn_lower (c : Dev nD) (t : Fin cfg0.N) (q : Fin 512) (b : Fin 8) (s : Fin 4096) (hs : b.val * 4096 + s.val = 512 * t.val + q.val)
    (r : Fin 256) (n : Fin 768) (n' : Fin 5376)
    (hn : n'.val = if n.val < 512 then n.val / 64 % 2 * 256 + n.val / 128 * 64 + n.val % 64 else n.val)
    (X : FVec Ideal S256x1024 .f32) (hX : ∀ k, X (ix2 r k) = iblk m c 0 t (ix2 q k)) :
    k0_pay8 (F := Ideal) (k0_pay5 X (iblk m c 1 t)) (iblk m c 2 t) (ix2 r n) = prj m c (ix3 b s n') := by
  rw [Block.attn_lower, prj, Cert.Inproj.Whole.proj_at]
  simp only [hX, x_at m c t q b s hs, gain_at]
  congr 1
  funext k
  refine (attnW_at m c t k n).trans ?_
  by_cases h : n.val < 512
  · rw [if_pos h] at hn
    refine (Cert.Inproj.Whole.taken _ h).trans ?_
    simp only [← hn]
  · rw [if_neg h] at hn
    refine (Cert.Inproj.Whole.not_taken _ h).trans ?_
    have e : 512 + (n.val - 512) = n'.val := by omega
    simp only [e]

/-- A tile of two heads is the heads it holds. -/
theorem headQ (c : Dev nD) (b : Fin 8) (s : Fin 4096) (j : Fin 4) (l : Fin 128) (p g cs sn : Fin 128 → EReal)
    (hp : ∀ (h : Fin 2) (k : Fin 64), p ⟨64 * h.val + k.val, by omega⟩ = prj m c (ix3 b s ⟨(h.val * 4 + j.val) * 64 + k.val, by omega⟩))
    (hg : ∀ n, g n = m ((c : Thread nD τ).loc main_arg3) (ix2 0 ⟨n.val % 64, by omega⟩))
    (hc : ∀ n, cs n = m ((c : Thread nD τ).loc main_arg5) (ix2 s ⟨n.val % 32, by omega⟩))
    (hs : ∀ n, sn n = if n.val % 64 < 32 then Neg.neg (α := EReal) (m ((c : Thread nD τ).loc main_arg6) (ix2 s ⟨n.val % 32, by omega⟩))
      else m ((c : Thread nD τ).loc main_arg6) (ix2 s ⟨n.val % 32, by omega⟩)) :
    tile p g cs sn l = rotQ m c (ix4 b s ⟨l.val / 64 * 4 + j.val, by omega⟩ ⟨l.val % 64, by omega⟩) := by
  rw [tile_eq p g cs sn (fun d => m ((c : Thread nD τ).loc main_arg3) (ix2 0 d)) (fun d => m ((c : Thread nD τ).loc main_arg5) (ix2 s d))
    (fun d => m ((c : Thread nD τ).loc main_arg6) (ix2 s d)) hg hc hs l, rotQ, Cert.Inproj.Whole.turnQ_at]
  simp only [Cert.Inproj.Whole.normQ_at, Cert.Inproj.Whole.headsQ_at]
  rw [show (fun k : Fin 64 => p ⟨64 * (l.val / 64) + k.val, by omega⟩) = _ from funext fun k => hp ⟨l.val / 64, by omega⟩ k]

/-- A tile of two heads is the heads it holds. -/
theorem headK (c : Dev nD) (b : Fin 8) (s : Fin 4096) (l : Fin 128) (p g cs sn : Fin 128 → EReal)
    (hp : ∀ (h : Fin 2) (k : Fin 64), p ⟨64 * h.val + k.val, by omega⟩ = prj m c (ix3 b s ⟨512 + (h.val * 64 + k.val), by omega⟩))
    (hg : ∀ n, g n = m ((c : Thread nD τ).loc main_arg4) (ix2 0 ⟨n.val % 64, by omega⟩))
    (hc : ∀ n, cs n = m ((c : Thread nD τ).loc main_arg5) (ix2 s ⟨n.val % 32, by omega⟩))
    (hs : ∀ n, sn n = if n.val % 64 < 32 then Neg.neg (α := EReal) (m ((c : Thread nD τ).loc main_arg6) (ix2 s ⟨n.val % 32, by omega⟩))
      else m ((c : Thread nD τ).loc main_arg6) (ix2 s ⟨n.val % 32, by omega⟩)) :
    tile p g cs sn l = rotK m c (ix4 b s ⟨l.val / 64, by omega⟩ ⟨l.val % 64, by omega⟩) := by
  rw [tile_eq p g cs sn (fun d => m ((c : Thread nD τ).loc main_arg4) (ix2 0 d)) (fun d => m ((c : Thread nD τ).loc main_arg5) (ix2 s d))
    (fun d => m ((c : Thread nD τ).loc main_arg6) (ix2 s d)) hg hc hs l, rotK, Cert.Inproj.Whole.turnK_at]
  simp only [Cert.Inproj.Whole.normK_at, Cert.Inproj.Whole.headsK_at]
  rw [show (fun k : Fin 64 => p ⟨64 * (l.val / 64) + k.val, by omega⟩) = _ from funext fun k => hp ⟨l.val / 64, by omega⟩ k]

theorem final_hq (c : Dev nD) : (dats m 0 c).arrAt 12 cfg0.N = Cert.Inproj.Whole.readout (prj m c) := by
  refine (dats m 0 c).arrAt_eq_of_covers 12 _ (by decide +kernel) fun t hf y => ?_
  have hN := points t
  blk_simp
  rw [after0_12]
  dsimp only [outsAt0]
  frame_out
  canon_tiles x h
  · obtain ⟨r, n, rfl⟩ : ∃ (r : Fin 256) (n : Fin 512), x = ix2 r n := ⟨x 0, x 1, eq_ix2 x⟩
    replace h0 : (y 0).val = 256 + r.val := h0
    replace h1 : (y 1).val = n.val := h1
    have e : (win0_12.blk t).view.emb y = ix2 ⟨512 * t.val + (256 + r.val), by omega⟩ n := by
      blk_ext [(indices t).2.2.1]
    refine Eq.trans ?_ (congrArg _ e.symm)
    rw [Block.readout_lower, Cert.Inproj.Whole.readout_at,
      rest_lower m c t ⟨256 + r.val, by omega⟩ ⟨(512 * t.val + (256 + r.val)) / 4096, by omega⟩ ⟨(512 * t.val + (256 + r.val)) % 4096, by omega⟩ (by dsimp only; omega)
        r ⟨n.val, by omega⟩ ⟨768 + n.val, by omega⟩ rfl]
    all_goals intros; pointwise []
  · obtain ⟨r, n, rfl⟩ : ∃ (r : Fin 256) (n : Fin 512), x = ix2 r n := ⟨x 0, x 1, eq_ix2 x⟩
    replace h0 : (y 0).val = r.val := h0
    replace h1 : (y 1).val = n.val := h1
    have e : (win0_12.blk t).view.emb y = ix2 ⟨512 * t.val + (r.val), by omega⟩ n := by
      blk_ext [(indices t).2.2.1]
    refine Eq.trans ?_ (congrArg _ e.symm)
    rw [Block.readout_upper, Cert.Inproj.Whole.readout_at,
      rest_upper m c t ⟨r.val, by omega⟩ ⟨(512 * t.val + (r.val)) / 4096, by omega⟩ ⟨(512 * t.val + (r.val)) % 4096, by omega⟩ (by dsimp only; omega)
        r ⟨n.val, by omega⟩ ⟨768 + n.val, by omega⟩ rfl]
    all_goals intros; pointwise []

theorem final_kf (c : Dev nD) : (dats m 0 c).arrAt 13 cfg0.N = Cert.Inproj.Whole.inputs (Cert.Inproj.Whole.forgetF (prj m c) (low m c)) := by
  refine (dats m 0 c).arrAt_eq_of_covers 13 _ (by decide +kernel) fun t hf y => ?_
  have hN := points t
  blk_simp
  rw [after0_13]
  dsimp only [outsAt0]
  frame_out
  canon_tiles x h
  · obtain ⟨r, n, rfl⟩ : ∃ (r : Fin 256) (n : Fin 512), x = ix2 r n := ⟨x 0, x 1, eq_ix2 x⟩
    replace h0 : (y 0).val = 256 + r.val := h0
    replace h1 : (y 1).val = n.val := h1
    have e : (win0_13.blk t).view.emb y = ix2 ⟨512 * t.val + (256 + r.val), by omega⟩ n := by
      blk_ext [(indices t).2.2.2.1]
    refine Eq.trans ?_ (congrArg _ e.symm)
    rw [Block.inputF_lower, Cert.Inproj.Whole.inputs_at, Cert.Inproj.Whole.forgetF_at, low_at,
      rest_lower m c t ⟨256 + r.val, by omega⟩ ⟨(512 * t.val + (256 + r.val)) / 4096, by omega⟩ ⟨(512 * t.val + (256 + r.val)) % 4096, by omega⟩ (by dsimp only; omega)
        r ⟨512 + n.val, by omega⟩ ⟨1280 + n.val, by omega⟩ (by dsimp only; omega)]
    all_goals intros; pointwise []
  · obtain ⟨r, n, rfl⟩ : ∃ (r : Fin 256) (n : Fin 512), x = ix2 r n := ⟨x 0, x 1, eq_ix2 x⟩
    replace h0 : (y 0).val = r.val := h0
    replace h1 : (y 1).val = n.val := h1
    have e : (win0_13.blk t).view.emb y = ix2 ⟨512 * t.val + (r.val), by omega⟩ n := by
      blk_ext [(indices t).2.2.2.1]
    refine Eq.trans ?_ (congrArg _ e.symm)
    rw [Block.inputF_upper, Cert.Inproj.Whole.inputs_at, Cert.Inproj.Whole.forgetF_at, low_at,
      rest_upper m c t ⟨r.val, by omega⟩ ⟨(512 * t.val + (r.val)) / 4096, by omega⟩ ⟨(512 * t.val + (r.val)) % 4096, by omega⟩ (by dsimp only; omega)
        r ⟨512 + n.val, by omega⟩ ⟨1280 + n.val, by omega⟩ (by dsimp only; omega)]
    all_goals intros; pointwise []

theorem final_lf (c : Dev nD) : (dats m 0 c).arrAt 14 cfg0.N = Cert.Inproj.Whole.logs (Cert.Inproj.Whole.forgetF (prj m c) (low m c)) := by
  refine (dats m 0 c).arrAt_eq_of_covers 14 _ (by decide +kernel) fun t hf y => ?_
  have hN := points t
  blk_simp
  rw [after0_14]
  dsimp only [outsAt0]
  frame_out
  canon_tiles x h
  · obtain ⟨r, n, rfl⟩ : ∃ (r : Fin 256) (n : Fin 512), x = ix2 r n := ⟨x 0, x 1, eq_ix2 x⟩
    replace h0 : (y 0).val = 256 + r.val := h0
    replace h1 : (y 1).val = n.val := h1
    have e : (win0_14.blk t).view.emb y = ix2 ⟨512 * t.val + (256 + r.val), by omega⟩ n := by
      blk_ext [(indices t).2.2.2.2.1]
    refine Eq.trans ?_ (congrArg _ e.symm)
    rw [Block.logF_lower, Cert.Inproj.Whole.logs_at, Cert.Inproj.Whole.forgetF_at, low_at,
      rest_lower m c t ⟨256 + r.val, by omega⟩ ⟨(512 * t.val + (256 + r.val)) / 4096, by omega⟩ ⟨(512 * t.val + (256 + r.val)) % 4096, by omega⟩ (by dsimp only; omega)
        r ⟨512 + n.val, by omega⟩ ⟨1280 + n.val, by omega⟩ (by dsimp only; omega)]
    all_goals intros; pointwise []
  · obtain ⟨r, n, rfl⟩ : ∃ (r : Fin 256) (n : Fin 512), x = ix2 r n := ⟨x 0, x 1, eq_ix2 x⟩
    replace h0 : (y 0).val = r.val := h0
    replace h1 : (y 1).val = n.val := h1
    have e : (win0_14.blk t).view.emb y = ix2 ⟨512 * t.val + (r.val), by omega⟩ n := by
      blk_ext [(indices t).2.2.2.2.1]
    refine Eq.trans ?_ (congrArg _ e.symm)
    rw [Block.logF_upper, Cert.Inproj.Whole.logs_at, Cert.Inproj.Whole.forgetF_at, low_at,
      rest_upper m c t ⟨r.val, by omega⟩ ⟨(512 * t.val + (r.val)) / 4096, by omega⟩ ⟨(512 * t.val + (r.val)) % 4096, by omega⟩ (by dsimp only; omega)
        r ⟨512 + n.val, by omega⟩ ⟨1280 + n.val, by omega⟩ (by dsimp only; omega)]
    all_goals intros; pointwise []

theorem final_kr (c : Dev nD) : (dats m 0 c).arrAt 16 cfg0.N = Cert.Inproj.Whole.inputs (Cert.Inproj.Whole.forgetB (prj m c) (low m c)) := by
  refine (dats m 0 c).arrAt_eq_of_covers 16 _ (by decide +kernel) fun t hf y => ?_
  have hN := points t
  blk_simp
  rw [after0_16]
  dsimp only [outsAt0]
  frame_out
  canon_tiles x h
  · obtain ⟨r, n, rfl⟩ : ∃ (r : Fin 256) (n : Fin 512), x = ix2 r n := ⟨x 0, x 1, eq_ix2 x⟩
    replace h0 : (y 0).val = 256 + r.val := h0
    replace h1 : (y 1).val = n.val := h1
    have e : (win0_16.blk t).view.emb y = ix2 ⟨512 * t.val + (256 + r.val), by omega⟩ n := by
      blk_ext [(indices t).2.2.2.2.2.1]
    refine Eq.trans ?_ (congrArg _ e.symm)
    rw [Block.inputB_lower, Cert.Inproj.Whole.inputs_at, Cert.Inproj.Whole.forgetB_at, low_at,
      rest_lower m c t ⟨256 + r.val, by omega⟩ ⟨(512 * t.val + (256 + r.val)) / 4096, by omega⟩ ⟨(512 * t.val + (256 + r.val)) % 4096, by omega⟩ (by dsimp only; omega)
        r ⟨1024 + n.val, by omega⟩ ⟨1792 + n.val, by omega⟩ (by dsimp only; omega)]
    all_goals intros; pointwise []
  · obtain ⟨r, n, rfl⟩ : ∃ (r : Fin 256) (n : Fin 512), x = ix2 r n := ⟨x 0, x 1, eq_ix2 x⟩
    replace h0 : (y 0).val = r.val := h0
    replace h1 : (y 1).val = n.val := h1
    have e : (win0_16.blk t).view.emb y = ix2 ⟨512 * t.val + (r.val), by omega⟩ n := by
      blk_ext [(indices t).2.2.2.2.2.1]
    refine Eq.trans ?_ (congrArg _ e.symm)
    rw [Block.inputB_upper, Cert.Inproj.Whole.inputs_at, Cert.Inproj.Whole.forgetB_at, low_at,
      rest_upper m c t ⟨r.val, by omega⟩ ⟨(512 * t.val + (r.val)) / 4096, by omega⟩ ⟨(512 * t.val + (r.val)) % 4096, by omega⟩ (by dsimp only; omega)
        r ⟨1024 + n.val, by omega⟩ ⟨1792 + n.val, by omega⟩ (by dsimp only; omega)]
    all_goals intros; pointwise []

theorem final_lr (c : Dev nD) : (dats m 0 c).arrAt 17 cfg0.N = Cert.Inproj.Whole.logs (Cert.Inproj.Whole.forgetB (prj m c) (low m c)) := by
  refine (dats m 0 c).arrAt_eq_of_covers 17 _ (by decide +kernel) fun t hf y => ?_
  have hN := points t
  blk_simp
  rw [after0_17]
  dsimp only [outsAt0]
  frame_out
  canon_tiles x h
  · obtain ⟨r, n, rfl⟩ : ∃ (r : Fin 256) (n : Fin 512), x = ix2 r n := ⟨x 0, x 1, eq_ix2 x⟩
    replace h0 : (y 0).val = 256 + r.val := h0
    replace h1 : (y 1).val = n.val := h1
    have e : (win0_17.blk t).view.emb y = ix2 ⟨512 * t.val + (256 + r.val), by omega⟩ n := by
      blk_ext [(indices t).2.2.2.2.2.2.1]
    refine Eq.trans ?_ (congrArg _ e.symm)
    rw [Block.logB_lower, Cert.Inproj.Whole.logs_at, Cert.Inproj.Whole.forgetB_at, low_at,
      rest_lower m c t ⟨256 + r.val, by omega⟩ ⟨(512 * t.val + (256 + r.val)) / 4096, by omega⟩ ⟨(512 * t.val + (256 + r.val)) % 4096, by omega⟩ (by dsimp only; omega)
        r ⟨1024 + n.val, by omega⟩ ⟨1792 + n.val, by omega⟩ (by dsimp only; omega)]
    all_goals intros; pointwise []
  · obtain ⟨r, n, rfl⟩ : ∃ (r : Fin 256) (n : Fin 512), x = ix2 r n := ⟨x 0, x 1, eq_ix2 x⟩
    replace h0 : (y 0).val = r.val := h0
    replace h1 : (y 1).val = n.val := h1
    have e : (win0_17.blk t).view.emb y = ix2 ⟨512 * t.val + (r.val), by omega⟩ n := by
      blk_ext [(indices t).2.2.2.2.2.2.1]
    refine Eq.trans ?_ (congrArg _ e.symm)
    rw [Block.logB_upper, Cert.Inproj.Whole.logs_at, Cert.Inproj.Whole.forgetB_at, low_at,
      rest_upper m c t ⟨r.val, by omega⟩ ⟨(512 * t.val + (r.val)) / 4096, by omega⟩ ⟨(512 * t.val + (r.val)) % 4096, by omega⟩ (by dsimp only; omega)
        r ⟨1024 + n.val, by omega⟩ ⟨1792 + n.val, by omega⟩ (by dsimp only; omega)]
    all_goals intros; pointwise []

theorem final_hv (c : Dev nD) : (dats m 0 c).arrAt 19 cfg0.N = Cert.Inproj.Whole.carried (prj m c) := by
  refine (dats m 0 c).arrAt_eq_of_covers 19 _ (by decide +kernel) fun t hf y => ?_
  have hN := points t
  blk_simp
  rw [after0_19]
  dsimp only [outsAt0]
  frame_out
  canon_tiles x h
  · obtain ⟨r, n, rfl⟩ : ∃ (r : Fin 256) (n : Fin 512), x = ix2 r n := ⟨x 0, x 1, eq_ix2 x⟩
    replace h0 : (y 0).val = 256 + r.val := h0
    replace h1 : (y 1).val = n.val := h1
    have e : (win0_19.blk t).view.emb y = ix2 ⟨512 * t.val + (256 + r.val), by omega⟩ n := by
      blk_ext [(indices t).2.2.2.2.2.2.2.1]
    refine Eq.trans ?_ (congrArg _ e.symm)
    rw [Block.carried_lower, Cert.Inproj.Whole.carried_at,
      rest_lower m c t ⟨256 + r.val, by omega⟩ ⟨(512 * t.val + (256 + r.val)) / 4096, by omega⟩ ⟨(512 * t.val + (256 + r.val)) % 4096, by omega⟩ (by dsimp only; omega)
        r ⟨1536 + n.val, by omega⟩ ⟨2304 + n.val, by omega⟩ (by dsimp only; omega)]
    all_goals intros; pointwise []
  · obtain ⟨r, n, rfl⟩ : ∃ (r : Fin 256) (n : Fin 512), x = ix2 r n := ⟨x 0, x 1, eq_ix2 x⟩
    replace h0 : (y 0).val = r.val := h0
    replace h1 : (y 1).val = n.val := h1
    have e : (win0_19.blk t).view.emb y = ix2 ⟨512 * t.val + (r.val), by omega⟩ n := by
      blk_ext [(indices t).2.2.2.2.2.2.2.1]
    refine Eq.trans ?_ (congrArg _ e.symm)
    rw [Block.carried_upper, Cert.Inproj.Whole.carried_at,
      rest_upper m c t ⟨r.val, by omega⟩ ⟨(512 * t.val + (r.val)) / 4096, by omega⟩ ⟨(512 * t.val + (r.val)) % 4096, by omega⟩ (by dsimp only; omega)
        r ⟨1536 + n.val, by omega⟩ ⟨2304 + n.val, by omega⟩ (by dsimp only; omega)]
    all_goals intros; pointwise []

theorem final_hg (c : Dev nD) : (dats m 0 c).arrAt 20 cfg0.N = Cert.Inproj.Whole.outGate (prj m c) := by
  refine (dats m 0 c).arrAt_eq_of_covers 20 _ (by decide +kernel) fun t hf y => ?_
  have hN := points t
  blk_simp
  rw [after0_20]
  dsimp only [outsAt0]
  frame_out
  canon_tiles x h
  · obtain ⟨r, n, rfl⟩ : ∃ (r : Fin 256) (n : Fin 512), x = ix2 r n := ⟨x 0, x 1, eq_ix2 x⟩
    replace h0 : (y 0).val = 256 + r.val := h0
    replace h1 : (y 1).val = n.val := h1
    have e : (win0_20.blk t).view.emb y = ix2 ⟨512 * t.val + (256 + r.val), by omega⟩ n := by
      blk_ext [(indices t).2.2.2.2.2.2.2.2.1]
    refine Eq.trans ?_ (congrArg _ e.symm)
    rw [Block.outGate_lower, Cert.Inproj.Whole.outGate_at,
      rest_lower m c t ⟨256 + r.val, by omega⟩ ⟨(512 * t.val + (256 + r.val)) / 4096, by omega⟩ ⟨(512 * t.val + (256 + r.val)) % 4096, by omega⟩ (by dsimp only; omega)
        r ⟨2048 + n.val, by omega⟩ ⟨2816 + n.val, by omega⟩ (by dsimp only; omega)]
    all_goals intros; pointwise []
  · obtain ⟨r, n, rfl⟩ : ∃ (r : Fin 256) (n : Fin 512), x = ix2 r n := ⟨x 0, x 1, eq_ix2 x⟩
    replace h0 : (y 0).val = r.val := h0
    replace h1 : (y 1).val = n.val := h1
    have e : (win0_20.blk t).view.emb y = ix2 ⟨512 * t.val + (r.val), by omega⟩ n := by
      blk_ext [(indices t).2.2.2.2.2.2.2.2.1]
    refine Eq.trans ?_ (congrArg _ e.symm)
    rw [Block.outGate_upper, Cert.Inproj.Whole.outGate_at,
      rest_upper m c t ⟨r.val, by omega⟩ ⟨(512 * t.val + (r.val)) / 4096, by omega⟩ ⟨(512 * t.val + (r.val)) % 4096, by omega⟩ (by dsimp only; omega)
        r ⟨2048 + n.val, by omega⟩ ⟨2816 + n.val, by omega⟩ (by dsimp only; omega)]
    all_goals intros; pointwise []

theorem final_ga (c : Dev nD) : (dats m 0 c).arrAt 21 cfg0.N = Cert.Inproj.Whole.gateA (prj m c) := by
  refine (dats m 0 c).arrAt_eq_of_covers 21 _ (by decide +kernel) fun t hf y => ?_
  have hN := points t
  blk_simp
  rw [after0_21]
  dsimp only [outsAt0]
  frame_out
  canon_tiles x h
  · obtain ⟨r, n, rfl⟩ : ∃ (r : Fin 256) (n : Fin 1024), x = ix2 r n := ⟨x 0, x 1, eq_ix2 x⟩
    replace h0 : (y 0).val = 256 + r.val := h0
    replace h1 : (y 1).val = n.val := h1
    have e : (win0_21.blk t).view.emb y = ix2 ⟨512 * t.val + (256 + r.val), by omega⟩ n := by
      blk_ext [(indices t).2.2.2.2.2.2.2.2.2.1]
    refine Eq.trans ?_ (congrArg _ e.symm)
    rw [Block.gateA_lower, Cert.Inproj.Whole.gateA_at,
      rest_lower m c t ⟨256 + r.val, by omega⟩ ⟨(512 * t.val + (256 + r.val)) / 4096, by omega⟩ ⟨(512 * t.val + (256 + r.val)) % 4096, by omega⟩ (by dsimp only; omega)
        r ⟨2560 + n.val, by omega⟩ ⟨3328 + n.val, by omega⟩ (by dsimp only; omega)]
    all_goals intros; pointwise []
  · obtain ⟨r, n, rfl⟩ : ∃ (r : Fin 256) (n : Fin 1024), x = ix2 r n := ⟨x 0, x 1, eq_ix2 x⟩
    replace h0 : (y 0).val = r.val := h0
    replace h1 : (y 1).val = n.val := h1
    have e : (win0_21.blk t).view.emb y = ix2 ⟨512 * t.val + (r.val), by omega⟩ n := by
      blk_ext [(indices t).2.2.2.2.2.2.2.2.2.1]
    refine Eq.trans ?_ (congrArg _ e.symm)
    rw [Block.gateA_upper, Cert.Inproj.Whole.gateA_at,
      rest_upper m c t ⟨r.val, by omega⟩ ⟨(512 * t.val + (r.val)) / 4096, by omega⟩ ⟨(512 * t.val + (r.val)) % 4096, by omega⟩ (by dsimp only; omega)
        r ⟨2560 + n.val, by omega⟩ ⟨3328 + n.val, by omega⟩ (by dsimp only; omega)]
    all_goals intros; pointwise []

theorem final_gb (c : Dev nD) : (dats m 0 c).arrAt 22 cfg0.N = Cert.Inproj.Whole.gateB (prj m c) := by
  refine (dats m 0 c).arrAt_eq_of_covers 22 _ (by decide +kernel) fun t hf y => ?_
  have hN := points t
  blk_simp
  rw [after0_22]
  dsimp only [outsAt0]
  frame_out
  canon_tiles x h
  · obtain ⟨r, n, rfl⟩ : ∃ (r : Fin 256) (n : Fin 1024), x = ix2 r n := ⟨x 0, x 1, eq_ix2 x⟩
    replace h0 : (y 0).val = 256 + r.val := h0
    replace h1 : (y 1).val = n.val := h1
    have e : (win0_22.blk t).view.emb y = ix2 ⟨512 * t.val + (256 + r.val), by omega⟩ n := by
      blk_ext [(indices t).2.2.2.2.2.2.2.2.2.2]
    refine Eq.trans ?_ (congrArg _ e.symm)
    rw [Block.gateB_lower, Cert.Inproj.Whole.gateB_at,
      rest_lower m c t ⟨256 + r.val, by omega⟩ ⟨(512 * t.val + (256 + r.val)) / 4096, by omega⟩ ⟨(512 * t.val + (256 + r.val)) % 4096, by omega⟩ (by dsimp only; omega)
        r ⟨3584 + n.val, by omega⟩ ⟨4352 + n.val, by omega⟩ (by dsimp only; omega)]
    all_goals intros; pointwise []
  · obtain ⟨r, n, rfl⟩ : ∃ (r : Fin 256) (n : Fin 1024), x = ix2 r n := ⟨x 0, x 1, eq_ix2 x⟩
    replace h0 : (y 0).val = r.val := h0
    replace h1 : (y 1).val = n.val := h1
    have e : (win0_22.blk t).view.emb y = ix2 ⟨512 * t.val + (r.val), by omega⟩ n := by
      blk_ext [(indices t).2.2.2.2.2.2.2.2.2.2]
    refine Eq.trans ?_ (congrArg _ e.symm)
    rw [Block.gateB_upper, Cert.Inproj.Whole.gateB_at,
      rest_upper m c t ⟨r.val, by omega⟩ ⟨(512 * t.val + (r.val)) / 4096, by omega⟩ ⟨(512 * t.val + (r.val)) % 4096, by omega⟩ (by dsimp only; omega)
        r ⟨3584 + n.val, by omega⟩ ⟨4352 + n.val, by omega⟩ (by dsimp only; omega)]
    all_goals intros; pointwise []

theorem first₅ (a : Fin 1) (b : Fin 1) (d : Fin 1) (l : Fin 128) (r : Fin 256) : ix5 a b d l r = ix5 0 0 0 l r := by
  obtain rfl : a = 0 := Subsingleton.elim _ _
  obtain rfl : b = 0 := Subsingleton.elim _ _
  obtain rfl : d = 0 := Subsingleton.elim _ _
  rfl

theorem first₄ {n : Nat} (a : Fin 1) (b : Fin 1) (d : Fin n) (r : Fin 256) : ix4 a b d r = ix4 0 0 d r := by
  obtain rfl : a = 0 := Subsingleton.elim _ _
  obtain rfl : b = 0 := Subsingleton.elim _ _
  rfl

theorem final_k (c : Dev nD) : (dats m 0 c).arrAt 10 cfg0.N = Cert.Inproj.Whole.keys (rotK m c) := by
  refine (dats m 0 c).arrAt_eq_of_covers 10 _ (by decide +kernel) fun t hf y => ?_
  have hN := points t
  blk_simp
  rw [after0_10]
  dsimp only [outsAt0]
  frame_out
  canon_tiles x h
  · obtain ⟨r, l, rfl⟩ : ∃ (r : Fin 256) (l : Fin 128), x = ix2 r l := ⟨x 0, x 1, eq_ix2 x⟩
    replace h0 : (y 0).val = 256 + r.val := h0
    replace h1 : (y 1).val = l.val := h1
    have e : (win0_10.blk t).view.emb y = ix2 ⟨512 * t.val + (256 + r.val), by omega⟩ l := by
      blk_ext [(indices t).2.1]
    refine Eq.trans ?_ (congrArg _ e.symm)
    rw [Cert.Inproj.Whole.keys_at]
    refine (Block.key_lower _ _ _ _ _ l r ?_).trans ?_
    · exact Block.squares_lower4 _ r
    refine headK m c _ _ l _ _ _ _ (fun h k => ?_) (fun n => gainK_at m c t n) (fun n => ?_) (fun n => ?_)
    · exact attn_lower m c t ⟨256 + r.val, by omega⟩ _ _ (by dsimp only; omega) r ⟨512 + (64 * h.val + k.val), by omega⟩ _
        (by dsimp only; rw [if_neg (by omega)]; omega) _ (fun k => by pointwise [])
    · exact Eq.trans (by pointwise []) (cos_at m c t ⟨256 + r.val, by omega⟩ _ (by dsimp only; omega) n)
    · exact Eq.trans (by pointwise []) (sin_at m c t ⟨256 + r.val, by omega⟩ _ (by dsimp only; omega) n)
  · obtain ⟨r, l, rfl⟩ : ∃ (r : Fin 256) (l : Fin 128), x = ix2 r l := ⟨x 0, x 1, eq_ix2 x⟩
    replace h0 : (y 0).val = r.val := h0
    replace h1 : (y 1).val = l.val := h1
    have e : (win0_10.blk t).view.emb y = ix2 ⟨512 * t.val + (r.val), by omega⟩ l := by
      blk_ext [(indices t).2.1]
    refine Eq.trans ?_ (congrArg _ e.symm)
    rw [Cert.Inproj.Whole.keys_at]
    refine (Block.key_upper _ _ _ _ _ l r ?_).trans ?_
    · exact Block.squares_upper4 _ _ r
    refine headK m c _ _ l _ _ _ _ (fun h k => ?_) (fun n => gainK_at m c t n) (fun n => ?_) (fun n => ?_)
    · exact attn_upper m c t ⟨r.val, by omega⟩ _ _ (by dsimp only; omega) r ⟨512 + (64 * h.val + k.val), by omega⟩ _
        (by dsimp only; rw [if_neg (by omega)]; omega) _ (fun k => by pointwise [])
    · exact Eq.trans (by pointwise []) (cos_at m c t ⟨r.val, by omega⟩ _ (by dsimp only; omega) n)
    · exact Eq.trans (by pointwise []) (sin_at m c t ⟨r.val, by omega⟩ _ (by dsimp only; omega) n)

set_option maxHeartbeats 2000000 in
theorem final_q (c : Dev nD) : (dats m 0 c).arrAt 9 cfg0.N = Cert.Inproj.Whole.queries (rotQ m c) := by
  refine (dats m 0 c).arrAt_eq_of_covers 9 _ (by decide +kernel) fun t hf y => ?_
  have hN := points t
  blk_simp
  rw [after0_9]
  dsimp only [outsAt0]
  frame_out
  canon_tiles x h
  · obtain ⟨l, r, rfl⟩ : ∃ (l : Fin 128) (r : Fin 256), x = ix5 0 0 0 l r := ⟨x 3, x 4, (eq_ix5 x).trans (first₅ _ _ _ _ _)⟩
    have e : (win0_9.blk t).view.emb y = ix5 ⟨t.val / 8, by omega⟩ ⟨2 * (t.val % 8) + 1, by omega⟩ 3 l r := by
      replace h0 : (y 0).val = 0 := h0
      replace h1 : (y 1).val = 1 := h1
      replace h2 : (y 2).val = 3 := h2
      replace h3 : (y 3).val = l.val := h3
      replace h4 : (y 4).val = r.val := h4
      blk_ext [(indices' t).2.2.1]
    refine Eq.trans ?_ (congrArg _ e.symm)
    rw [Cert.Inproj.Whole.queries_at]
    refine (Block.query_lower3 _ _ _ _ _ l r ?_).trans ?_
    · exact Block.squares_lower3 _ r
    refine congrArg (· * scale) (headQ m c _ _ 3 l _ _ _ _ (fun h k => ?_) (fun n => gainQ_at m c t n) (fun n => ?_) (fun n => ?_))
    · exact attn_lower m c t ⟨256 + r.val, by omega⟩ _ _ (by dsimp only; omega) r ⟨384 + (64 * h.val + k.val), by omega⟩ _
        (by dsimp only; rw [if_pos (by omega)]; show (h.val * 4 + 3) * 64 + k.val = _; omega) _ (fun k => by pointwise [])
    · exact Eq.trans (by pointwise []) (cos_at m c t ⟨256 + r.val, by omega⟩ _ (by dsimp only; omega) n)
    · exact Eq.trans (by pointwise []) (sin_at m c t ⟨256 + r.val, by omega⟩ _ (by dsimp only; omega) n)
  · obtain ⟨l, r, rfl⟩ : ∃ (l : Fin 128) (r : Fin 256), x = ix5 0 0 0 l r := ⟨x 3, x 4, (eq_ix5 x).trans (first₅ _ _ _ _ _)⟩
    have e : (win0_9.blk t).view.emb y = ix5 ⟨t.val / 8, by omega⟩ ⟨2 * (t.val % 8) + 1, by omega⟩ 2 l r := by
      replace h0 : (y 0).val = 0 := h0
      replace h1 : (y 1).val = 1 := h1
      replace h2 : (y 2).val = 2 := h2
      replace h3 : (y 3).val = l.val := h3
      replace h4 : (y 4).val = r.val := h4
      blk_ext [(indices' t).2.2.1]
    refine Eq.trans ?_ (congrArg _ e.symm)
    rw [Cert.Inproj.Whole.queries_at]
    refine (Block.query_lower2 _ _ _ _ _ l r ?_).trans ?_
    · exact Block.squares_lower2 _ r
    refine congrArg (· * scale) (headQ m c _ _ 2 l _ _ _ _ (fun h k => ?_) (fun n => gainQ_at m c t n) (fun n => ?_) (fun n => ?_))
    · exact attn_lower m c t ⟨256 + r.val, by omega⟩ _ _ (by dsimp only; omega) r ⟨256 + (64 * h.val + k.val), by omega⟩ _
        (by dsimp only; rw [if_pos (by omega)]; show (h.val * 4 + 2) * 64 + k.val = _; omega) _ (fun k => by pointwise [])
    · exact Eq.trans (by pointwise []) (cos_at m c t ⟨256 + r.val, by omega⟩ _ (by dsimp only; omega) n)
    · exact Eq.trans (by pointwise []) (sin_at m c t ⟨256 + r.val, by omega⟩ _ (by dsimp only; omega) n)
  · obtain ⟨l, r, rfl⟩ : ∃ (l : Fin 128) (r : Fin 256), x = ix5 0 0 0 l r := ⟨x 3, x 4, (eq_ix5 x).trans (first₅ _ _ _ _ _)⟩
    have e : (win0_9.blk t).view.emb y = ix5 ⟨t.val / 8, by omega⟩ ⟨2 * (t.val % 8) + 1, by omega⟩ 1 l r := by
      replace h0 : (y 0).val = 0 := h0
      replace h1 : (y 1).val = 1 := h1
      replace h2 : (y 2).val = 1 := h2
      replace h3 : (y 3).val = l.val := h3
      replace h4 : (y 4).val = r.val := h4
      blk_ext [(indices' t).2.2.1]
    refine Eq.trans ?_ (congrArg _ e.symm)
    rw [Cert.Inproj.Whole.queries_at]
    refine (Block.query_lower1 _ _ _ _ _ l r ?_).trans ?_
    · exact Block.squares_lower1 _ _ r
    refine congrArg (· * scale) (headQ m c _ _ 1 l _ _ _ _ (fun h k => ?_) (fun n => gainQ_at m c t n) (fun n => ?_) (fun n => ?_))
    · exact attn_lower m c t ⟨256 + r.val, by omega⟩ _ _ (by dsimp only; omega) r ⟨128 + (64 * h.val + k.val), by omega⟩ _
        (by dsimp only; rw [if_pos (by omega)]; show (h.val * 4 + 1) * 64 + k.val = _; omega) _ (fun k => by pointwise [])
    · exact Eq.trans (by pointwise []) (cos_at m c t ⟨256 + r.val, by omega⟩ _ (by dsimp only; omega) n)
    · exact Eq.trans (by pointwise []) (sin_at m c t ⟨256 + r.val, by omega⟩ _ (by dsimp only; omega) n)
  · obtain ⟨l, r, rfl⟩ : ∃ (l : Fin 128) (r : Fin 256), x = ix5 0 0 0 l r := ⟨x 3, x 4, (eq_ix5 x).trans (first₅ _ _ _ _ _)⟩
    have e : (win0_9.blk t).view.emb y = ix5 ⟨t.val / 8, by omega⟩ ⟨2 * (t.val % 8) + 1, by omega⟩ 0 l r := by
      replace h0 : (y 0).val = 0 := h0
      replace h1 : (y 1).val = 1 := h1
      replace h2 : (y 2).val = 0 := h2
      replace h3 : (y 3).val = l.val := h3
      replace h4 : (y 4).val = r.val := h4
      blk_ext [(indices' t).2.2.1]
    refine Eq.trans ?_ (congrArg _ e.symm)
    rw [Cert.Inproj.Whole.queries_at]
    refine (Block.query_lower0 _ _ _ _ _ l r ?_).trans ?_
    · exact Block.squares_lower0 _ _ r
    refine congrArg (· * scale) (headQ m c _ _ 0 l _ _ _ _ (fun h k => ?_) (fun n => gainQ_at m c t n) (fun n => ?_) (fun n => ?_))
    · exact attn_lower m c t ⟨256 + r.val, by omega⟩ _ _ (by dsimp only; omega) r ⟨64 * h.val + k.val, by omega⟩ _
        (by dsimp only; rw [if_pos (by omega)]; show (h.val * 4 + 0) * 64 + k.val = _; omega) _ (fun k => by pointwise [])
    · exact Eq.trans (by pointwise []) (cos_at m c t ⟨256 + r.val, by omega⟩ _ (by dsimp only; omega) n)
    · exact Eq.trans (by pointwise []) (sin_at m c t ⟨256 + r.val, by omega⟩ _ (by dsimp only; omega) n)
  · obtain ⟨l, r, rfl⟩ : ∃ (l : Fin 128) (r : Fin 256), x = ix5 0 0 0 l r := ⟨x 3, x 4, (eq_ix5 x).trans (first₅ _ _ _ _ _)⟩
    have e : (win0_9.blk t).view.emb y = ix5 ⟨t.val / 8, by omega⟩ ⟨2 * (t.val % 8) + 0, by omega⟩ 3 l r := by
      replace h0 : (y 0).val = 0 := h0
      replace h1 : (y 1).val = 0 := h1
      replace h2 : (y 2).val = 3 := h2
      replace h3 : (y 3).val = l.val := h3
      replace h4 : (y 4).val = r.val := h4
      blk_ext [(indices' t).2.2.1]
    refine Eq.trans ?_ (congrArg _ e.symm)
    rw [Cert.Inproj.Whole.queries_at]
    refine (Block.query_upper3 _ _ _ _ _ l r ?_).trans ?_
    · exact Block.squares_upper3 _ _ r
    refine congrArg (· * scale) (headQ m c _ _ 3 l _ _ _ _ (fun h k => ?_) (fun n => gainQ_at m c t n) (fun n => ?_) (fun n => ?_))
    · exact attn_upper m c t ⟨r.val, by omega⟩ _ _ (by dsimp only; omega) r ⟨384 + (64 * h.val + k.val), by omega⟩ _
        (by dsimp only; rw [if_pos (by omega)]; show (h.val * 4 + 3) * 64 + k.val = _; omega) _ (fun k => by pointwise [])
    · exact Eq.trans (by pointwise []) (cos_at m c t ⟨r.val, by omega⟩ _ (by dsimp only; omega) n)
    · exact Eq.trans (by pointwise []) (sin_at m c t ⟨r.val, by omega⟩ _ (by dsimp only; omega) n)
  · obtain ⟨l, r, rfl⟩ : ∃ (l : Fin 128) (r : Fin 256), x = ix5 0 0 0 l r := ⟨x 3, x 4, (eq_ix5 x).trans (first₅ _ _ _ _ _)⟩
    have e : (win0_9.blk t).view.emb y = ix5 ⟨t.val / 8, by omega⟩ ⟨2 * (t.val % 8) + 0, by omega⟩ 2 l r := by
      replace h0 : (y 0).val = 0 := h0
      replace h1 : (y 1).val = 0 := h1
      replace h2 : (y 2).val = 2 := h2
      replace h3 : (y 3).val = l.val := h3
      replace h4 : (y 4).val = r.val := h4
      blk_ext [(indices' t).2.2.1]
    refine Eq.trans ?_ (congrArg _ e.symm)
    rw [Cert.Inproj.Whole.queries_at]
    refine (Block.query_upper2 _ _ _ _ _ l r ?_).trans ?_
    · exact Block.squares_upper2 _ _ r
    refine congrArg (· * scale) (headQ m c _ _ 2 l _ _ _ _ (fun h k => ?_) (fun n => gainQ_at m c t n) (fun n => ?_) (fun n => ?_))
    · exact attn_upper m c t ⟨r.val, by omega⟩ _ _ (by dsimp only; omega) r ⟨256 + (64 * h.val + k.val), by omega⟩ _
        (by dsimp only; rw [if_pos (by omega)]; show (h.val * 4 + 2) * 64 + k.val = _; omega) _ (fun k => by pointwise [])
    · exact Eq.trans (by pointwise []) (cos_at m c t ⟨r.val, by omega⟩ _ (by dsimp only; omega) n)
    · exact Eq.trans (by pointwise []) (sin_at m c t ⟨r.val, by omega⟩ _ (by dsimp only; omega) n)
  · obtain ⟨l, r, rfl⟩ : ∃ (l : Fin 128) (r : Fin 256), x = ix5 0 0 0 l r := ⟨x 3, x 4, (eq_ix5 x).trans (first₅ _ _ _ _ _)⟩
    have e : (win0_9.blk t).view.emb y = ix5 ⟨t.val / 8, by omega⟩ ⟨2 * (t.val % 8) + 0, by omega⟩ 1 l r := by
      replace h0 : (y 0).val = 0 := h0
      replace h1 : (y 1).val = 0 := h1
      replace h2 : (y 2).val = 1 := h2
      replace h3 : (y 3).val = l.val := h3
      replace h4 : (y 4).val = r.val := h4
      blk_ext [(indices' t).2.2.1]
    refine Eq.trans ?_ (congrArg _ e.symm)
    rw [Cert.Inproj.Whole.queries_at]
    refine (Block.query_upper1 _ _ _ _ _ l r ?_).trans ?_
    · exact Block.squares_upper1 _ _ r
    refine congrArg (· * scale) (headQ m c _ _ 1 l _ _ _ _ (fun h k => ?_) (fun n => gainQ_at m c t n) (fun n => ?_) (fun n => ?_))
    · exact attn_upper m c t ⟨r.val, by omega⟩ _ _ (by dsimp only; omega) r ⟨128 + (64 * h.val + k.val), by omega⟩ _
        (by dsimp only; rw [if_pos (by omega)]; show (h.val * 4 + 1) * 64 + k.val = _; omega) _ (fun k => by pointwise [])
    · exact Eq.trans (by pointwise []) (cos_at m c t ⟨r.val, by omega⟩ _ (by dsimp only; omega) n)
    · exact Eq.trans (by pointwise []) (sin_at m c t ⟨r.val, by omega⟩ _ (by dsimp only; omega) n)
  · obtain ⟨l, r, rfl⟩ : ∃ (l : Fin 128) (r : Fin 256), x = ix5 0 0 0 l r := ⟨x 3, x 4, (eq_ix5 x).trans (first₅ _ _ _ _ _)⟩
    have e : (win0_9.blk t).view.emb y = ix5 ⟨t.val / 8, by omega⟩ ⟨2 * (t.val % 8) + 0, by omega⟩ 0 l r := by
      replace h0 : (y 0).val = 0 := h0
      replace h1 : (y 1).val = 0 := h1
      replace h2 : (y 2).val = 0 := h2
      replace h3 : (y 3).val = l.val := h3
      replace h4 : (y 4).val = r.val := h4
      blk_ext [(indices' t).2.2.1]
    refine Eq.trans ?_ (congrArg _ e.symm)
    rw [Cert.Inproj.Whole.queries_at]
    refine (Block.query_upper0 _ _ _ _ _ l r ?_).trans ?_
    · exact Block.squares_upper0 _ _ r
    refine congrArg (· * scale) (headQ m c _ _ 0 l _ _ _ _ (fun h k => ?_) (fun n => gainQ_at m c t n) (fun n => ?_) (fun n => ?_))
    · exact attn_upper m c t ⟨r.val, by omega⟩ _ _ (by dsimp only; omega) r ⟨64 * h.val + k.val, by omega⟩ _
        (by dsimp only; rw [if_pos (by omega)]; show (h.val * 4 + 0) * 64 + k.val = _; omega) _ (fun k => by pointwise [])
    · exact Eq.trans (by pointwise []) (cos_at m c t ⟨r.val, by omega⟩ _ (by dsimp only; omega) n)
    · exact Eq.trans (by pointwise []) (sin_at m c t ⟨r.val, by omega⟩ _ (by dsimp only; omega) n)

/-- Where an entry of a block of the values lies: by its half of the rows, its head, and whether it is a value or a one. -/
theorem placed (y : S1x2x80x512.Idx) :
    y ∈ (Rect.unit ![0, 1, 64, 256] ![1, 1, 16, 256] inb_S1x2x80x512_S1x1x16x256_0_1_64_256).set
    ∨ y ∈ (Rect.unit ![0, 1, 0, 256] ![1, 1, 64, 256] inb_S1x2x80x512_S1x1x64x256_0_1_0_256).set
    ∨ y ∈ (Rect.unit ![0, 0, 64, 256] ![1, 1, 16, 256] inb_S1x2x80x512_S1x1x16x256_0_0_64_256).set
    ∨ y ∈ (Rect.unit ![0, 0, 0, 256] ![1, 1, 64, 256] inb_S1x2x80x512_S1x1x64x256_0_0_0_256).set
    ∨ y ∈ (Rect.unit ![0, 1, 64, 0] ![1, 1, 16, 256] inb_S1x2x80x512_S1x1x16x256_0_1_64_0).set
    ∨ y ∈ (Rect.unit ![0, 1, 0, 0] ![1, 1, 64, 256] inb_S1x2x80x512_S1x1x64x256_0_1_0_0).set
    ∨ y ∈ (Rect.unit ![0, 0, 64, 0] ![1, 1, 16, 256] inb_S1x2x80x512_S1x1x16x256_0_0_64_0).set
    ∨ y ∈ (Rect.unit ![0, 0, 0, 0] ![1, 1, 64, 256] inb_S1x2x80x512_S1x1x64x256_0_0_0_0).set := by
  have h0 : (y 0).val < 1 := (y 0).isLt
  have h1 : (y 1).val < 2 := (y 1).isLt
  have h2 : (y 2).val < 80 := (y 2).isLt
  have h3 : (y 3).val < 512 := (y 3).isLt
  simp only [Rect.mem_set_unit]
  have k : ∀ P : Fin 4 → Prop, P 0 → P 1 → P 2 → P 3 → ∀ a, P a := fun P p0 p1 p2 p3 a => by
    fin_cases a
    · exact p0
    · exact p1
    · exact p2
    · exact p3
  by_cases c0 : 256 ≤ (y 3).val
  · by_cases c1 : 1 ≤ (y 1).val
    · by_cases c2 : 64 ≤ (y 2).val
      · exact Or.inl <| k _ (show 0 ≤ (y 0).val ∧ (y 0).val < 0 + 1 by omega) (show 1 ≤ (y 1).val ∧ (y 1).val < 1 + 1 by omega) (show 64 ≤ (y 2).val ∧ (y 2).val < 64 + 16 by omega) (show 256 ≤ (y 3).val ∧ (y 3).val < 256 + 256 by omega)
      · exact Or.inr <| Or.inl <| k _ (show 0 ≤ (y 0).val ∧ (y 0).val < 0 + 1 by omega) (show 1 ≤ (y 1).val ∧ (y 1).val < 1 + 1 by omega) (show 0 ≤ (y 2).val ∧ (y 2).val < 0 + 64 by omega) (show 256 ≤ (y 3).val ∧ (y 3).val < 256 + 256 by omega)
    · by_cases c2 : 64 ≤ (y 2).val
      · exact Or.inr <| Or.inr <| Or.inl <| k _ (show 0 ≤ (y 0).val ∧ (y 0).val < 0 + 1 by omega) (show 0 ≤ (y 1).val ∧ (y 1).val < 0 + 1 by omega) (show 64 ≤ (y 2).val ∧ (y 2).val < 64 + 16 by omega) (show 256 ≤ (y 3).val ∧ (y 3).val < 256 + 256 by omega)
      · exact Or.inr <| Or.inr <| Or.inr <| Or.inl <| k _ (show 0 ≤ (y 0).val ∧ (y 0).val < 0 + 1 by omega) (show 0 ≤ (y 1).val ∧ (y 1).val < 0 + 1 by omega) (show 0 ≤ (y 2).val ∧ (y 2).val < 0 + 64 by omega) (show 256 ≤ (y 3).val ∧ (y 3).val < 256 + 256 by omega)
  · by_cases c1 : 1 ≤ (y 1).val
    · by_cases c2 : 64 ≤ (y 2).val
      · exact Or.inr <| Or.inr <| Or.inr <| Or.inr <| Or.inl <| k _ (show 0 ≤ (y 0).val ∧ (y 0).val < 0 + 1 by omega) (show 1 ≤ (y 1).val ∧ (y 1).val < 1 + 1 by omega) (show 64 ≤ (y 2).val ∧ (y 2).val < 64 + 16 by omega) (show 0 ≤ (y 3).val ∧ (y 3).val < 0 + 256 by omega)
      · exact Or.inr <| Or.inr <| Or.inr <| Or.inr <| Or.inr <| Or.inl <| k _ (show 0 ≤ (y 0).val ∧ (y 0).val < 0 + 1 by omega) (show 1 ≤ (y 1).val ∧ (y 1).val < 1 + 1 by omega) (show 0 ≤ (y 2).val ∧ (y 2).val < 0 + 64 by omega) (show 0 ≤ (y 3).val ∧ (y 3).val < 0 + 256 by omega)
    · by_cases c2 : 64 ≤ (y 2).val
      · exact Or.inr <| Or.inr <| Or.inr <| Or.inr <| Or.inr <| Or.inr <| Or.inl <| k _ (show 0 ≤ (y 0).val ∧ (y 0).val < 0 + 1 by omega) (show 0 ≤ (y 1).val ∧ (y 1).val < 0 + 1 by omega) (show 64 ≤ (y 2).val ∧ (y 2).val < 64 + 16 by omega) (show 0 ≤ (y 3).val ∧ (y 3).val < 0 + 256 by omega)
      · exact Or.inr <| Or.inr <| Or.inr <| Or.inr <| Or.inr <| Or.inr <| Or.inr <| k _ (show 0 ≤ (y 0).val ∧ (y 0).val < 0 + 1 by omega) (show 0 ≤ (y 1).val ∧ (y 1).val < 0 + 1 by omega) (show 0 ≤ (y 2).val ∧ (y 2).val < 0 + 64 by omega) (show 0 ≤ (y 3).val ∧ (y 3).val < 0 + 256 by omega)

set_option maxHeartbeats 2000000 in
theorem final_v (c : Dev nD) : (dats m 0 c).arrAt 11 cfg0.N = Cert.Inproj.Whole.values (prj m c) := by
  refine (dats m 0 c).arrAt_eq_of_covers 11 _ (by decide +kernel) fun t hf y => ?_
  have hN := points t
  blk_simp
  rw [after0_11]
  dsimp only [outsAt0]
  frame_out
  canon_tiles x h using (by
    rcases placed y with p | p | p | p | p | p | p | p
    · exact ⟨_, List.Mem.head _, p⟩
    · exact ⟨_, List.Mem.tail _ (List.Mem.head _), p⟩
    · exact ⟨_, List.Mem.tail _ (List.Mem.tail _ (List.Mem.head _)), p⟩
    · exact ⟨_, List.Mem.tail _ (List.Mem.tail _ (List.Mem.tail _ (List.Mem.head _))), p⟩
    · exact ⟨_, List.Mem.tail _ (List.Mem.tail _ (List.Mem.tail _ (List.Mem.tail _ (List.Mem.head _)))), p⟩
    · exact ⟨_, List.Mem.tail _ (List.Mem.tail _ (List.Mem.tail _ (List.Mem.tail _ (List.Mem.tail _ (List.Mem.head _))))), p⟩
    · exact ⟨_, List.Mem.tail _ (List.Mem.tail _ (List.Mem.tail _ (List.Mem.tail _ (List.Mem.tail _ (List.Mem.tail _ (List.Mem.head _)))))), p⟩
    · exact ⟨_, List.Mem.tail _ (List.Mem.tail _ (List.Mem.tail _ (List.Mem.tail _ (List.Mem.tail _ (List.Mem.tail _ (List.Mem.tail _ (List.Mem.head _))))))), p⟩)
  · obtain ⟨d, r, rfl⟩ : ∃ (d : Fin 16) (r : Fin 256), x = ix4 0 0 d r := ⟨x 2, x 3, (eq_ix4 x).trans (first₄ _ _ _ _)⟩
    have e : (win0_11.blk t).view.emb y = ix4 ⟨t.val / 8, by omega⟩ 1 ⟨64 + d.val, by omega⟩ ⟨512 * (t.val % 8) + (256 + r.val), by omega⟩ := by
      replace h0 : (y 0).val = 0 := h0
      replace h1 : (y 1).val = 1 := h1
      replace h2 : (y 2).val = 64 + d.val := h2
      replace h3 : (y 3).val = 256 + r.val := h3
      blk_ext [(indices' t).2.2.2]
    refine Eq.trans ?_ (congrArg _ e.symm)
    rw [Cert.Inproj.Whole.values_at]
    refine Eq.trans ?_ (dif_neg (by dsimp only; omega)).symm
    exact Block.one_lower1 d r
  · obtain ⟨d, r, rfl⟩ : ∃ (d : Fin 64) (r : Fin 256), x = ix4 0 0 d r := ⟨x 2, x 3, (eq_ix4 x).trans (first₄ _ _ _ _)⟩
    have e : (win0_11.blk t).view.emb y = ix4 ⟨t.val / 8, by omega⟩ 1 ⟨d.val, by omega⟩ ⟨512 * (t.val % 8) + (256 + r.val), by omega⟩ := by
      replace h0 : (y 0).val = 0 := h0
      replace h1 : (y 1).val = 1 := h1
      replace h2 : (y 2).val = d.val := h2
      replace h3 : (y 3).val = 256 + r.val := h3
      blk_ext [(indices' t).2.2.2]
    refine Eq.trans ?_ (congrArg _ e.symm)
    rw [Cert.Inproj.Whole.values_at]
    refine Eq.trans ?_ (dif_pos (show d.val < 64 from d.isLt)).symm
    refine (Block.value_lower1 _ d r).trans ?_
    exact attn_lower m c t ⟨256 + r.val, by omega⟩ _ _ (by dsimp only; omega) r ⟨640 + (64 + d.val), by omega⟩ _
      (by dsimp only; rw [if_neg (by omega)]; show 640 + (1 * 64 + d.val) = _; omega) _ (fun k => by pointwise [])
  · obtain ⟨d, r, rfl⟩ : ∃ (d : Fin 16) (r : Fin 256), x = ix4 0 0 d r := ⟨x 2, x 3, (eq_ix4 x).trans (first₄ _ _ _ _)⟩
    have e : (win0_11.blk t).view.emb y = ix4 ⟨t.val / 8, by omega⟩ 0 ⟨64 + d.val, by omega⟩ ⟨512 * (t.val % 8) + (256 + r.val), by omega⟩ := by
      replace h0 : (y 0).val = 0 := h0
      replace h1 : (y 1).val = 0 := h1
      replace h2 : (y 2).val = 64 + d.val := h2
      replace h3 : (y 3).val = 256 + r.val := h3
      blk_ext [(indices' t).2.2.2]
    refine Eq.trans ?_ (congrArg _ e.symm)
    rw [Cert.Inproj.Whole.values_at]
    refine Eq.trans ?_ (dif_neg (by dsimp only; omega)).symm
    exact Block.one_lower0 d r
  · obtain ⟨d, r, rfl⟩ : ∃ (d : Fin 64) (r : Fin 256), x = ix4 0 0 d r := ⟨x 2, x 3, (eq_ix4 x).trans (first₄ _ _ _ _)⟩
    have e : (win0_11.blk t).view.emb y = ix4 ⟨t.val / 8, by omega⟩ 0 ⟨d.val, by omega⟩ ⟨512 * (t.val % 8) + (256 + r.val), by omega⟩ := by
      replace h0 : (y 0).val = 0 := h0
      replace h1 : (y 1).val = 0 := h1
      replace h2 : (y 2).val = d.val := h2
      replace h3 : (y 3).val = 256 + r.val := h3
      blk_ext [(indices' t).2.2.2]
    refine Eq.trans ?_ (congrArg _ e.symm)
    rw [Cert.Inproj.Whole.values_at]
    refine Eq.trans ?_ (dif_pos (show d.val < 64 from d.isLt)).symm
    refine (Block.value_lower0 _ d r).trans ?_
    exact attn_lower m c t ⟨256 + r.val, by omega⟩ _ _ (by dsimp only; omega) r ⟨640 + d.val, by omega⟩ _
      (by dsimp only; rw [if_neg (by omega)]; show 640 + (0 * 64 + d.val) = _; omega) _ (fun k => by pointwise [])
  · obtain ⟨d, r, rfl⟩ : ∃ (d : Fin 16) (r : Fin 256), x = ix4 0 0 d r := ⟨x 2, x 3, (eq_ix4 x).trans (first₄ _ _ _ _)⟩
    have e : (win0_11.blk t).view.emb y = ix4 ⟨t.val / 8, by omega⟩ 1 ⟨64 + d.val, by omega⟩ ⟨512 * (t.val % 8) + (r.val), by omega⟩ := by
      replace h0 : (y 0).val = 0 := h0
      replace h1 : (y 1).val = 1 := h1
      replace h2 : (y 2).val = 64 + d.val := h2
      replace h3 : (y 3).val = r.val := h3
      blk_ext [(indices' t).2.2.2]
    refine Eq.trans ?_ (congrArg _ e.symm)
    rw [Cert.Inproj.Whole.values_at]
    refine Eq.trans ?_ (dif_neg (by dsimp only; omega)).symm
    exact Block.one_upper1 d r
  · obtain ⟨d, r, rfl⟩ : ∃ (d : Fin 64) (r : Fin 256), x = ix4 0 0 d r := ⟨x 2, x 3, (eq_ix4 x).trans (first₄ _ _ _ _)⟩
    have e : (win0_11.blk t).view.emb y = ix4 ⟨t.val / 8, by omega⟩ 1 ⟨d.val, by omega⟩ ⟨512 * (t.val % 8) + (r.val), by omega⟩ := by
      replace h0 : (y 0).val = 0 := h0
      replace h1 : (y 1).val = 1 := h1
      replace h2 : (y 2).val = d.val := h2
      replace h3 : (y 3).val = r.val := h3
      blk_ext [(indices' t).2.2.2]
    refine Eq.trans ?_ (congrArg _ e.symm)
    rw [Cert.Inproj.Whole.values_at]
    refine Eq.trans ?_ (dif_pos (show d.val < 64 from d.isLt)).symm
    refine (Block.value_upper1 _ d r).trans ?_
    exact attn_upper m c t ⟨r.val, by omega⟩ _ _ (by dsimp only; omega) r ⟨640 + (64 + d.val), by omega⟩ _
      (by dsimp only; rw [if_neg (by omega)]; show 640 + (1 * 64 + d.val) = _; omega) _ (fun k => by pointwise [])
  · obtain ⟨d, r, rfl⟩ : ∃ (d : Fin 16) (r : Fin 256), x = ix4 0 0 d r := ⟨x 2, x 3, (eq_ix4 x).trans (first₄ _ _ _ _)⟩
    have e : (win0_11.blk t).view.emb y = ix4 ⟨t.val / 8, by omega⟩ 0 ⟨64 + d.val, by omega⟩ ⟨512 * (t.val % 8) + (r.val), by omega⟩ := by
      replace h0 : (y 0).val = 0 := h0
      replace h1 : (y 1).val = 0 := h1
      replace h2 : (y 2).val = 64 + d.val := h2
      replace h3 : (y 3).val = r.val := h3
      blk_ext [(indices' t).2.2.2]
    refine Eq.trans ?_ (congrArg _ e.symm)
    rw [Cert.Inproj.Whole.values_at]
    refine Eq.trans ?_ (dif_neg (by dsimp only; omega)).symm
    exact Block.one_upper0 d r
  · obtain ⟨d, r, rfl⟩ : ∃ (d : Fin 64) (r : Fin 256), x = ix4 0 0 d r := ⟨x 2, x 3, (eq_ix4 x).trans (first₄ _ _ _ _)⟩
    have e : (win0_11.blk t).view.emb y = ix4 ⟨t.val / 8, by omega⟩ 0 ⟨d.val, by omega⟩ ⟨512 * (t.val % 8) + (r.val), by omega⟩ := by
      replace h0 : (y 0).val = 0 := h0
      replace h1 : (y 1).val = 0 := h1
      replace h2 : (y 2).val = d.val := h2
      replace h3 : (y 3).val = r.val := h3
      blk_ext [(indices' t).2.2.2]
    refine Eq.trans ?_ (congrArg _ e.symm)
    rw [Cert.Inproj.Whole.values_at]
    refine Eq.trans ?_ (dif_pos (show d.val < 64 from d.isLt)).symm
    refine (Block.value_upper0 _ d r).trans ?_
    exact attn_upper m c t ⟨r.val, by omega⟩ _ _ (by dsimp only; omega) r ⟨640 + d.val, by omega⟩ _
      (by dsimp only; rw [if_neg (by omega)]; show 640 + (0 * 64 + d.val) = _; omega) _ (fun k => by pointwise [])

/-- From the same arrays both programs return the same twelve arrays. -/
theorem algebraic : Cert.algebraic_InprojIdeal_InprojReferenceIdeal := by
  intro m ρ m' ρ' _ hagree
  refine ⟨fun c => Cert.Inproj.Whole.queries (rotQ m c),
    fun c => Cert.Inproj.Whole.keys (rotK m c),
    fun c => Cert.Inproj.Whole.values (prj m c),
    fun c => Cert.Inproj.Whole.readout (prj m c),
    fun c => Cert.Inproj.Whole.inputs (Cert.Inproj.Whole.forgetF (prj m c) (low m c)),
    fun c => Cert.Inproj.Whole.logs (Cert.Inproj.Whole.forgetF (prj m c) (low m c)),
    fun c => Cert.Inproj.Whole.inputs (Cert.Inproj.Whole.forgetB (prj m c) (low m c)),
    fun c => Cert.Inproj.Whole.logs (Cert.Inproj.Whole.forgetB (prj m c) (low m c)),
    fun c => Cert.Inproj.Whole.carried (prj m c),
    fun c => Cert.Inproj.Whole.outGate (prj m c),
    fun c => Cert.Inproj.Whole.gateA (prj m c),
    fun c => Cert.Inproj.Whole.gateB (prj m c), ?_, ?_⟩
  · exact (θ_run Cert.InprojIdeal.defs _ _).mono (fun _ h c => ⟨(h c).1.trans (final_q m c),
      (h c).2.1.trans (final_k m c),
      (h c).2.2.1.trans (final_v m c),
      (h c).2.2.2.1.trans (final_hq m c),
      (h c).2.2.2.2.1.trans (final_kf m c),
      (h c).2.2.2.2.2.1.trans (final_lf m c),
      (h c).2.2.2.2.2.2.2.1.trans (final_kr m c),
      (h c).2.2.2.2.2.2.2.2.1.trans (final_lr m c),
      (h c).2.2.2.2.2.2.2.2.2.2.1.trans (final_hv m c),
      (h c).2.2.2.2.2.2.2.2.2.2.2.1.trans (final_hg m c),
      (h c).2.2.2.2.2.2.2.2.2.2.2.2.1.trans (final_ga m c),
      (h c).2.2.2.2.2.2.2.2.2.2.2.2.2.1.trans (final_gb m c),
      (h c).2.2.2.2.2.2.2.2.2.2.2.2.2.2⟩)
      (Cert.InprojIdeal.Value.run_blocks (F := Ideal) m ρ)
  · refine (θ_run Cert.InprojReferenceIdeal.defs _ _).mono (fun _ h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_,
      (h c).2.2.2.2.2.2.2.2.2.2.1.trans ?_,
      (h c).2.2.2.2.2.2.2.2.2.2.2.1.trans ?_,
      (h c).2.2.2.2.2.2.2.2.2.2.2.2⟩)
      (Cert.InprojReferenceIdeal.Value.run (F := Ideal) m' ρ')
    · show _ = Cert.Inproj.Whole.queries (rotQ m c)
      rw [rotQ, prj, ← (hagree c).1, ← (hagree c).2.1, ← (hagree c).2.2.1, ← (hagree c).2.2.2.1, ← (hagree c).2.2.2.2.2.1, ← (hagree c).2.2.2.2.2.2.1]
      rfl
    · show _ = Cert.Inproj.Whole.keys (rotK m c)
      rw [rotK, prj, ← (hagree c).1, ← (hagree c).2.1, ← (hagree c).2.2.1, ← (hagree c).2.2.2.2.1, ← (hagree c).2.2.2.2.2.1, ← (hagree c).2.2.2.2.2.2.1]
      rfl
    · show _ = Cert.Inproj.Whole.values (prj m c)
      rw [prj, ← (hagree c).1, ← (hagree c).2.1, ← (hagree c).2.2.1]
      rfl
    · show _ = Cert.Inproj.Whole.readout (prj m c)
      rw [prj, ← (hagree c).1, ← (hagree c).2.1, ← (hagree c).2.2.1]
      rfl
    · show _ = Cert.Inproj.Whole.inputs (Cert.Inproj.Whole.forgetF (prj m c) (low m c))
      rw [prj, low, ← (hagree c).1, ← (hagree c).2.1, ← (hagree c).2.2.1, ← (hagree c).2.2.2.2.2.2.2]
      rfl
    · show _ = Cert.Inproj.Whole.logs (Cert.Inproj.Whole.forgetF (prj m c) (low m c))
      rw [prj, low, ← (hagree c).1, ← (hagree c).2.1, ← (hagree c).2.2.1, ← (hagree c).2.2.2.2.2.2.2]
      rfl
    · show _ = Cert.Inproj.Whole.inputs (Cert.Inproj.Whole.forgetB (prj m c) (low m c))
      rw [prj, low, ← (hagree c).1, ← (hagree c).2.1, ← (hagree c).2.2.1, ← (hagree c).2.2.2.2.2.2.2]
      rfl
    · show _ = Cert.Inproj.Whole.logs (Cert.Inproj.Whole.forgetB (prj m c) (low m c))
      rw [prj, low, ← (hagree c).1, ← (hagree c).2.1, ← (hagree c).2.2.1, ← (hagree c).2.2.2.2.2.2.2]
      rfl
    · show _ = Cert.Inproj.Whole.carried (prj m c)
      rw [prj, ← (hagree c).1, ← (hagree c).2.1, ← (hagree c).2.2.1]
      rfl
    · show _ = Cert.Inproj.Whole.outGate (prj m c)
      rw [prj, ← (hagree c).1, ← (hagree c).2.1, ← (hagree c).2.2.1]
      rfl
    · show _ = Cert.Inproj.Whole.gateA (prj m c)
      rw [prj, ← (hagree c).1, ← (hagree c).2.1, ← (hagree c).2.2.1]
      rfl
    · show _ = Cert.Inproj.Whole.gateB (prj m c)
      rw [prj, ← (hagree c).1, ← (hagree c).2.1, ← (hagree c).2.2.1]
      rfl

end Cert.InprojIdeal.Result

end
-- ==== Proof.Attn.Softmax.lean ====
module

public import Idealize.ShloMosaic.PureOps.Ideal
public import Idealize.ShloMosaic.PureOps.Ideal.Laws
public import Mathlib.Analysis.SpecialFunctions.Pow.Real

@[expose] public section

set_option maxRecDepth 16384

noncomputable section

/-! # Softmax over the extended reals

The reference divides every weight by the weights' sum and then sums the values so weighted; the kernel sums the values
weighted by powers of two and divides once. On finite scores the two agree. -/

namespace Cert.Softmax

open Idealize.ShloMosaic

/-- The greatest score. -/
def top {n : ℕ} (s : Fin n → EReal) : EReal := Finset.univ.fold max ⊥ s

/-- The weight of position `j`. -/
def weight {n : ℕ} (s : Fin n → EReal) (j : Fin n) : EReal := Ideal.exp (s j - top s)

/-- The values weighted by the softmax of the scores. -/
def attend {n : ℕ} (s v : Fin n → EReal) : EReal := ∑ j, v j * Ideal.div (weight s j) (∑ i, weight s i)

theorem top_le {n : ℕ} (s : Fin n → EReal) (c : EReal) : top s ≤ c ↔ ∀ j, s j ≤ c := by
  unfold top
  rw [Finset.fold_max_le]
  simp

/-- The greatest of finitely many reals is one. -/
theorem top_real {n : ℕ} [NeZero n] (σ : Fin n → ℝ) : ∃ μ : ℝ, top (fun j => (σ j : EReal)) = μ := by
  obtain ⟨i, -, hi⟩ := Finset.exists_max_image Finset.univ σ ⟨0, Finset.mem_univ _⟩
  refine ⟨σ i, le_antisymm ((top_le _ _).2 fun j => EReal.coe_le_coe_iff.2 (hi j (Finset.mem_univ j))) ?_⟩
  exact (top_le (fun j => (σ j : EReal)) _).1 le_rfl i

/-- A positive real factor goes into a sum. -/
theorem add_mul_real (x y : EReal) (r : ℝ) (h : 0 < r) : (x + y) * (r : EReal) = x * r + y * r := by
  induction x using EReal.rec <;> induction y using EReal.rec <;>
    simp [EReal.bot_mul_coe_of_pos h, EReal.top_mul_coe_of_pos h, ← EReal.coe_add, ← EReal.coe_mul, add_mul]

theorem sum_mul_real {ι : Type} (S : Finset ι) (f : ι → EReal) (r : ℝ) (h : 0 < r) :
    (∑ i ∈ S, f i) * (r : EReal) = ∑ i ∈ S, f i * r := by
  classical
  induction S using Finset.induction_on with
  | empty => simp
  | insert a S ha ih => rw [Finset.sum_insert ha, Finset.sum_insert ha, add_mul_real _ _ r h, ih]

/-- The sum of reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- One over the logarithm of two. -/
def rate : ℝ := (Real.log 2)⁻¹

theorem rate_pos : 0 < rate := inv_pos.2 (Real.log_pos one_lt_two)

/-- A power of two of a scaled real is the exponential. -/
theorem exp2_rate (x : ℝ) : Ideal.exp2 ((x * rate : ℝ) : EReal) = Ideal.exp (x : EReal) := by
  show ((Real.rpow 2 (x * rate) : ℝ) : EReal) = ((Real.exp x : ℝ) : EReal)
  congr 1
  show (2 : ℝ) ^ (x * rate) = _
  rw [Real.rpow_def_of_pos two_pos]
  congr 1
  unfold rate
  field_simp

/-- The kernel's quotient is the reference's sum. -/
theorem quotient_eq {n : ℕ} [NeZero n] (σ : Fin n → ℝ) (v : Fin n → EReal) (M : EReal)
    (hM : ∀ c : EReal, M ≤ c ↔ ∀ j, ((σ j * rate : ℝ) : EReal) ≤ c) :
    Ideal.div (∑ j, v j * Ideal.exp2 (((σ j * rate : ℝ) : EReal) - M)) (∑ j, 1 * Ideal.exp2 (((σ j * rate : ℝ) : EReal) - M))
      = attend (fun j => (σ j : EReal)) v := by
  obtain ⟨μ, hμ⟩ := top_real σ
  have hMμ : M = ((μ * rate : ℝ) : EReal) := by
    refine le_antisymm ((hM _).2 fun j => EReal.coe_le_coe_iff.2 ?_) ?_
    · have := (top_le _ _).1 hμ.le j
      exact mul_le_mul_of_nonneg_right (EReal.coe_le_coe_iff.1 this) rate_pos.le
    · obtain ⟨i, -, hi⟩ := Finset.exists_max_image Finset.univ σ ⟨0, Finset.mem_univ _⟩
      have h1 : (μ : EReal) ≤ σ i := hμ ▸ (top_le _ _).2 fun j => EReal.coe_le_coe_iff.2 (hi j (Finset.mem_univ j))
      exact le_trans (EReal.coe_le_coe_iff.2 (mul_le_mul_of_nonneg_right (EReal.coe_le_coe_iff.1 h1) rate_pos.le))
        ((hM M).1 le_rfl i)
  have hw : ∀ j, Ideal.exp2 (((σ j * rate : ℝ) : EReal) - M) = ((Real.exp (σ j - μ) : ℝ) : EReal) := by
    intro j
    rw [hMμ, ← EReal.coe_sub, ← sub_mul, exp2_rate]
    rfl
  have hw' : ∀ j, weight (fun j => (σ j : EReal)) j = ((Real.exp (σ j - μ) : ℝ) : EReal) := by
    intro j
    unfold weight
    rw [hμ, ← EReal.coe_sub]
    rfl
  unfold attend
  simp only [hw, hw', one_mul]
  rw [← coe_sum]
  have hz : (0 : ℝ) < ∑ j, Real.exp (σ j - μ) := Finset.sum_pos (fun j _ => Real.exp_pos _) ⟨0, Finset.mem_univ _⟩
  set z : ℝ := ∑ j, Real.exp (σ j - μ)
  have hdiv : ∀ x : EReal, Ideal.div x (z : EReal) = x * ((z⁻¹ : ℝ) : EReal) := by
    intro x
    unfold Ideal.div
    rw [if_neg (by simpa using hz.ne'), EReal.coe_inv]
  simp only [hdiv]
  rw [sum_mul_real _ _ _ (inv_pos.2 hz)]
  exact Finset.sum_congr rfl fun j _ => mul_assoc _ _ _

end Cert.Softmax

end
-- ==== Proof.Attn.Layer.lean ====
module

public import proofs.«01_k».proof.Defs
public import proofs.«01_k».proof.Proof.Attn.Softmax
public import proofs.«01_k».proof.Proof.Gen.ReferenceIdeal.Run
public import Idealize.ShloMosaic.Lib.Pipeline.ValueKit
public import Idealize.ShloMosaic.Lib.Tactic.CleanTypes
public import Idealize.ShloMosaic.Lib.Pointwise

@[expose] public section

set_option maxRecDepth 16384

noncomputable section

/-! # What the reference computes -/

namespace Cert.Attn

open Cert.ReferenceIdeal Cert.ReferenceIdeal.Gen Cert.ReferenceIdeal.Facts Idealize.ShloMosaic Idealize.ShloMosaic.TcCoe Idealize.SL.Sem

/-- The scores of every query against every key. -/
def scores (q : FVec Ideal S8x4096x8x64 .f32) (k : FVec Ideal S8x4096x2x64 .f32) : FVec Ideal S8x2x4x4096x4096 .f32 :=
  transpose S8x2x4x4096x4096 [0, 1, 4, 3, 2] (Host.dotGeneral dot_S8x4096x2x64_S8x4096x2x4x64_S8x2x4096x4096x4_3_4_1_13_02_02 none k (shapeCast S8x4096x2x4x64 (mulf q (broadcastInDim S8x4096x8x64 ![] bcast_S_S8x4096x8x64 (constant S_ .f32 0x3E000000#32))) shapeCasts_S8x4096x8x64_S8x4096x2x4x64)) transposes_S8x2x4096x4096x4_S8x2x4x4096x4096_0_1_4_3_2

/-- The greatest score of every query. -/
def peaks (S : FVec Ideal S8x2x4x4096x4096 .f32) : FVec Ideal S8x2x4x4096 .f32 :=
  maximumf (broadcastInDim S8x2x4x4096 ![] bcast_S_S8x2x4x4096 (constant S_ .f32 0xFF800000#32)) (Host.reduce FloatOps.maximumf S (constant S_ .f32 0xFF800000#32) reducesTo_S8x2x4x4096x4096_S8x2x4x4096_d4 h_S_)

/-- The exponentials of the scores less the greatest. -/
def lifted (S : FVec Ideal S8x2x4x4096x4096 .f32) (M : FVec Ideal S8x2x4x4096 .f32) : FVec Ideal S8x2x4x4096x4096 .f32 :=
  Host.exp (subf S (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 M)))

/-- The sums of the exponentials. -/
def totals (E : FVec Ideal S8x2x4x4096x4096 .f32) : FVec Ideal S8x2x4x4096 .f32 :=
  Host.reduceAdd E (constant S_ .f32 0x00000000#32) reducesTo_S8x2x4x4096x4096_S8x2x4x4096_d4 h_S_

/-- The values weighted. -/
def mixed (E : FVec Ideal S8x2x4x4096x4096 .f32) (Z : FVec Ideal S8x2x4x4096 .f32) (v : FVec Ideal S8x4096x2x64 .f32) : FVec Ideal S32768x512 .bf16 :=
  truncf .bf16 (shapeCast S32768x512 (transpose S8x4096x4x2x64 [0, 4, 3, 1, 2] (Host.dotGeneral dot_S8x4096x2x64_S8x2x4x4096x4096_S8x2x64x4x4096_1_4_3_23_02_01 none v (Host.divf E (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 Z)))) transposes_S8x2x64x4x4096_S8x4096x4x2x64_0_4_3_1_2) shapeCasts_S8x4096x4x2x64_S32768x512) bitsLt_bf16_f32

theorem scores_at (q : FVec Ideal S8x4096x8x64 .f32) (k : FVec Ideal S8x4096x2x64 .f32) (b : Fin 8) (g : Fin 2) (r : Fin 4) (s j : Fin 4096) :
    scores q k (ix5 b g r s j) = ∑ c : Fin 64, k (ix4 b j g c) * (q (ix4 b s ⟨g.val * 4 + r.val, by omega⟩ c) * Ideal.ofBits .f32 0x3E000000#32) := by
  pointwise [scores]

/-- A maximum along the last of five axes. -/
theorem reduce_last {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf x init h hu (ix4 a b c d)
      = (Finset.univ : Finset (Fin n4)).fold max (init (Shape.Idx.first hu)) fun k => x (ix5 a b c d k) := by
  rw [Host.reduce_eq_fold, h.fold_fiber_r5_a4]
  rfl

theorem maximumf_at {s : Shape} (A B : FVec Ideal s .f32) (i : s.Idx) : maximumf A B i = max (A i) (B i) := rfl

theorem constant_at (u : Shape) (w : BitVec 32) (i : u.Idx) : constant (F := Ideal) u .f32 w i = Ideal.ofBits .f32 w := rfl

theorem spread_at {u t : Shape} {f : Fin u.rank → Fin t.rank} (h : u.BroadcastsInDim t f) (w : BitVec 32) (i : t.Idx) :
    broadcastInDim t f h (constant (F := Ideal) u .f32 w) i = Ideal.ofBits .f32 w := rfl

theorem peaks_at (S : FVec Ideal S8x2x4x4096x4096 .f32) (b : Fin 8) (g : Fin 2) (r : Fin 4) (s : Fin 4096) :
    peaks S (ix4 b g r s) = max (Ideal.ofBits .f32 0xFF800000#32) (Finset.univ.fold max (Ideal.ofBits .f32 0xFF800000#32) fun j : Fin 4096 => S (ix5 b g r s j)) := by
  rw [peaks, maximumf_at, spread_at, reduce_last, constant_at]

theorem lifted_at (S : FVec Ideal S8x2x4x4096x4096 .f32) (M : FVec Ideal S8x2x4x4096 .f32) (b : Fin 8) (g : Fin 2) (r : Fin 4) (s j : Fin 4096) :
    lifted S M (ix5 b g r s j) = Ideal.exp (S (ix5 b g r s j) - M (ix4 b g r s)) := by
  pointwise [lifted]

theorem totals_at (E : FVec Ideal S8x2x4x4096x4096 .f32) (b : Fin 8) (g : Fin 2) (r : Fin 4) (s : Fin 4096) :
    totals E (ix4 b g r s) = ∑ j : Fin 4096, E (ix5 b g r s j) := by
  pointwise [totals]

theorem mixed_at (E : FVec Ideal S8x2x4x4096x4096 .f32) (Z : FVec Ideal S8x2x4x4096 .f32) (v : FVec Ideal S8x4096x2x64 .f32) (i : Fin 32768) (n : Fin 512) :
    mixed E Z v (ix2 i n) = ∑ j : Fin 4096, v (ix4 ⟨i.val / 4096, by omega⟩ j ⟨n.val / 64 % 2, by omega⟩ ⟨n.val % 64, by omega⟩) *
      Ideal.div (E (ix5 ⟨i.val / 4096, by omega⟩ ⟨n.val / 64 % 2, by omega⟩ ⟨n.val / 128, by omega⟩ ⟨i.val % 4096, by omega⟩ j))
        (Z (ix4 ⟨i.val / 4096, by omega⟩ ⟨n.val / 64 % 2, by omega⟩ ⟨n.val / 128, by omega⟩ ⟨i.val % 4096, by omega⟩)) := by
  pointwise [mixed]

/-- The scale of the queries, as the reference spells it. -/
abbrev eighth : EReal := Ideal.ofBits .f32 0x3E000000#32

/-- The score of query `s` of head `(g, r)` against key `j`, in batch `b`. -/
def score (q : FVec Ideal S8x4096x8x64 .f32) (k : FVec Ideal S8x4096x2x64 .f32) (b : Fin 8) (g : Fin 2) (r : Fin 4) (s j : Fin 4096) : EReal :=
  ∑ c : Fin 64, k (ix4 b j g c) * (q (ix4 b s ⟨g.val * 4 + r.val, by omega⟩ c) * eighth)

/-- One entry of the attention's result. -/
def entry (q : FVec Ideal S8x4096x8x64 .f32) (k v : FVec Ideal S8x4096x2x64 .f32) (b : Fin 8) (g : Fin 2) (r : Fin 4) (s : Fin 4096) (d : Fin 64) : EReal :=
  Softmax.attend (fun j => score q k b g r s j) fun j => v (ix4 b j g d)

/-- The attention's result: row `4096 b + s`, column `128 r + 64 g + d`. -/
def attention (q : FVec Ideal S8x4096x8x64 .f32) (k v : FVec Ideal S8x4096x2x64 .f32) : FVec Ideal S32768x512 .bf16 := fun y =>
  have h0 : (y 0).val < 32768 := (y 0).isLt
  have h1 : (y 1).val < 512 := (y 1).isLt
  entry q k v ⟨(y 0).val / 4096, by omega⟩ ⟨(y 1).val / 64 % 2, by omega⟩ ⟨(y 1).val / 128, by omega⟩
    ⟨(y 0).val % 4096, by omega⟩ ⟨(y 1).val % 64, by omega⟩

theorem lowest : Ideal.ofBits .f32 0xFF800000#32 = ⊥ := by
  simp [Ideal.ofBits, Ideal.ieee]

theorem mixed_eq (q : FVec Ideal S8x4096x8x64 .f32) (k v : FVec Ideal S8x4096x2x64 .f32) :
    mixed (lifted (scores q k) (peaks (scores q k))) (totals (lifted (scores q k) (peaks (scores q k)))) v = attention q k v := by
  funext y
  obtain ⟨i, n, rfl⟩ : ∃ (a : Fin 32768) (b : Fin 512), y = ix2 a b := ⟨y 0, y 1, eq_ix2 y⟩
  rw [mixed_at]
  simp only [totals_at, lifted_at, peaks_at, scores_at, lowest, bot_le, max_eq_right]
  rfl

/-- The reference's run. -/
theorem reference_run (m' : (ℓ : Loc nD τ sig) → Buf (Elt Ideal) ℓ) (ρ' : Dev nD → PrngReg) :
    θ_run defs (onTc (τ := τ) (main (F := Ideal))) ⟨m', fun _ => 0, ρ'⟩
      fun r => ∀ c : Dev nD, r.2.mem ((c.tc : Thread _ _).loc main_v19)
            = attention (m' ((c.tc : Thread _ _).loc main_arg0)) (m' ((c.tc : Thread _ _).loc main_arg1)) (m' ((c.tc : Thread _ _).loc main_arg2))
        ∧ r.2.mem ((c.tc : Thread _ _).loc main_arg0) = m' ((c.tc : Thread _ _).loc main_arg0)
        ∧ r.2.mem ((c.tc : Thread _ _).loc main_arg1) = m' ((c.tc : Thread _ _).loc main_arg1)
        ∧ r.2.mem ((c.tc : Thread _ _).loc main_arg2) = m' ((c.tc : Thread _ _).loc main_arg2) :=
  (θ_run defs _ _).mono (fun _ h c => ⟨(h c).1.trans (mixed_eq _ _ _), (h c).2⟩) (Value.run (F := Ideal) m' ρ')

end Cert.Attn

end
-- ==== Proof.Attn.Point.lean ====
module

public import proofs.«01_k».proof.Defs
public import proofs.«01_k».proof.Proof.Attn.Vocab
public import proofs.«01_k».proof.Proof.Attn.Layer
public import Idealize.ShloMosaic.Lib.Pipeline.ValueKit
public import Idealize.ShloMosaic.Lib.Pointwise

@[expose] public section

set_option maxRecDepth 16384

noncomputable section

/-! # The kernel's block, entry by entry -/

namespace Cert.Attn

open Cert.KernelIdeal Cert.KernelIdeal.Gen Idealize.ShloMosaic Idealize.ShloMosaic.TcCoe

/-! ## The kernel's operations at an index -/

theorem product_at (Q : FVec Ideal S128x512 .bf16) (kc : Vec Ideal S256x128 .bf16) (i : Fin 256) (n : Fin 512) :
    k0_pay9 (F := Ideal) Q kc (ix2 i n) = ∑ c : Fin 128, kc (ix2 i c) * Q (ix2 c n) := by
  pointwise [k0_pay9]

theorem stored_at (Q : FVec Ideal S128x512 .bf16) (kc : Vec Ideal S256x128 .bf16) (i : Fin 256) (n : Fin 512) :
    k0_pay10 (F := Ideal) Q kc (ix2 i n) = k0_pay9 (F := Ideal) Q kc (ix2 i n) := by
  pointwise [k0_pay10]

theorem weighted_at (s : FVec Ideal S256x512 .f32) (M : FVec Ideal S1x1x512 .f32) (vt : FVec Ideal S1x1x80x256 .bf16) (a : Fin 80) (n : Fin 512) :
    k0_pay8 (F := Ideal) s M vt (ix2 a n) = ∑ k : Fin 256, vt (ix4 0 0 a k) * Ideal.exp2 (s (ix2 k n) - M (ix3 0 0 n)) := by
  pointwise [k0_pay8]
  rfl

theorem below : ∀ c : Fin 128, IntOp.cmpi .slt (BitVec.ofNat 32 c.val) 64#32 = if c.val < 64 then 1#1 else 0#1 := by
  decide +kernel

theorem masked_at (a b : FVec Ideal S1x1x1x128x256 .bf16) (c : Fin 128) (n : Fin 512) :
    k0_pay4 (F := Ideal) k0_pay247 a b (ix2 c n) = if c.val < 64 then
      (if h : n.val < 256 then a (ix5 0 0 0 c ⟨n.val, h⟩) else b (ix5 0 0 0 c ⟨n.val - 256, by omega⟩)) else 0 := by
  pointwise [k0_pay4, k0_pay247]
  rw [below]
  by_cases h : c.val < 64 <;> simp [h, Scalar.select]

theorem masked_upper_at (a b : FVec Ideal S1x1x1x128x256 .bf16) (c : Fin 128) (n : Fin 512) :
    k0_pay63 (F := Ideal) k0_pay247 a b (ix2 c n) = if c.val < 64 then 0 else
      (if h : n.val < 256 then a (ix5 0 0 0 c ⟨n.val, h⟩) else b (ix5 0 0 0 c ⟨n.val - 256, by omega⟩)) := by
  pointwise [k0_pay63, k0_pay247]
  rw [below]
  by_cases h : c.val < 64 <;> simp [h, Scalar.select, IntOp.xori]

theorem cmax_at (Q : FVec Ideal S128x512 .bf16) (kc : Vec Ideal S256x128 .bf16) (i : Fin 64) (n : Fin 512) :
    cmax (F := Ideal) Q kc (ix2 i n) = Finset.univ.fold max (Ideal.ofBits .f32 0xFF800000#32) fun a : Fin 4 => k0_pay9 (F := Ideal) Q kc (ix2 ⟨a.val * 64 + i.val, by omega⟩ n) := by
  pointwise [cmax]

theorem rows_max_at (M : FVec Ideal S64x512 .f32) (n : Fin 512) :
    k0_pay237 (F := Ideal) M (ix3 0 0 n) = Finset.univ.fold max (Ideal.ofBits .f32 0xFF800000#32) fun a : Fin 64 => M (ix2 a n) := by
  pointwise [k0_pay237]

theorem quot_at (o : FVec Ideal S80x512 .f32) (d : Fin 64) (n : Fin 512) :
    quot (F := Ideal) o (ix3 0 d n) = Ideal.div (o (ix2 ⟨d.val, by omega⟩ n)) (o (ix2 64 n)) := by
  pointwise [quot]

theorem out0_at (a b : FVec Ideal S1x64x512 .f32) (i : Fin 256) (n : Fin 128) :
    k0_pay245 (F := Ideal) a b (ix2 i n) = if h : n.val < 64 then a (ix3 0 ⟨n.val, h⟩ ⟨i.val, by omega⟩)
      else b (ix3 0 ⟨n.val - 64, by omega⟩ ⟨i.val, by omega⟩) := by
  pointwise [k0_pay245]

theorem out1_at (a b : FVec Ideal S1x64x512 .f32) (i : Fin 256) (n : Fin 128) :
    k0_pay1 (F := Ideal) (k0_pay246 (F := Ideal) a b) (ix2 i n) = if h : n.val < 64 then a (ix3 0 ⟨n.val, h⟩ ⟨256 + i.val, by omega⟩)
      else b (ix3 0 ⟨n.val - 64, by omega⟩ ⟨256 + i.val, by omega⟩) := by
  pointwise [k0_pay1, k0_pay246]

theorem out2_at (a b : FVec Ideal S1x64x512 .f32) (i : Fin 256) (n : Fin 128) :
    k0_pay2 (F := Ideal) a b (ix2 i n) = if h : n.val < 64 then a (ix3 0 ⟨n.val, h⟩ ⟨i.val, by omega⟩)
      else b (ix3 0 ⟨n.val - 64, by omega⟩ ⟨i.val, by omega⟩) := by
  pointwise [k0_pay2]

theorem out3_at (a b : FVec Ideal S1x64x512 .f32) (i : Fin 256) (n : Fin 128) :
    k0_pay3 (F := Ideal) a b (ix2 i n) = if h : n.val < 64 then a (ix3 0 ⟨n.val, h⟩ ⟨256 + i.val, by omega⟩)
      else b (ix3 0 ⟨n.val - 64, by omega⟩ ⟨256 + i.val, by omega⟩) := by
  pointwise [k0_pay3]

/-! ## Sums and maxima over the chunks -/

/-- A sum over a row of 128 by its halves. -/
theorem halves (f : Fin 128 → EReal) :
    ∑ c, f c = (∑ c : Fin 64, f ⟨c.val, by omega⟩) + ∑ c : Fin 64, f ⟨64 + c.val, by omega⟩ :=
  Fin.sum_univ_add (a := 64) (b := 64) f

/-- A sum chunk by chunk is the sum over all rows. -/
theorem chunks (f : ℕ → Fin 256 → EReal) :
    ∑ j ∈ Finset.range 16, ∑ k, f j k = ∑ i : Fin 4096, f (i.val / 256) ⟨i.val % 256, by omega⟩ := by
  rw [Finset.sum_range, ← Fintype.sum_prod_type' (fun (j : Fin 16) k => f j.val k)]
  exact (Equiv.sum_comp (finProdFinEquiv (m := 16) (n := 256)).symm fun p => f p.1.val p.2).symm

theorem acc_at (s : ℕ → FVec Ideal S256x512 .f32) (M : FVec Ideal S1x1x512 .f32) (vt : ℕ → FVec Ideal S1x1x80x256 .bf16)
    (a : Fin 80) (n : Fin 512) : ∀ l : ℕ, acc (F := Ideal) s M vt l (ix2 a n)
      = ∑ j ∈ Finset.range (l + 1), ∑ k : Fin 256, vt j (ix4 0 0 a k) * Ideal.exp2 (s j (ix2 k n) - M (ix3 0 0 n))
  | 0 => by
    rw [Finset.sum_range_one]
    exact weighted_at _ _ _ _ _
  | l + 1 => by
    rw [Finset.sum_range_succ, ← acc_at s M vt a n l, ← weighted_at]
    rfl

theorem mx_le (Q : FVec Ideal S128x512 .bf16) (kc : ℕ → Vec Ideal S256x128 .bf16) (i : Fin 64) (n : Fin 512) (e : EReal) : ∀ l : ℕ,
    mx (F := Ideal) Q kc l (ix2 i n) ≤ e ↔ ∀ j ≤ l, ∀ a : Fin 4, k0_pay9 (F := Ideal) Q (kc j) (ix2 ⟨a.val * 64 + i.val, by omega⟩ n) ≤ e
  | 0 => by
    show cmax (F := Ideal) Q (kc 0) (ix2 i n) ≤ e ↔ _
    rw [cmax_at, Finset.fold_max_le, lowest]
    simp
  | l + 1 => by
    show max (mx (F := Ideal) Q kc l (ix2 i n)) (cmax (F := Ideal) Q (kc (l + 1)) (ix2 i n)) ≤ e ↔ _
    rw [max_le_iff, mx_le Q kc i n e l, cmax_at, Finset.fold_max_le, lowest]
    constructor
    · rintro ⟨h1, -, h2⟩ j hj a
      rcases Nat.lt_succ_iff_lt_or_eq.mp (Nat.lt_succ_of_le hj) with h | rfl
      · exact h1 j (by omega) a
      · exact h2 a (Finset.mem_univ a)
    · intro h
      exact ⟨fun j hj a => h j (by omega) a, bot_le, fun a _ => h _ le_rfl a⟩

theorem colmax_le (Q : FVec Ideal S128x512 .bf16) (kc : ℕ → Vec Ideal S256x128 .bf16) (n : Fin 512) (e : EReal) :
    colmax (F := Ideal) Q kc (ix3 0 0 n) ≤ e
      ↔ ∀ j : Fin 4096, k0_pay9 (F := Ideal) Q (kc (j.val / 256)) (ix2 ⟨j.val % 256, by omega⟩ n) ≤ e := by
  unfold colmax
  rw [rows_max_at, Finset.fold_max_le, lowest]
  simp only [mx_le]
  constructor
  · rintro ⟨-, h⟩ j
    have h' := h ⟨j.val % 256 % 64, by omega⟩ (Finset.mem_univ _) (j.val / 256) (by omega) ⟨j.val % 256 / 64, by omega⟩
    have e : (⟨j.val % 256 / 64 * 64 + j.val % 256 % 64, by omega⟩ : Fin 256) = ⟨j.val % 256, by omega⟩ := Fin.ext (by dsimp only; omega)
    exact e ▸ h'
  · intro h
    refine ⟨bot_le, fun i _ j hj a => ?_⟩
    have h' := h ⟨256 * j + (a.val * 64 + i.val), by omega⟩
    have e1 : (256 * j + (a.val * 64 + i.val)) / 256 = j := by omega
    have e2 : (⟨(256 * j + (a.val * 64 + i.val)) % 256, by omega⟩ : Fin 256) = ⟨a.val * 64 + i.val, by omega⟩ := Fin.ext (by dsimp only; omega)
    dsimp only at h'
    rw [e1, e2] at h'
    exact h'

/-! ## The block's entries -/

section Entries

variable (x1 : FVec Ideal S1x16x4x128x256 .bf16) (x2 : FVec Ideal S4096x128 .bf16) (x3 : FVec Ideal S1x2x80x4096 .bf16)
  (t : Fin 16) (g : Fin 2) (r : Fin 4) (i : Fin 256)

theorem qch_at (r : ℕ) (h : r < 4) (c : Fin 128) : qch (F := Ideal) x1 t.val r (ix5 0 0 0 c i) = x1 (ix5 0 t ⟨r, h⟩ c i) := by
  have ht : t.val % 16 = t.val := Nat.mod_eq_of_lt t.isLt
  have hr : r % 4 = r := Nat.mod_eq_of_lt h
  pointwise [qch, qrect]
  congr 1
  simp only [ht, hr]

theorem kch_at (j : ℕ) (h : j < 16) (k : Fin 256) (c : Fin 128) :
    kch (F := Ideal) x2 j (ix2 k c) = x2 (ix2 ⟨256 * j + k.val, by omega⟩ c) := by
  have hj : j % 16 = j := Nat.mod_eq_of_lt h
  pointwise [kch, krect]
  congr 1
  simp only [hj]

theorem vch_at (j : ℕ) (h : j < 16) (a : Fin 80) (k : Fin 256) :
    vch (F := Ideal) x3 g.val j (ix4 0 0 a k) = x3 (ix4 0 g a ⟨256 * j + k.val, by omega⟩) := by
  have hj : j % 16 = j := Nat.mod_eq_of_lt h
  have hg : g.val % 2 = g.val := Nat.mod_eq_of_lt g.isLt
  pointwise [vch, vrect]
  congr 1
  simp only [hj, hg]

theorem lower_at (r0 r1 : ℕ) (h0 : r0 < 4) (h1 : r1 < 4) (c : Fin 128) (n : Fin 512) :
    k0_pay4 (F := Ideal) k0_pay247 (qch x1 t.val r0) (qch x1 t.val r1) (ix2 c n) = if c.val / 64 = 0 then
      x1 (ix5 0 t (if n.val < 256 then ⟨r0, h0⟩ else ⟨r1, h1⟩) c ⟨n.val % 256, by omega⟩) else 0 := by
  have hc : c.val < 128 := c.isLt
  rw [masked_at]
  by_cases h : c.val < 64
  · rw [if_pos h, if_pos (by omega)]
    by_cases hn : n.val < 256
    · rw [dif_pos hn, if_pos hn, qch_at x1 t _ r0 h0]
      simp only [Nat.mod_eq_of_lt hn]
    · have e : n.val % 256 = n.val - 256 := by have := n.isLt; omega
      rw [dif_neg hn, if_neg hn, qch_at x1 t _ r1 h1]
      simp only [e]
  · rw [if_neg h, if_neg (by omega)]

theorem upper_at (r0 r1 : ℕ) (h0 : r0 < 4) (h1 : r1 < 4) (c : Fin 128) (n : Fin 512) :
    k0_pay63 (F := Ideal) k0_pay247 (qch x1 t.val r0) (qch x1 t.val r1) (ix2 c n) = if c.val / 64 = 1 then
      x1 (ix5 0 t (if n.val < 256 then ⟨r0, h0⟩ else ⟨r1, h1⟩) c ⟨n.val % 256, by omega⟩) else 0 := by
  have hc : c.val < 128 := c.isLt
  rw [masked_upper_at]
  by_cases h : c.val < 64
  · rw [if_pos h, if_neg (by omega)]
  · rw [if_neg h, if_pos (by omega)]
    by_cases hn : n.val < 256
    · rw [dif_pos hn, if_pos hn, qch_at x1 t _ r0 h0]
      simp only [Nat.mod_eq_of_lt hn]
    · have e : n.val % 256 = n.val - 256 := by have := n.isLt; omega
      rw [dif_neg hn, if_neg hn, qch_at x1 t _ r1 h1]
      simp only [e]

/-- The column of a block that holds query `i` of head `r`. -/
def col : Fin 512 := ⟨256 * (r.val % 2) + i.val, by omega⟩

theorem col_even (h : r.val % 2 = 0) : ((col r i).val < 256) ∧ (col r i).val % 256 = i.val := by
  have := i.isLt
  unfold col
  constructor <;> dsimp only <;> omega

theorem col_odd (h : r.val % 2 = 1) : ¬ ((col r i).val < 256) ∧ (col r i).val % 256 = i.val := by
  have := i.isLt
  unfold col
  constructor <;> dsimp only <;> omega

/-- The masked queries: those of head `r` of group `g`, zero on the other group's rows. -/
theorem qm_at (c : Fin 128) : qm (F := Ideal) k0_pay247 x1 t.val (r.val / 2 + 2 * g.val) (ix2 c (col r i))
    = if c.val / 64 = g.val then x1 (ix5 0 t r c i) else 0 := by
  match g, r with
  | 0, 0 => refine (lower_at x1 t 0 1 (by omega) (by omega) c _).trans ?_; simp only [col_even 0 i rfl]; rfl
  | 0, 1 => refine (lower_at x1 t 0 1 (by omega) (by omega) c _).trans ?_; simp only [col_odd 1 i rfl]; rfl
  | 0, 2 => refine (lower_at x1 t 2 3 (by omega) (by omega) c _).trans ?_; simp only [col_even 2 i rfl]; rfl
  | 0, 3 => refine (lower_at x1 t 2 3 (by omega) (by omega) c _).trans ?_; simp only [col_odd 3 i rfl]; rfl
  | 1, 0 => refine (upper_at x1 t 0 1 (by omega) (by omega) c _).trans ?_; simp only [col_even 0 i rfl]; rfl
  | 1, 1 => refine (upper_at x1 t 0 1 (by omega) (by omega) c _).trans ?_; simp only [col_odd 1 i rfl]; rfl
  | 1, 2 => refine (upper_at x1 t 2 3 (by omega) (by omega) c _).trans ?_; simp only [col_even 2 i rfl]; rfl
  | 1, 3 => refine (upper_at x1 t 2 3 (by omega) (by omega) c _).trans ?_; simp only [col_odd 3 i rfl]; rfl

/-- The kernel's score of key `j` for query `i` of head `r` of group `g`. -/
def kscore (j : Fin 4096) : EReal :=
  ∑ c : Fin 64, x2 (ix2 j ⟨64 * g.val + c.val, by omega⟩) * x1 (ix5 0 t r ⟨64 * g.val + c.val, by omega⟩ i)

theorem kscore_at (j : Fin 4096) : k0_pay9 (F := Ideal) (qm k0_pay247 x1 t.val (r.val / 2 + 2 * g.val)) (kch x2 (j.val / 256))
    (ix2 ⟨j.val % 256, by omega⟩ (col r i)) = kscore x1 x2 t g r i j := by
  have hj : 256 * (j.val / 256) + j.val % 256 = j.val := by omega
  have l : ∀ c : Fin 64, (c.val) / 64 = 0 := fun c => by omega
  have u : ∀ c : Fin 64, (64 + c.val) / 64 = 1 := fun c => by omega
  rw [product_at]
  simp only [qm_at, kch_at x2 _ (show j.val / 256 < 16 by omega), hj]
  rw [halves]
  simp only [l, u]
  unfold kscore
  match g with
  | 0 => simp
  | 1 => simp

/-- One entry of a normalised block. -/
theorem yv_at (d : Fin 64) : yv (F := Ideal) k0_pay247 x1 x2 x3 t.val (r.val / 2 + 2 * g.val) (ix3 0 d (col r i))
    = Ideal.div
      (∑ j : Fin 4096, x3 (ix4 0 g ⟨d.val, by omega⟩ j) * Ideal.exp2 (kscore x1 x2 t g r i j
        - colmax (F := Ideal) (qm k0_pay247 x1 t.val (r.val / 2 + 2 * g.val)) (kch x2) (ix3 0 0 (col r i))))
      (∑ j : Fin 4096, x3 (ix4 0 g 64 j) * Ideal.exp2 (kscore x1 x2 t g r i j
        - colmax (F := Ideal) (qm k0_pay247 x1 t.val (r.val / 2 + 2 * g.val)) (kch x2) (ix3 0 0 (col r i)))) := by
  have hg : (r.val / 2 + 2 * g.val) / 2 = g.val := by omega
  have hj : ∀ j : Fin 4096, 256 * (j.val / 256) + j.val % 256 = j.val := fun j => by omega
  have hj' : ∀ j : Fin 4096, j.val / 256 < 16 := fun j => by omega
  unfold yv yblk
  rw [quot_at, acc_at, acc_at, hg, chunks, chunks]
  unfold sco
  simp only [stored_at, kscore_at]
  have v : ∀ (a : Fin 80) (j : Fin 4096), vch (F := Ideal) x3 g.val (j.val / 256) (ix4 0 0 a ⟨j.val % 256, by omega⟩) = x3 (ix4 0 g a j) := by
    intro a j
    rw [vch_at x3 g _ (hj' j)]
    simp only [hj]
  simp only [v]

/-- An entry of two halves put one under the other. -/
theorem pick (f0 f1 : Fin 64 → EReal) (d : Fin 64) :
    (if h : 64 * g.val + d.val < 64 then f0 ⟨64 * g.val + d.val, h⟩ else f1 ⟨64 * g.val + d.val - 64, by omega⟩)
      = if g.val = 0 then f0 d else f1 d := by
  have hd : d.val < 64 := d.isLt
  by_cases h : g.val = 0
  · rw [if_pos h, dif_pos (by omega)]
    exact congrArg f0 (Fin.ext (by dsimp only; omega))
  · rw [if_neg h, dif_neg (by omega)]
    exact congrArg f1 (Fin.ext (by dsimp only; omega))

/-- One entry of the output block. -/
theorem ov_at (d : Fin 64) : ov (F := Ideal) k0_pay247 x1 x2 x3 t.val r.val (ix2 i ⟨64 * g.val + d.val, by omega⟩)
    = yv (F := Ideal) k0_pay247 x1 x2 x3 t.val (r.val / 2 + 2 * g.val) (ix3 0 d (col r i)) := by
  have e0 : (⟨i.val, by omega⟩ : Fin 512) = col 0 i := Fin.ext (Nat.zero_add _).symm
  have e2 : (⟨i.val, by omega⟩ : Fin 512) = col 2 i := Fin.ext (Nat.zero_add _).symm
  match r with
  | 0 =>
    refine (out0_at _ _ i _).trans ((pick g (fun d => yv (F := Ideal) k0_pay247 x1 x2 x3 t.val 0 (ix3 0 d ⟨i.val, by omega⟩))
      (fun d => yv (F := Ideal) k0_pay247 x1 x2 x3 t.val 2 (ix3 0 d ⟨i.val, by omega⟩)) d).trans ?_)
    rw [e0]
    match g with
    | 0 => rfl
    | 1 => rfl
  | 1 =>
    refine (out1_at _ _ i _).trans ((pick g (fun d => yv (F := Ideal) k0_pay247 x1 x2 x3 t.val 0 (ix3 0 d ⟨256 + i.val, by omega⟩))
      (fun d => yv (F := Ideal) k0_pay247 x1 x2 x3 t.val 2 (ix3 0 d ⟨256 + i.val, by omega⟩)) d).trans ?_)
    match g with
    | 0 => rfl
    | 1 => rfl
  | 2 =>
    refine (out2_at _ _ i _).trans ((pick g (fun d => yv (F := Ideal) k0_pay247 x1 x2 x3 t.val 1 (ix3 0 d ⟨i.val, by omega⟩))
      (fun d => yv (F := Ideal) k0_pay247 x1 x2 x3 t.val 3 (ix3 0 d ⟨i.val, by omega⟩)) d).trans ?_)
    rw [e2]
    match g with
    | 0 => rfl
    | 1 => rfl
  | 3 =>
    refine (out3_at _ _ i _).trans ((pick g (fun d => yv (F := Ideal) k0_pay247 x1 x2 x3 t.val 1 (ix3 0 d ⟨256 + i.val, by omega⟩))
      (fun d => yv (F := Ideal) k0_pay247 x1 x2 x3 t.val 3 (ix3 0 d ⟨256 + i.val, by omega⟩)) d).trans ?_)
    match g with
    | 0 => rfl
    | 1 => rfl

/-- One entry of the output block, where the scores are a scaled copy of finite ones and the values' row below is all ones. -/
theorem ov_eq (d : Fin 64) (σ : Fin 4096 → ℝ) (v : Fin 4096 → EReal)
    (hs : ∀ j, kscore x1 x2 t g r i j = ((σ j * Softmax.rate : ℝ) : EReal))
    (hv : ∀ j, x3 (ix4 0 g ⟨d.val, by omega⟩ j) = v j) (h1 : ∀ j, x3 (ix4 0 g 64 j) = 1) :
    ov (F := Ideal) k0_pay247 x1 x2 x3 t.val r.val (ix2 i ⟨64 * g.val + d.val, by omega⟩)
      = Softmax.attend (fun j => (σ j : EReal)) v := by
  rw [ov_at, yv_at]
  simp only [hs, hv, h1]
  refine Softmax.quotient_eq σ v _ fun e => ?_
  rw [colmax_le]
  simp only [kscore_at, hs]

end Entries

end Cert.Attn

end
-- ==== Proof.Attn.Value.lean ====
module

public import proofs.«01_k».proof.Defs
public import proofs.«01_k».proof.Proof.Attn.Point
public import proofs.«01_k».proof.Proof.Attn.Run
public import Idealize.ShloMosaic.Lib.Pipeline.ValueKit
public import Idealize.ShloMosaic.Lib.Pointwise

@[expose] public section

set_option maxRecDepth 16384

noncomputable section

/-! # The attention's result -/

namespace Cert.Attn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem indices : ∀ t : Fin cfg0.N, win0_0.index t = ![t.val, 0, 0, 0, 0] ∧ win0_1.index t = ![t.val, 0]
    ∧ win0_2.index t = ![t.val, 0, 0, 0] ∧ win0_3.index t = ![t.val, 0] := by
  decide +kernel

/-- The factor the host multiplies the queries by. -/
def factor : EReal := Ideal.div (Ideal.ofBits .f32 0x3E000000#32) (Ideal.log (Ideal.ofBits .f32 0x40000000#32))

theorem queries_at (c : Dev nD) (q : FVec Ideal S8x4096x8x64 .f32) (hq : m ((c : Thread nD τ).loc main_arg0) = q)
    (t : Fin cfg0.N) (u : Fin 16) (r : Fin 4) (a : Fin 128) (i : Fin 256) :
    (iblk m c 0 t (ix5 0 u r a i) : EReal) = q (ix4 ⟨t.val, t.isLt⟩ ⟨u.val * 256 + i.val, by omega⟩
      ⟨a.val / 64 * 4 + r.val, by omega⟩ ⟨a.val % 64, by omega⟩) * factor := by
  have ht : t.val < 8 := t.isLt
  have e : (win0_0.blk t).view.emb (ix5 0 u r a i) = ix5 ⟨t.val, t.isLt⟩ u r a i := by
    blk_ext [(indices t).1]
  show V m c main_v7 ((win0_0.blk t).view.emb (ix5 0 u r a i)) = _
  rw [e]
  entry_read
  pointwise
  exact congrArg₂ (fun a b : EReal => a * b) (congrFun hq _) rfl

theorem keys_at (c : Dev nD) (t : Fin cfg0.N) (j : Fin 4096) (a : Fin 128) :
    iblk m c 1 t (ix2 j a) = m ((c : Thread nD τ).loc main_arg1)
      (ix4 ⟨t.val, t.isLt⟩ j ⟨a.val / 64, by omega⟩ ⟨a.val % 64, by omega⟩) := by
  have ht : t.val < 8 := t.isLt
  have e : (win0_1.blk t).view.emb (ix2 j a) = ix2 ⟨4096 * t.val + j.val, by omega⟩ a := by
    blk_ext [(indices t).2.1]
  show V m c main_v9 ((win0_1.blk t).view.emb (ix2 j a)) = _
  rw [e]
  entry_read
  pointwise
  have e1 (h) : (⟨(4096 * t.val + j.val) / 4096, h⟩ : Fin 8) = ⟨t.val, ht⟩ := Fin.ext (by dsimp only; omega)
  have e2 (h) : (⟨(4096 * t.val + j.val) % 4096, h⟩ : Fin 4096) = j := Fin.ext (by dsimp only; omega)
  rw [e1, e2]
  rfl

theorem values_at (c : Dev nD) (t : Fin cfg0.N) (g : Fin 2) (d : Fin 64) (j : Fin 4096) :
    iblk m c 2 t (ix4 0 g ⟨d.val, by omega⟩ j) = m ((c : Thread nD τ).loc main_arg2) (ix4 ⟨t.val, t.isLt⟩ j g d) := by
  have e : (win0_2.blk t).view.emb (ix4 0 g ⟨d.val, by omega⟩ j) = ix4 ⟨t.val, t.isLt⟩ g ⟨d.val, by omega⟩ j := by
    blk_ext [(indices t).2.2.1]
  show V m c main_v13 ((win0_2.blk t).view.emb (ix4 0 g ⟨d.val, by omega⟩ j)) = _
  rw [e]
  entry_read
  pointwise

theorem ones_at (c : Dev nD) (t : Fin cfg0.N) (g : Fin 2) (j : Fin 4096) : iblk m c 2 t (ix4 0 g 64 j) = (1 : EReal) := by
  have e : (win0_2.blk t).view.emb (ix4 0 g 64 j) = ix4 ⟨t.val, t.isLt⟩ g 64 j := by
    blk_ext [(indices t).2.2.1]
  show V m c main_v13 ((win0_2.blk t).view.emb (ix4 0 g 64 j)) = _
  rw [e]
  entry_read
  pointwise

theorem eighth_eq : eighth = ((1 / 8 : ℝ) : EReal) := by
  unfold eighth
  simp [Ideal.ofBits, Ideal.ieee, -EReal.coe_mul]
  norm_num

theorem factor_eq : factor = ((1 / 8 * Softmax.rate : ℝ) : EReal) := by
  have h2 : Ideal.ofBits .f32 0x40000000#32 = ((2 : ℝ) : EReal) := by
    simp [Ideal.ofBits, Ideal.ieee, -EReal.coe_mul]
    norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hn : ((Real.log 2 : ℝ) : EReal) ≠ 0 := by
    simpa using (Real.log_pos one_lt_two).ne'
  have h8 : Ideal.ofBits .f32 0x3E000000#32 = ((1 / 8 : ℝ) : EReal) := eighth_eq
  unfold factor Softmax.rate
  rw [h2, hl, h8, Ideal.div, if_neg hn, ← EReal.coe_inv, ← EReal.coe_mul]

instance : Cert.Pre_finite.Facts := ⟨by decide +kernel, by decide +kernel⟩

/-- A number of finite magnitude is a real one. -/
theorem real_of_lt (x : EReal) (h : BitVec.ofBool (decide (FloatOps.absf (F := Ideal) (φ := .f32) x < Ideal.ofBits .f32 0x7F800000#32)) = 1#1) :
    x = ((x.toReal : ℝ) : EReal) := by
  have ht : Ideal.ofBits .f32 0x7F800000#32 = ⊤ := by
    simp [Ideal.ofBits, Ideal.ieee]
  rw [ht] at h
  have hl : max x (-x) < ⊤ := by
    by_contra hn
    have : decide (FloatOps.absf (F := Ideal) (φ := .f32) x < (⊤ : EReal)) = false := decide_eq_false hn
    rw [this] at h
    exact absurd h (by decide)
  refine (EReal.coe_toReal ?_ ?_).symm
  · rintro rfl
    simp at hl
  · rintro rfl
    simp at hl

/-- Where the precondition holds the queries and the keys are real numbers. -/
theorem reals (q : FVec Ideal S8x4096x8x64 .f32) (k v : FVec Ideal S8x4096x2x64 .f32)
    (h : Cert.Pre_finite.fn (F := Ideal) q k v = fun _ => 1#1) :
    (∃ f : S8x4096x8x64.Idx → ℝ, ∀ b s a d, q (ix4 b s a d) = (f (ix4 b s a d) : EReal))
      ∧ ∃ f : S8x4096x2x64.Idx → ℝ, ∀ b s a d, k (ix4 b s a d) = (f (ix4 b s a d) : EReal) := by
  have hq : ∀ (b : Fin 8) (s : Fin 4096) (a : Fin 8) (d : Fin 64), q (ix4 b s a d) = (((q (ix4 b s a d) : EReal).toReal : ℝ) : EReal) := by
    intro b s a d
    have h' := congrFun h (ix4 b s ⟨a.val, by omega⟩ d)
    revert h'
    pointwise [Cert.Pre_finite.fn]
    exact real_of_lt _
  have hk : ∀ (b : Fin 8) (s : Fin 4096) (a : Fin 2) (d : Fin 64), k (ix4 b s a d) = (((k (ix4 b s a d) : EReal).toReal : ℝ) : EReal) := by
    intro b s a d
    have h' := congrFun h (ix4 b s ⟨8 + a.val, by omega⟩ d)
    revert h'
    pointwise [Cert.Pre_finite.fn]
    exact real_of_lt _
  exact ⟨⟨fun i => (q i : EReal).toReal, hq⟩, ⟨fun i => (k i : EReal).toReal, hk⟩⟩

/-- The position of output entry `(s, n)` of a block by tile and query, head, group and column. -/
theorem outv_at (x1 : FVec Ideal S1x16x4x128x256 .bf16) (x2 : FVec Ideal S4096x128 .bf16) (x3 : FVec Ideal S1x2x80x4096 .bf16)
    (s : Fin 4096) (n : Fin 512) : outv (F := Ideal) k0_pay247 x1 x2 x3 (ix2 s n)
      = ov (F := Ideal) k0_pay247 x1 x2 x3 (s.val / 256) (n.val / 128)
        (ix2 ⟨s.val % 256, by omega⟩ ⟨64 * (n.val / 64 % 2) + n.val % 64, by omega⟩) := by
  have e : oloc (ix2 s n) = ix2 ⟨s.val % 256, by omega⟩ ⟨64 * (n.val / 64 % 2) + n.val % 64, by omega⟩ := by
    funext a
    match a with
    | ⟨0, _⟩ => rfl
    | ⟨1, _⟩ => exact Fin.ext (show n.val % 128 = 64 * (n.val / 64 % 2) + n.val % 64 by omega)
  exact congrArg (ov (F := Ideal) k0_pay247 x1 x2 x3 (s.val / 256) (n.val / 128)) e

theorem final (c : Dev nD)
    (h : Cert.Pre_finite.fn (F := Ideal) (m ((c : Thread nD τ).loc main_arg0)) (m ((c : Thread nD τ).loc main_arg1))
      (m ((c : Thread nD τ).loc main_arg2)) = fun _ => 1#1) : (dats m 0 c).arrAt 3 cfg0.N
    = attention (m ((c : Thread nD τ).loc main_arg0)) (m ((c : Thread nD τ).loc main_arg1)) (m ((c : Thread nD τ).loc main_arg2)) := by
  obtain ⟨⟨qr, hq⟩, ⟨kr, hk⟩⟩ := reals _ _ _ h
  refine (dats m 0 c).arrAt_eq_of_covers 3 _ (by decide +kernel) fun t hf y => ?_
  have ht : t.val < 8 := t.isLt
  blk_simp
  rw [dats_after3]
  obtain ⟨s, n, rfl⟩ : ∃ (s : Fin 4096) (n : Fin 512), y = ix2 s n := ⟨y 0, y 1, eq_ix2 y⟩
  have e : (win0_3.blk t).view.emb (ix2 s n) = ix2 ⟨4096 * t.val + s.val, by omega⟩ n := by
    blk_ext [(indices t).2.2.2]
  refine Eq.trans ?_ (congrArg _ e.symm)
  refine (outv_at _ _ _ s n).trans ?_
  have e1 (h) : (⟨(4096 * t.val + s.val) / 4096, h⟩ : Fin 8) = ⟨t.val, ht⟩ := Fin.ext (by dsimp only; omega)
  have e2 (h) : (⟨(4096 * t.val + s.val) % 4096, h⟩ : Fin 4096) = s := Fin.ext (by dsimp only; omega)
  refine Eq.trans (b := entry (m ((c : Thread nD τ).loc main_arg0)) (m ((c : Thread nD τ).loc main_arg1)) (m ((c : Thread nD τ).loc main_arg2))
    ⟨t.val, ht⟩ ⟨n.val / 64 % 2, by omega⟩ ⟨n.val / 128, by omega⟩ s ⟨n.val % 64, by omega⟩) ?_
    (congrArg₂ (fun b s' => entry (m ((c : Thread nD τ).loc main_arg0)) (m ((c : Thread nD τ).loc main_arg1))
      (m ((c : Thread nD τ).loc main_arg2)) b ⟨n.val / 64 % 2, by omega⟩ ⟨n.val / 128, by omega⟩ s' ⟨n.val % 64, by omega⟩)
      (e1 (by omega)).symm (e2 (by omega)).symm)
  have hs : s.val / 256 * 256 + s.val % 256 = s.val := by omega
  have hS : ∀ j, score (m ((c : Thread nD τ).loc main_arg0)) (m ((c : Thread nD τ).loc main_arg1)) ⟨t.val, ht⟩ ⟨n.val / 64 % 2, by omega⟩
      ⟨n.val / 128, by omega⟩ s j = ((∑ a : Fin 64, kr (ix4 ⟨t.val, ht⟩ j ⟨n.val / 64 % 2, by omega⟩ a)
        * (qr (ix4 ⟨t.val, ht⟩ s ⟨n.val / 64 % 2 * 4 + n.val / 128, by omega⟩ a) * (1 / 8)) : ℝ) : EReal) := by
    intro j
    unfold score
    rw [Softmax.coe_sum]
    refine Finset.sum_congr rfl fun a _ => ?_
    rw [hk, hq, eighth_eq, ← EReal.coe_mul, ← EReal.coe_mul]
  unfold entry
  simp only [hS]
  refine ov_eq _ _ _ ⟨s.val / 256, by omega⟩ ⟨n.val / 64 % 2, by omega⟩ ⟨n.val / 128, by omega⟩ ⟨s.val % 256, by omega⟩ ⟨n.val % 64, by omega⟩
    _ _ (fun j => ?_) (fun j => values_at m c t _ _ j) (fun j => ones_at m c t _ j)
  unfold kscore
  rw [Finset.sum_mul, Softmax.coe_sum]
  refine Finset.sum_congr rfl fun a _ => ?_
  rw [queries_at m c _ rfl, keys_at, factor_eq]
  have a1 (h) : (⟨(64 * (n.val / 64 % 2) + a.val) / 64, h⟩ : Fin 2) = ⟨n.val / 64 % 2, by omega⟩ := Fin.ext (by dsimp only; omega)
  have a2 (h) : (⟨(64 * (n.val / 64 % 2) + a.val) % 64, h⟩ : Fin 64) = a := Fin.ext (by dsimp only; omega)
  have a3 (h) : (⟨(64 * (n.val / 64 % 2) + a.val) / 64 * 4 + n.val / 128, h⟩ : Fin 8) = ⟨n.val / 64 % 2 * 4 + n.val / 128, by omega⟩ :=
    Fin.ext (by dsimp only; omega)
  have a4 (h) : (⟨s.val / 256 * 256 + s.val % 256, h⟩ : Fin 4096) = s := Fin.ext hs
  dsimp only
  rw [a1, a2, a3, a4, hq, hk, ← EReal.coe_mul, ← EReal.coe_mul]
  refine congrArg _ ?_
  ring

/-- The kernel's run, and its result. -/
theorem kernel_run (hp : Cert.Pre_KernelIdeal_finite m) : θ_run defs (onTc (τ := τ) (main (F := Ideal))) ⟨m, fun _ => 0, ρ⟩
      fun r => ∀ c : Dev nD, r.2.mem ((c.tc : Thread nD τ).loc main_v14)
            = attention (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨((h.2.1 c).1 3).trans (final m c (hp c)), h.1.1 c⟩) (θ_run_and (kept m ρ) (run m ρ))

theorem algebraic : Cert.algebraic_KernelIdeal_ReferenceIdeal_pre_finite := by
  intro m ρ m' ρ' hp hagree
  refine ⟨fun c => attention (m ((c : Thread nD τ).loc main_arg0)) (m ((c : Thread nD τ).loc main_arg1))
        (m ((c : Thread nD τ).loc main_arg2)), kernel_run m ρ hp, ?_⟩
  refine (θ_run Cert.ReferenceIdeal.defs _ _).mono (fun _ h c => ⟨(h c).1.trans ?_, (h c).2⟩) (reference_run m' ρ')
  rw [(hagree c).1, (hagree c).2.1, (hagree c).2.2]

end Cert.Attn

end
-- ==== Proof.lean ====
module

public import proofs.«01_k».proof.Defs
public import proofs.«01_k».proof.Proof.Frames
public import proofs.«01_k».proof.Proof.Ffn.Value
public import proofs.«01_k».proof.Proof.Post.Value
public import proofs.«01_k».proof.Proof.Inproj.Value
public import proofs.«01_k».proof.Proof.Attn.Value

@[expose] public section

noncomputable section

namespace Cert.Proof

open Cert.Frames

theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.Post.Gen.facts, Cert.PostIdeal.Gen.facts,
    Cert.PostReferenceIdeal.Gen.facts, Cert.Inproj.Gen.facts, Cert.InprojIdeal.Gen.facts,
    Cert.InprojReferenceIdeal.Gen.facts, inferInstance,
    frame_kernel, frame_kernelIdeal, fun m ρ _ => frame_kernelIdeal m ρ trivial, frame_referenceIdeal,
    fun m ρ _ => frame_referenceIdeal m ρ trivial, frame_ffn, frame_ffnIdeal, frame_ffnReferenceIdeal, frame_post, frame_postIdeal, frame_postReferenceIdeal,
    frame_inproj, frame_inprojIdeal, frame_inprojReferenceIdeal,
    preserves_kernel, Cert.Attn.algebraic, preserves_ffn, Cert.FfnIdeal.Result.algebraic,
    preserves_post, Cert.PostIdeal.Result.algebraic,
    preserves_inproj, Cert.InprojIdeal.Result.algebraic⟩

end Cert.Proof

end
